-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨5, ![1, 1, 1, 512, 512]⟩ ⟨5, ![2, 4, 4, 512, 512]⟩ (Layout.meshBlock [2, 4, 4] ![[0], [1], [2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x1x512x512 : Shape := ⟨5, ![1, 1, 1, 512, 512]⟩
abbrev S512x512 : Shape := ⟨2, ![512, 512]⟩
abbrev S2x7x64x512 : Shape := ⟨4, ![2, 7, 64, 512]⟩
abbrev S2x4x3x4 : Shape := ⟨4, ![2, 4, 3, 4]⟩
abbrev S_ : Shape := ⟨0, ![]⟩
abbrev S1x1x1x1 : Shape := ⟨4, ![1, 1, 1, 1]⟩
abbrev S1x1x16x512 : Shape := ⟨4, ![1, 1, 16, 512]⟩
abbrev S16x512 : Shape := ⟨2, ![16, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x1x1x512x512, .bf16⟩
  | .hbm, ⟨1, _⟩ => ⟨S512x512, .f32⟩
  | .local _ .vmem, ⟨0, _⟩ => ⟨S1x1x1x512x512, .bf16⟩
  | .local _ .vmem, ⟨1, _⟩ => ⟨S512x512, .f32⟩
  | .local _ .vmem, ⟨2, _⟩ => ⟨S512x512, .bf16⟩
  | .local _ .vmem, ⟨3, _⟩ => ⟨S2x7x64x512, .bf16⟩
  | _, _ => ⟨S1x1x1x512x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 194 → Bool
  | ⟨i, _⟩ => dmaSemScopedAt i

abbrev sig : RefSig :=
  (ofTc nBuf bufTy 1 194 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_44 : BitVec 32 := 16#32
  let v77 : BitVec 32 := Scalar.muli v2 c16_i32_44
  let v78 : BitVec 32 := Scalar.addi c0_i32_45 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_46 : BitVec 32 := 4#32
  let v79 : BitVec 32 := Scalar.muli v5 c4_i32_46
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v11 : BitVec 32 := Scalar.addi v8 c1_i32_3
  let c4_i32_4 : BitVec 32 := 4#32
  let c0_i32 : BitVec 32 := 0#32
  let v12 : BitVec 1 := Scalar.cmpi .eq c4_i32_4 c0_i32
  let c1_i32_5 : BitVec 32 := 1#32
  let v13 : BitVec 32 := Scalar.select v12 c1_i32_5 c4_i32_4
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_47 : BitVec 32 := 1#32
  let v81 : BitVec 32 := Scalar.muli v21 c1_i32_47
  let v82 : BitVec 32 := Scalar.addi v80 v81
  v82.toNat
def k0_dev2 (d0 : Dev nD) : Nat :=
  let c0_i32_50 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_49 : BitVec 32 := 16#32
  let v83 : BitVec 32 := Scalar.muli v2 c16_i32_49
  let v84 : BitVec 32 := Scalar.addi c0_i32_50 v83
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v85 : BitVec 32 := Scalar.muli v5 c4_i32_51
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_9 : BitVec 32 := 2#32
  let v22 : BitVec 32 := Scalar.addi v8 c2_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_52 : BitVec 32 := 1#32
  let v87 : BitVec 32 := Scalar.muli v32 c1_i32_52
  let v88 : BitVec 32 := Scalar.addi v86 v87
  v88.toNat
def k0_dev3 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v89 : BitVec 32 := Scalar.muli v2 c16_i32_54
  let v90 : BitVec 32 := Scalar.addi c0_i32_55 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v91 : BitVec 32 := Scalar.muli v5 c4_i32_56
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v33 : BitVec 32 := Scalar.addi v8 c3_i32
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi v33 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c1_i32_57 : BitVec 32 := 1#32
  let v93 : BitVec 32 := Scalar.muli v43 c1_i32_57
  let v94 : BitVec 32 := Scalar.addi v92 v93
  v94.toNat
def k0_dev4 (d0 : Dev nD) : Nat :=
  let c0_i32_60 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_59 : BitVec 32 := 16#32
  let v95 : BitVec 32 := Scalar.muli v2 c16_i32_59
  let v96 : BitVec 32 := Scalar.addi c0_i32_60 v95
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v44 : BitVec 32 := Scalar.addi v5 c1_i32_22
  let c4_i32_23 : BitVec 32 := 4#32
  let c0_i32_24 : BitVec 32 := 0#32
  let v45 : BitVec 1 := Scalar.cmpi .eq c4_i32_23 c0_i32_24
  let c1_i32_25 : BitVec 32 := 1#32
  let v46 : BitVec 32 := Scalar.select v45 c1_i32_25 c4_i32_23
  let v47 : BitVec 32 := Scalar.remsi v44 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c4_i32_61 : BitVec 32 := 4#32
  let v97 : BitVec 32 := Scalar.muli v54 c4_i32_61
  let v98 : BitVec 32 := Scalar.addi v96 v97
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v99 : BitVec 32 := Scalar.muli v8 c1_i32_62
  let v100 : BitVec 32 := Scalar.addi v98 v99
  v100.toNat
def k0_dev5 (d0 : Dev nD) : Nat :=
  let c0_i32_65 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_64 : BitVec 32 := 16#32
  let v101 : BitVec 32 := Scalar.muli v2 c16_i32_64
  let v102 : BitVec 32 := Scalar.addi c0_i32_65 v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_29 : BitVec 32 := 2#32
  let v55 : BitVec 32 := Scalar.addi v5 c2_i32_29
  let c4_i32_30 : BitVec 32 := 4#32
  let c0_i32_31 : BitVec 32 := 0#32
  let v56 : BitVec 1 := Scalar.cmpi .eq c4_i32_30 c0_i32_31
  let c1_i32_32 : BitVec 32 := 1#32
  let v57 : BitVec 32 := Scalar.select v56 c1_i32_32 c4_i32_30
  let v58 : BitVec 32 := Scalar.remsi v55 v57
  let c0_i32_34 : BitVec 32 := 0#32
  let v60 : BitVec 1 := Scalar.cmpi .slt v58 c0_i32_34
  let c0_i32_35 : BitVec 32 := 0#32
  let v61 : BitVec 1 := Scalar.cmpi .slt v57 c0_i32_35
  let v62 : BitVec 1 := Scalar.xori v60 v61
  let c0_i32_33 : BitVec 32 := 0#32
  let v59 : BitVec 1 := Scalar.cmpi .ne v58 c0_i32_33
  let v63 : BitVec 1 := Scalar.andi v62 v59
  let v64 : BitVec 32 := Scalar.addi v58 v57
  let v65 : BitVec 32 := Scalar.select v63 v64 v58
  let c4_i32_66 : BitVec 32 := 4#32
  let v103 : BitVec 32 := Scalar.muli v65 c4_i32_66
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_67 : BitVec 32 := 1#32
  let v105 : BitVec 32 := Scalar.muli v8 c1_i32_67
  let v106 : BitVec 32 := Scalar.addi v104 v105
  v106.toNat
def k0_dev6 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v107 : BitVec 32 := Scalar.muli v2 c16_i32_69
  let v108 : BitVec 32 := Scalar.addi c0_i32_70 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_36 : BitVec 32 := 3#32
  let v66 : BitVec 32 := Scalar.addi v5 c3_i32_36
  let c4_i32_37 : BitVec 32 := 4#32
  let c0_i32_38 : BitVec 32 := 0#32
  let v67 : BitVec 1 := Scalar.cmpi .eq c4_i32_37 c0_i32_38
  let c1_i32_39 : BitVec 32 := 1#32
  let v68 : BitVec 32 := Scalar.select v67 c1_i32_39 c4_i32_37
  let v69 : BitVec 32 := Scalar.remsi v66 v68
  let c0_i32_41 : BitVec 32 := 0#32
  let v71 : BitVec 1 := Scalar.cmpi .slt v69 c0_i32_41
  let c0_i32_42 : BitVec 32 := 0#32
  let v72 : BitVec 1 := Scalar.cmpi .slt v68 c0_i32_42
  let v73 : BitVec 1 := Scalar.xori v71 v72
  let c0_i32_40 : BitVec 32 := 0#32
  let v70 : BitVec 1 := Scalar.cmpi .ne v69 c0_i32_40
  let v74 : BitVec 1 := Scalar.andi v73 v70
  let v75 : BitVec 32 := Scalar.addi v69 v68
  let v76 : BitVec 32 := Scalar.select v74 v75 v69
  let c4_i32_71 : BitVec 32 := 4#32
  let v109 : BitVec 32 := Scalar.muli v76 c4_i32_71
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v111 : BitVec 32 := Scalar.muli v8 c1_i32_72
  let v112 : BitVec 32 := Scalar.addi v110 v111
  v112.toNat
def k0_dev7 (d0 : Dev nD) : Nat :=
  let c0_i32_75 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_74 : BitVec 32 := 16#32
  let v113 : BitVec 32 := Scalar.muli v9 c16_i32_74
  let v114 : BitVec 32 := Scalar.addi c0_i32_75 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v115 : BitVec 32 := Scalar.muli v5 c4_i32_76
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v117 : BitVec 32 := Scalar.muli v8 c1_i32_77
  let v118 : BitVec 32 := Scalar.addi v116 v117
  v118.toNat
def k0_off1 (d0 : Dev nD) (c0_i32_91 : BitVec 32) (c1_i32 : BitVec 32) (c1_i32_84 : BitVec 32) (c0_i32_92 : BitVec 32) : Fin 2 → Nat :=
  let v6 : BitVec 32 := Dev.word d0
  let v7 : BitVec 32 := Scalar.divsi v6 c1_i32
  let c4_i32_1 : BitVec 32 := 4#32
  let v8 : BitVec 32 := Scalar.remsi v7 c4_i32_1
  let v125 : BitVec 32 := Scalar.addi v8 c1_i32_84
  let c4_i32_85 : BitVec 32 := 4#32
  let c0_i32_86 : BitVec 32 := 0#32
  let v126 : BitVec 1 := Scalar.cmpi .eq c4_i32_85 c0_i32_86
  let c1_i32_87 : BitVec 32 := 1#32
  let v127 : BitVec 32 := Scalar.select v126 c1_i32_87 c4_i32_85
  let v128 : BitVec 32 := Scalar.remsi v125 v127
  let c0_i32_89 : BitVec 32 := 0#32
  let v130 : BitVec 1 := Scalar.cmpi .slt v128 c0_i32_89
  let c0_i32_90 : BitVec 32 := 0#32
  let v131 : BitVec 1 := Scalar.cmpi .slt v127 c0_i32_90
  let v132 : BitVec 1 := Scalar.xori v130 v131
  let c0_i32_88 : BitVec 32 := 0#32
  let v129 : BitVec 1 := Scalar.cmpi .ne v128 c0_i32_88
  let v133 : BitVec 1 := Scalar.andi v132 v129
  let v134 : BitVec 32 := Scalar.addi v128 v127
  let v135 : BitVec 32 := Scalar.select v133 v134 v128
  let c64_i32 : BitVec 32 := 64#32
  let v136 : BitVec 32 := Scalar.muli v135 c64_i32
  let v137 : BitVec 32 := Scalar.addi c0_i32_91 v136
  let v138 : BitVec 32 := Scalar.addi v137 c0_i32_92
  let c0_i32_109 : BitVec 32 := 0#32
  ![v138.toNat, 0]
def k0_off1_at (r : Fin 24) : BitVec 32 × BitVec 32 × BitVec 32 × BitVec 32 :=
  if r.val < 12 then
    if r.val < 6 then
      if r.val < 3 then
        if r.val < 1 then
          (0#32, 1#32, 1#32, 0#32)
        else
          if r.val < 2 then
            (0#32, 1#32, 2#32, 0#32)
          else
            (0#32, 1#32, 3#32, 0#32)
      else
        if r.val < 4 then
          (0#32, 1#32, 1#32, 16#32)
        else
          if r.val < 5 then
            (0#32, 1#32, 2#32, 16#32)
          else
            (0#32, 1#32, 3#32, 16#32)
    else
      if r.val < 9 then
        if r.val < 7 then
          (0#32, 1#32, 1#32, 32#32)
        else
          if r.val < 8 then
            (0#32, 1#32, 2#32, 32#32)
          else
            (0#32, 1#32, 3#32, 32#32)
      else
        if r.val < 10 then
          (0#32, 1#32, 1#32, 48#32)
        else
          if r.val < 11 then
            (0#32, 1#32, 2#32, 48#32)
          else
            (0#32, 1#32, 3#32, 48#32)
  else
    if r.val < 18 then
      if r.val < 15 then
        if r.val < 13 then
          (256#32, 4#32, 1#32, 0#32)
        else
          if r.val < 14 then
            (256#32, 4#32, 2#32, 0#32)
          else
            (256#32, 4#32, 3#32, 0#32)
      else
        if r.val < 16 then
          (256#32, 4#32, 1#32, 16#32)
        else
          if r.val < 17 then
            (256#32, 4#32, 2#32, 16#32)
          else
            (256#32, 4#32, 3#32, 16#32)
    else
      if r.val < 21 then
        if r.val < 19 then
          (256#32, 4#32, 1#32, 32#32)
        else
          if r.val < 20 then
            (256#32, 4#32, 2#32, 32#32)
          else
            (256#32, 4#32, 3#32, 32#32)
      else
        if r.val < 22 then
          (256#32, 4#32, 1#32, 48#32)
        else
          if r.val < 23 then
            (256#32, 4#32, 2#32, 48#32)
          else
            (256#32, 4#32, 3#32, 48#32)
def k0_dev8 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v139 : BitVec 32 := Scalar.muli v2 c16_i32_103
  let v140 : BitVec 32 := Scalar.addi c0_i32_104 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_105 : BitVec 32 := 4#32
  let v141 : BitVec 32 := Scalar.muli v5 c4_i32_105
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v125 : BitVec 32 := Scalar.addi v8 c1_i32_84
  let c4_i32_85 : BitVec 32 := 4#32
  let c0_i32_86 : BitVec 32 := 0#32
  let v126 : BitVec 1 := Scalar.cmpi .eq c4_i32_85 c0_i32_86
  let c1_i32_87 : BitVec 32 := 1#32
  let v127 : BitVec 32 := Scalar.select v126 c1_i32_87 c4_i32_85
  let v128 : BitVec 32 := Scalar.remsi v125 v127
  let c0_i32_89 : BitVec 32 := 0#32
  let v130 : BitVec 1 := Scalar.cmpi .slt v128 c0_i32_89
  let c0_i32_90 : BitVec 32 := 0#32
  let v131 : BitVec 1 := Scalar.cmpi .slt v127 c0_i32_90
  let v132 : BitVec 1 := Scalar.xori v130 v131
  let c0_i32_88 : BitVec 32 := 0#32
  let v129 : BitVec 1 := Scalar.cmpi .ne v128 c0_i32_88
  let v133 : BitVec 1 := Scalar.andi v132 v129
  let v134 : BitVec 32 := Scalar.addi v128 v127
  let v135 : BitVec 32 := Scalar.select v133 v134 v128
  let c1_i32_106 : BitVec 32 := 1#32
  let v143 : BitVec 32 := Scalar.muli v135 c1_i32_106
  let v144 : BitVec 32 := Scalar.addi v142 v143
  v144.toNat
def k0_dev9 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v166 : BitVec 32 := Scalar.muli v2 c16_i32_130
  let v167 : BitVec 32 := Scalar.addi c0_i32_131 v166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_132 : BitVec 32 := 4#32
  let v168 : BitVec 32 := Scalar.muli v5 c4_i32_132
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_110 : BitVec 32 := 2#32
  let v152 : BitVec 32 := Scalar.addi v8 c2_i32_110
  let c4_i32_111 : BitVec 32 := 4#32
  let c0_i32_112 : BitVec 32 := 0#32
  let v153 : BitVec 1 := Scalar.cmpi .eq c4_i32_111 c0_i32_112
  let c1_i32_113 : BitVec 32 := 1#32
  let v154 : BitVec 32 := Scalar.select v153 c1_i32_113 c4_i32_111
  let v155 : BitVec 32 := Scalar.remsi v152 v154
  let c0_i32_115 : BitVec 32 := 0#32
  let v157 : BitVec 1 := Scalar.cmpi .slt v155 c0_i32_115
  let c0_i32_116 : BitVec 32 := 0#32
  let v158 : BitVec 1 := Scalar.cmpi .slt v154 c0_i32_116
  let v159 : BitVec 1 := Scalar.xori v157 v158
  let c0_i32_114 : BitVec 32 := 0#32
  let v156 : BitVec 1 := Scalar.cmpi .ne v155 c0_i32_114
  let v160 : BitVec 1 := Scalar.andi v159 v156
  let v161 : BitVec 32 := Scalar.addi v155 v154
  let v162 : BitVec 32 := Scalar.select v160 v161 v155
  let c1_i32_133 : BitVec 32 := 1#32
  let v170 : BitVec 32 := Scalar.muli v162 c1_i32_133
  let v171 : BitVec 32 := Scalar.addi v169 v170
  v171.toNat
def k0_dev10 (d0 : Dev nD) : Nat :=
  let c0_i32_158 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_157 : BitVec 32 := 16#32
  let v193 : BitVec 32 := Scalar.muli v2 c16_i32_157
  let v194 : BitVec 32 := Scalar.addi c0_i32_158 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_159 : BitVec 32 := 4#32
  let v195 : BitVec 32 := Scalar.muli v5 c4_i32_159
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_137 : BitVec 32 := 3#32
  let v179 : BitVec 32 := Scalar.addi v8 c3_i32_137
  let c4_i32_138 : BitVec 32 := 4#32
  let c0_i32_139 : BitVec 32 := 0#32
  let v180 : BitVec 1 := Scalar.cmpi .eq c4_i32_138 c0_i32_139
  let c1_i32_140 : BitVec 32 := 1#32
  let v181 : BitVec 32 := Scalar.select v180 c1_i32_140 c4_i32_138
  let v182 : BitVec 32 := Scalar.remsi v179 v181
  let c0_i32_142 : BitVec 32 := 0#32
  let v184 : BitVec 1 := Scalar.cmpi .slt v182 c0_i32_142
  let c0_i32_143 : BitVec 32 := 0#32
  let v185 : BitVec 1 := Scalar.cmpi .slt v181 c0_i32_143
  let v186 : BitVec 1 := Scalar.xori v184 v185
  let c0_i32_141 : BitVec 32 := 0#32
  let v183 : BitVec 1 := Scalar.cmpi .ne v182 c0_i32_141
  let v187 : BitVec 1 := Scalar.andi v186 v183
  let v188 : BitVec 32 := Scalar.addi v182 v181
  let v189 : BitVec 32 := Scalar.select v187 v188 v182
  let c1_i32_160 : BitVec 32 := 1#32
  let v197 : BitVec 32 := Scalar.muli v189 c1_i32_160
  let v198 : BitVec 32 := Scalar.addi v196 v197
  v198.toNat
def k0_dev11 (d0 : Dev nD) : Nat :=
  let c0_i32_185 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_184 : BitVec 32 := 16#32
  let v220 : BitVec 32 := Scalar.muli v2 c16_i32_184
  let v221 : BitVec 32 := Scalar.addi c0_i32_185 v220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_186 : BitVec 32 := 4#32
  let v222 : BitVec 32 := Scalar.muli v5 c4_i32_186
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v206 : BitVec 32 := Scalar.addi v8 c1_i32_164
  let c4_i32_165 : BitVec 32 := 4#32
  let c0_i32_166 : BitVec 32 := 0#32
  let v207 : BitVec 1 := Scalar.cmpi .eq c4_i32_165 c0_i32_166
  let c1_i32_167 : BitVec 32 := 1#32
  let v208 : BitVec 32 := Scalar.select v207 c1_i32_167 c4_i32_165
  let v209 : BitVec 32 := Scalar.remsi v206 v208
  let c0_i32_169 : BitVec 32 := 0#32
  let v211 : BitVec 1 := Scalar.cmpi .slt v209 c0_i32_169
  let c0_i32_170 : BitVec 32 := 0#32
  let v212 : BitVec 1 := Scalar.cmpi .slt v208 c0_i32_170
  let v213 : BitVec 1 := Scalar.xori v211 v212
  let c0_i32_168 : BitVec 32 := 0#32
  let v210 : BitVec 1 := Scalar.cmpi .ne v209 c0_i32_168
  let v214 : BitVec 1 := Scalar.andi v213 v210
  let v215 : BitVec 32 := Scalar.addi v209 v208
  let v216 : BitVec 32 := Scalar.select v214 v215 v209
  let c1_i32_187 : BitVec 32 := 1#32
  let v224 : BitVec 32 := Scalar.muli v216 c1_i32_187
  let v225 : BitVec 32 := Scalar.addi v223 v224
  v225.toNat
def k0_dev12 (d0 : Dev nD) : Nat :=
  let c0_i32_212 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_211 : BitVec 32 := 16#32
  let v247 : BitVec 32 := Scalar.muli v2 c16_i32_211
  let v248 : BitVec 32 := Scalar.addi c0_i32_212 v247
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_213 : BitVec 32 := 4#32
  let v249 : BitVec 32 := Scalar.muli v5 c4_i32_213
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_191 : BitVec 32 := 2#32
  let v233 : BitVec 32 := Scalar.addi v8 c2_i32_191
  let c4_i32_192 : BitVec 32 := 4#32
  let c0_i32_193 : BitVec 32 := 0#32
  let v234 : BitVec 1 := Scalar.cmpi .eq c4_i32_192 c0_i32_193
  let c1_i32_194 : BitVec 32 := 1#32
  let v235 : BitVec 32 := Scalar.select v234 c1_i32_194 c4_i32_192
  let v236 : BitVec 32 := Scalar.remsi v233 v235
  let c0_i32_196 : BitVec 32 := 0#32
  let v238 : BitVec 1 := Scalar.cmpi .slt v236 c0_i32_196
  let c0_i32_197 : BitVec 32 := 0#32
  let v239 : BitVec 1 := Scalar.cmpi .slt v235 c0_i32_197
  let v240 : BitVec 1 := Scalar.xori v238 v239
  let c0_i32_195 : BitVec 32 := 0#32
  let v237 : BitVec 1 := Scalar.cmpi .ne v236 c0_i32_195
  let v241 : BitVec 1 := Scalar.andi v240 v237
  let v242 : BitVec 32 := Scalar.addi v236 v235
  let v243 : BitVec 32 := Scalar.select v241 v242 v236
  let c1_i32_214 : BitVec 32 := 1#32
  let v251 : BitVec 32 := Scalar.muli v243 c1_i32_214
  let v252 : BitVec 32 := Scalar.addi v250 v251
  v252.toNat
def k0_dev13 (d0 : Dev nD) : Nat :=
  let c0_i32_239 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_238 : BitVec 32 := 16#32
  let v274 : BitVec 32 := Scalar.muli v2 c16_i32_238
  let v275 : BitVec 32 := Scalar.addi c0_i32_239 v274
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_240 : BitVec 32 := 4#32
  let v276 : BitVec 32 := Scalar.muli v5 c4_i32_240
  let v277 : BitVec 32 := Scalar.addi v275 v276
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_218 : BitVec 32 := 3#32
  let v260 : BitVec 32 := Scalar.addi v8 c3_i32_218
  let c4_i32_219 : BitVec 32 := 4#32
  let c0_i32_220 : BitVec 32 := 0#32
  let v261 : BitVec 1 := Scalar.cmpi .eq c4_i32_219 c0_i32_220
  let c1_i32_221 : BitVec 32 := 1#32
  let v262 : BitVec 32 := Scalar.select v261 c1_i32_221 c4_i32_219
  let v263 : BitVec 32 := Scalar.remsi v260 v262
  let c0_i32_223 : BitVec 32 := 0#32
  let v265 : BitVec 1 := Scalar.cmpi .slt v263 c0_i32_223
  let c0_i32_224 : BitVec 32 := 0#32
  let v266 : BitVec 1 := Scalar.cmpi .slt v262 c0_i32_224
  let v267 : BitVec 1 := Scalar.xori v265 v266
  let c0_i32_222 : BitVec 32 := 0#32
  let v264 : BitVec 1 := Scalar.cmpi .ne v263 c0_i32_222
  let v268 : BitVec 1 := Scalar.andi v267 v264
  let v269 : BitVec 32 := Scalar.addi v263 v262
  let v270 : BitVec 32 := Scalar.select v268 v269 v263
  let c1_i32_241 : BitVec 32 := 1#32
  let v278 : BitVec 32 := Scalar.muli v270 c1_i32_241
  let v279 : BitVec 32 := Scalar.addi v277 v278
  v279.toNat
def k0_dev14 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v301 : BitVec 32 := Scalar.muli v2 c16_i32_264
  let v302 : BitVec 32 := Scalar.addi c0_i32_265 v301
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_266 : BitVec 32 := 4#32
  let v303 : BitVec 32 := Scalar.muli v5 c4_i32_266
  let v304 : BitVec 32 := Scalar.addi v302 v303
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_245 : BitVec 32 := 1#32
  let v287 : BitVec 32 := Scalar.addi v8 c1_i32_245
  let c4_i32_246 : BitVec 32 := 4#32
  let c0_i32_247 : BitVec 32 := 0#32
  let v288 : BitVec 1 := Scalar.cmpi .eq c4_i32_246 c0_i32_247
  let c1_i32_248 : BitVec 32 := 1#32
  let v289 : BitVec 32 := Scalar.select v288 c1_i32_248 c4_i32_246
  let v290 : BitVec 32 := Scalar.remsi v287 v289
  let c0_i32_250 : BitVec 32 := 0#32
  let v292 : BitVec 1 := Scalar.cmpi .slt v290 c0_i32_250
  let c0_i32_251 : BitVec 32 := 0#32
  let v293 : BitVec 1 := Scalar.cmpi .slt v289 c0_i32_251
  let v294 : BitVec 1 := Scalar.xori v292 v293
  let c0_i32_249 : BitVec 32 := 0#32
  let v291 : BitVec 1 := Scalar.cmpi .ne v290 c0_i32_249
  let v295 : BitVec 1 := Scalar.andi v294 v291
  let v296 : BitVec 32 := Scalar.addi v290 v289
  let v297 : BitVec 32 := Scalar.select v295 v296 v290
  let c1_i32_267 : BitVec 32 := 1#32
  let v305 : BitVec 32 := Scalar.muli v297 c1_i32_267
  let v306 : BitVec 32 := Scalar.addi v304 v305
  v306.toNat
def k0_dev15 (d0 : Dev nD) : Nat :=
  let c0_i32_292 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_291 : BitVec 32 := 16#32
  let v328 : BitVec 32 := Scalar.muli v2 c16_i32_291
  let v329 : BitVec 32 := Scalar.addi c0_i32_292 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_293 : BitVec 32 := 4#32
  let v330 : BitVec 32 := Scalar.muli v5 c4_i32_293
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_271 : BitVec 32 := 2#32
  let v314 : BitVec 32 := Scalar.addi v8 c2_i32_271
  let c4_i32_272 : BitVec 32 := 4#32
  let c0_i32_273 : BitVec 32 := 0#32
  let v315 : BitVec 1 := Scalar.cmpi .eq c4_i32_272 c0_i32_273
  let c1_i32_274 : BitVec 32 := 1#32
  let v316 : BitVec 32 := Scalar.select v315 c1_i32_274 c4_i32_272
  let v317 : BitVec 32 := Scalar.remsi v314 v316
  let c0_i32_276 : BitVec 32 := 0#32
  let v319 : BitVec 1 := Scalar.cmpi .slt v317 c0_i32_276
  let c0_i32_277 : BitVec 32 := 0#32
  let v320 : BitVec 1 := Scalar.cmpi .slt v316 c0_i32_277
  let v321 : BitVec 1 := Scalar.xori v319 v320
  let c0_i32_275 : BitVec 32 := 0#32
  let v318 : BitVec 1 := Scalar.cmpi .ne v317 c0_i32_275
  let v322 : BitVec 1 := Scalar.andi v321 v318
  let v323 : BitVec 32 := Scalar.addi v317 v316
  let v324 : BitVec 32 := Scalar.select v322 v323 v317
  let c1_i32_294 : BitVec 32 := 1#32
  let v332 : BitVec 32 := Scalar.muli v324 c1_i32_294
  let v333 : BitVec 32 := Scalar.addi v331 v332
  v333.toNat
def k0_dev16 (d0 : Dev nD) : Nat :=
  let c0_i32_319 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_318 : BitVec 32 := 16#32
  let v355 : BitVec 32 := Scalar.muli v2 c16_i32_318
  let v356 : BitVec 32 := Scalar.addi c0_i32_319 v355
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_320 : BitVec 32 := 4#32
  let v357 : BitVec 32 := Scalar.muli v5 c4_i32_320
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_298 : BitVec 32 := 3#32
  let v341 : BitVec 32 := Scalar.addi v8 c3_i32_298
  let c4_i32_299 : BitVec 32 := 4#32
  let c0_i32_300 : BitVec 32 := 0#32
  let v342 : BitVec 1 := Scalar.cmpi .eq c4_i32_299 c0_i32_300
  let c1_i32_301 : BitVec 32 := 1#32
  let v343 : BitVec 32 := Scalar.select v342 c1_i32_301 c4_i32_299
  let v344 : BitVec 32 := Scalar.remsi v341 v343
  let c0_i32_303 : BitVec 32 := 0#32
  let v346 : BitVec 1 := Scalar.cmpi .slt v344 c0_i32_303
  let c0_i32_304 : BitVec 32 := 0#32
  let v347 : BitVec 1 := Scalar.cmpi .slt v343 c0_i32_304
  let v348 : BitVec 1 := Scalar.xori v346 v347
  let c0_i32_302 : BitVec 32 := 0#32
  let v345 : BitVec 1 := Scalar.cmpi .ne v344 c0_i32_302
  let v349 : BitVec 1 := Scalar.andi v348 v345
  let v350 : BitVec 32 := Scalar.addi v344 v343
  let v351 : BitVec 32 := Scalar.select v349 v350 v344
  let c1_i32_321 : BitVec 32 := 1#32
  let v359 : BitVec 32 := Scalar.muli v351 c1_i32_321
  let v360 : BitVec 32 := Scalar.addi v358 v359
  v360.toNat
def k0_dev17 (d0 : Dev nD) : Nat :=
  let c0_i32_345 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_344 : BitVec 32 := 16#32
  let v382 : BitVec 32 := Scalar.muli v2 c16_i32_344
  let v383 : BitVec 32 := Scalar.addi c0_i32_345 v382
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v384 : BitVec 32 := Scalar.muli v5 c4_i32_346
  let v385 : BitVec 32 := Scalar.addi v383 v384
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v368 : BitVec 32 := Scalar.addi v8 c1_i32_325
  let c4_i32_326 : BitVec 32 := 4#32
  let c0_i32_327 : BitVec 32 := 0#32
  let v369 : BitVec 1 := Scalar.cmpi .eq c4_i32_326 c0_i32_327
  let c1_i32_328 : BitVec 32 := 1#32
  let v370 : BitVec 32 := Scalar.select v369 c1_i32_328 c4_i32_326
  let v371 : BitVec 32 := Scalar.remsi v368 v370
  let c0_i32_330 : BitVec 32 := 0#32
  let v373 : BitVec 1 := Scalar.cmpi .slt v371 c0_i32_330
  let c0_i32_331 : BitVec 32 := 0#32
  let v374 : BitVec 1 := Scalar.cmpi .slt v370 c0_i32_331
  let v375 : BitVec 1 := Scalar.xori v373 v374
  let c0_i32_329 : BitVec 32 := 0#32
  let v372 : BitVec 1 := Scalar.cmpi .ne v371 c0_i32_329
  let v376 : BitVec 1 := Scalar.andi v375 v372
  let v377 : BitVec 32 := Scalar.addi v371 v370
  let v378 : BitVec 32 := Scalar.select v376 v377 v371
  let c1_i32_347 : BitVec 32 := 1#32
  let v386 : BitVec 32 := Scalar.muli v378 c1_i32_347
  let v387 : BitVec 32 := Scalar.addi v385 v386
  v387.toNat
def k0_dev18 (d0 : Dev nD) : Nat :=
  let c0_i32_372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_371 : BitVec 32 := 16#32
  let v409 : BitVec 32 := Scalar.muli v2 c16_i32_371
  let v410 : BitVec 32 := Scalar.addi c0_i32_372 v409
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_373 : BitVec 32 := 4#32
  let v411 : BitVec 32 := Scalar.muli v5 c4_i32_373
  let v412 : BitVec 32 := Scalar.addi v410 v411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_351 : BitVec 32 := 2#32
  let v395 : BitVec 32 := Scalar.addi v8 c2_i32_351
  let c4_i32_352 : BitVec 32 := 4#32
  let c0_i32_353 : BitVec 32 := 0#32
  let v396 : BitVec 1 := Scalar.cmpi .eq c4_i32_352 c0_i32_353
  let c1_i32_354 : BitVec 32 := 1#32
  let v397 : BitVec 32 := Scalar.select v396 c1_i32_354 c4_i32_352
  let v398 : BitVec 32 := Scalar.remsi v395 v397
  let c0_i32_356 : BitVec 32 := 0#32
  let v400 : BitVec 1 := Scalar.cmpi .slt v398 c0_i32_356
  let c0_i32_357 : BitVec 32 := 0#32
  let v401 : BitVec 1 := Scalar.cmpi .slt v397 c0_i32_357
  let v402 : BitVec 1 := Scalar.xori v400 v401
  let c0_i32_355 : BitVec 32 := 0#32
  let v399 : BitVec 1 := Scalar.cmpi .ne v398 c0_i32_355
  let v403 : BitVec 1 := Scalar.andi v402 v399
  let v404 : BitVec 32 := Scalar.addi v398 v397
  let v405 : BitVec 32 := Scalar.select v403 v404 v398
  let c1_i32_374 : BitVec 32 := 1#32
  let v413 : BitVec 32 := Scalar.muli v405 c1_i32_374
  let v414 : BitVec 32 := Scalar.addi v412 v413
  v414.toNat
def k0_dev19 (d0 : Dev nD) : Nat :=
  let c0_i32_399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_398 : BitVec 32 := 16#32
  let v436 : BitVec 32 := Scalar.muli v2 c16_i32_398
  let v437 : BitVec 32 := Scalar.addi c0_i32_399 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_400 : BitVec 32 := 4#32
  let v438 : BitVec 32 := Scalar.muli v5 c4_i32_400
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_378 : BitVec 32 := 3#32
  let v422 : BitVec 32 := Scalar.addi v8 c3_i32_378
  let c4_i32_379 : BitVec 32 := 4#32
  let c0_i32_380 : BitVec 32 := 0#32
  let v423 : BitVec 1 := Scalar.cmpi .eq c4_i32_379 c0_i32_380
  let c1_i32_381 : BitVec 32 := 1#32
  let v424 : BitVec 32 := Scalar.select v423 c1_i32_381 c4_i32_379
  let v425 : BitVec 32 := Scalar.remsi v422 v424
  let c0_i32_383 : BitVec 32 := 0#32
  let v427 : BitVec 1 := Scalar.cmpi .slt v425 c0_i32_383
  let c0_i32_384 : BitVec 32 := 0#32
  let v428 : BitVec 1 := Scalar.cmpi .slt v424 c0_i32_384
  let v429 : BitVec 1 := Scalar.xori v427 v428
  let c0_i32_382 : BitVec 32 := 0#32
  let v426 : BitVec 1 := Scalar.cmpi .ne v425 c0_i32_382
  let v430 : BitVec 1 := Scalar.andi v429 v426
  let v431 : BitVec 32 := Scalar.addi v425 v424
  let v432 : BitVec 32 := Scalar.select v430 v431 v425
  let c1_i32_401 : BitVec 32 := 1#32
  let v440 : BitVec 32 := Scalar.muli v432 c1_i32_401
  let v441 : BitVec 32 := Scalar.addi v439 v440
  v441.toNat
def k0_dev20 (d0 : Dev nD) : Nat :=
  let c0_i32_425 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_424 : BitVec 32 := 16#32
  let v463 : BitVec 32 := Scalar.muli v2 c16_i32_424
  let v464 : BitVec 32 := Scalar.addi c0_i32_425 v463
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_405 : BitVec 32 := 1#32
  let v449 : BitVec 32 := Scalar.addi v5 c1_i32_405
  let c4_i32_406 : BitVec 32 := 4#32
  let c0_i32_407 : BitVec 32 := 0#32
  let v450 : BitVec 1 := Scalar.cmpi .eq c4_i32_406 c0_i32_407
  let c1_i32_408 : BitVec 32 := 1#32
  let v451 : BitVec 32 := Scalar.select v450 c1_i32_408 c4_i32_406
  let v452 : BitVec 32 := Scalar.remsi v449 v451
  let c0_i32_410 : BitVec 32 := 0#32
  let v454 : BitVec 1 := Scalar.cmpi .slt v452 c0_i32_410
  let c0_i32_411 : BitVec 32 := 0#32
  let v455 : BitVec 1 := Scalar.cmpi .slt v451 c0_i32_411
  let v456 : BitVec 1 := Scalar.xori v454 v455
  let c0_i32_409 : BitVec 32 := 0#32
  let v453 : BitVec 1 := Scalar.cmpi .ne v452 c0_i32_409
  let v457 : BitVec 1 := Scalar.andi v456 v453
  let v458 : BitVec 32 := Scalar.addi v452 v451
  let v459 : BitVec 32 := Scalar.select v457 v458 v452
  let c4_i32_426 : BitVec 32 := 4#32
  let v465 : BitVec 32 := Scalar.muli v459 c4_i32_426
  let v466 : BitVec 32 := Scalar.addi v464 v465
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v467 : BitVec 32 := Scalar.muli v8 c1_i32_427
  let v468 : BitVec 32 := Scalar.addi v466 v467
  v468.toNat
def k0_dev21 (d0 : Dev nD) : Nat :=
  let c0_i32_452 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_451 : BitVec 32 := 16#32
  let v490 : BitVec 32 := Scalar.muli v2 c16_i32_451
  let v491 : BitVec 32 := Scalar.addi c0_i32_452 v490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_431 : BitVec 32 := 2#32
  let v476 : BitVec 32 := Scalar.addi v5 c2_i32_431
  let c4_i32_432 : BitVec 32 := 4#32
  let c0_i32_433 : BitVec 32 := 0#32
  let v477 : BitVec 1 := Scalar.cmpi .eq c4_i32_432 c0_i32_433
  let c1_i32_434 : BitVec 32 := 1#32
  let v478 : BitVec 32 := Scalar.select v477 c1_i32_434 c4_i32_432
  let v479 : BitVec 32 := Scalar.remsi v476 v478
  let c0_i32_436 : BitVec 32 := 0#32
  let v481 : BitVec 1 := Scalar.cmpi .slt v479 c0_i32_436
  let c0_i32_437 : BitVec 32 := 0#32
  let v482 : BitVec 1 := Scalar.cmpi .slt v478 c0_i32_437
  let v483 : BitVec 1 := Scalar.xori v481 v482
  let c0_i32_435 : BitVec 32 := 0#32
  let v480 : BitVec 1 := Scalar.cmpi .ne v479 c0_i32_435
  let v484 : BitVec 1 := Scalar.andi v483 v480
  let v485 : BitVec 32 := Scalar.addi v479 v478
  let v486 : BitVec 32 := Scalar.select v484 v485 v479
  let c4_i32_453 : BitVec 32 := 4#32
  let v492 : BitVec 32 := Scalar.muli v486 c4_i32_453
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_454 : BitVec 32 := 1#32
  let v494 : BitVec 32 := Scalar.muli v8 c1_i32_454
  let v495 : BitVec 32 := Scalar.addi v493 v494
  v495.toNat
def k0_dev22 (d0 : Dev nD) : Nat :=
  let c0_i32_479 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_478 : BitVec 32 := 16#32
  let v517 : BitVec 32 := Scalar.muli v2 c16_i32_478
  let v518 : BitVec 32 := Scalar.addi c0_i32_479 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_458 : BitVec 32 := 3#32
  let v503 : BitVec 32 := Scalar.addi v5 c3_i32_458
  let c4_i32_459 : BitVec 32 := 4#32
  let c0_i32_460 : BitVec 32 := 0#32
  let v504 : BitVec 1 := Scalar.cmpi .eq c4_i32_459 c0_i32_460
  let c1_i32_461 : BitVec 32 := 1#32
  let v505 : BitVec 32 := Scalar.select v504 c1_i32_461 c4_i32_459
  let v506 : BitVec 32 := Scalar.remsi v503 v505
  let c0_i32_463 : BitVec 32 := 0#32
  let v508 : BitVec 1 := Scalar.cmpi .slt v506 c0_i32_463
  let c0_i32_464 : BitVec 32 := 0#32
  let v509 : BitVec 1 := Scalar.cmpi .slt v505 c0_i32_464
  let v510 : BitVec 1 := Scalar.xori v508 v509
  let c0_i32_462 : BitVec 32 := 0#32
  let v507 : BitVec 1 := Scalar.cmpi .ne v506 c0_i32_462
  let v511 : BitVec 1 := Scalar.andi v510 v507
  let v512 : BitVec 32 := Scalar.addi v506 v505
  let v513 : BitVec 32 := Scalar.select v511 v512 v506
  let c4_i32_480 : BitVec 32 := 4#32
  let v519 : BitVec 32 := Scalar.muli v513 c4_i32_480
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_481 : BitVec 32 := 1#32
  let v521 : BitVec 32 := Scalar.muli v8 c1_i32_481
  let v522 : BitVec 32 := Scalar.addi v520 v521
  v522.toNat
def k0_dev23 (d0 : Dev nD) : Nat :=
  let c0_i32_506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_505 : BitVec 32 := 16#32
  let v544 : BitVec 32 := Scalar.muli v2 c16_i32_505
  let v545 : BitVec 32 := Scalar.addi c0_i32_506 v544
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_485 : BitVec 32 := 1#32
  let v530 : BitVec 32 := Scalar.addi v5 c1_i32_485
  let c4_i32_486 : BitVec 32 := 4#32
  let c0_i32_487 : BitVec 32 := 0#32
  let v531 : BitVec 1 := Scalar.cmpi .eq c4_i32_486 c0_i32_487
  let c1_i32_488 : BitVec 32 := 1#32
  let v532 : BitVec 32 := Scalar.select v531 c1_i32_488 c4_i32_486
  let v533 : BitVec 32 := Scalar.remsi v530 v532
  let c0_i32_490 : BitVec 32 := 0#32
  let v535 : BitVec 1 := Scalar.cmpi .slt v533 c0_i32_490
  let c0_i32_491 : BitVec 32 := 0#32
  let v536 : BitVec 1 := Scalar.cmpi .slt v532 c0_i32_491
  let v537 : BitVec 1 := Scalar.xori v535 v536
  let c0_i32_489 : BitVec 32 := 0#32
  let v534 : BitVec 1 := Scalar.cmpi .ne v533 c0_i32_489
  let v538 : BitVec 1 := Scalar.andi v537 v534
  let v539 : BitVec 32 := Scalar.addi v533 v532
  let v540 : BitVec 32 := Scalar.select v538 v539 v533
  let c4_i32_507 : BitVec 32 := 4#32
  let v546 : BitVec 32 := Scalar.muli v540 c4_i32_507
  let v547 : BitVec 32 := Scalar.addi v545 v546
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v548 : BitVec 32 := Scalar.muli v8 c1_i32_508
  let v549 : BitVec 32 := Scalar.addi v547 v548
  v549.toNat
def k0_dev24 (d0 : Dev nD) : Nat :=
  let c0_i32_533 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_532 : BitVec 32 := 16#32
  let v571 : BitVec 32 := Scalar.muli v2 c16_i32_532
  let v572 : BitVec 32 := Scalar.addi c0_i32_533 v571
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_512 : BitVec 32 := 2#32
  let v557 : BitVec 32 := Scalar.addi v5 c2_i32_512
  let c4_i32_513 : BitVec 32 := 4#32
  let c0_i32_514 : BitVec 32 := 0#32
  let v558 : BitVec 1 := Scalar.cmpi .eq c4_i32_513 c0_i32_514
  let c1_i32_515 : BitVec 32 := 1#32
  let v559 : BitVec 32 := Scalar.select v558 c1_i32_515 c4_i32_513
  let v560 : BitVec 32 := Scalar.remsi v557 v559
  let c0_i32_517 : BitVec 32 := 0#32
  let v562 : BitVec 1 := Scalar.cmpi .slt v560 c0_i32_517
  let c0_i32_518 : BitVec 32 := 0#32
  let v563 : BitVec 1 := Scalar.cmpi .slt v559 c0_i32_518
  let v564 : BitVec 1 := Scalar.xori v562 v563
  let c0_i32_516 : BitVec 32 := 0#32
  let v561 : BitVec 1 := Scalar.cmpi .ne v560 c0_i32_516
  let v565 : BitVec 1 := Scalar.andi v564 v561
  let v566 : BitVec 32 := Scalar.addi v560 v559
  let v567 : BitVec 32 := Scalar.select v565 v566 v560
  let c4_i32_534 : BitVec 32 := 4#32
  let v573 : BitVec 32 := Scalar.muli v567 c4_i32_534
  let v574 : BitVec 32 := Scalar.addi v572 v573
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v575 : BitVec 32 := Scalar.muli v8 c1_i32_535
  let v576 : BitVec 32 := Scalar.addi v574 v575
  v576.toNat
def k0_dev25 (d0 : Dev nD) : Nat :=
  let c0_i32_560 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_559 : BitVec 32 := 16#32
  let v598 : BitVec 32 := Scalar.muli v2 c16_i32_559
  let v599 : BitVec 32 := Scalar.addi c0_i32_560 v598
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_539 : BitVec 32 := 3#32
  let v584 : BitVec 32 := Scalar.addi v5 c3_i32_539
  let c4_i32_540 : BitVec 32 := 4#32
  let c0_i32_541 : BitVec 32 := 0#32
  let v585 : BitVec 1 := Scalar.cmpi .eq c4_i32_540 c0_i32_541
  let c1_i32_542 : BitVec 32 := 1#32
  let v586 : BitVec 32 := Scalar.select v585 c1_i32_542 c4_i32_540
  let v587 : BitVec 32 := Scalar.remsi v584 v586
  let c0_i32_544 : BitVec 32 := 0#32
  let v589 : BitVec 1 := Scalar.cmpi .slt v587 c0_i32_544
  let c0_i32_545 : BitVec 32 := 0#32
  let v590 : BitVec 1 := Scalar.cmpi .slt v586 c0_i32_545
  let v591 : BitVec 1 := Scalar.xori v589 v590
  let c0_i32_543 : BitVec 32 := 0#32
  let v588 : BitVec 1 := Scalar.cmpi .ne v587 c0_i32_543
  let v592 : BitVec 1 := Scalar.andi v591 v588
  let v593 : BitVec 32 := Scalar.addi v587 v586
  let v594 : BitVec 32 := Scalar.select v592 v593 v587
  let c4_i32_561 : BitVec 32 := 4#32
  let v600 : BitVec 32 := Scalar.muli v594 c4_i32_561
  let v601 : BitVec 32 := Scalar.addi v599 v600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_562 : BitVec 32 := 1#32
  let v602 : BitVec 32 := Scalar.muli v8 c1_i32_562
  let v603 : BitVec 32 := Scalar.addi v601 v602
  v603.toNat
def k0_dev26 (d0 : Dev nD) : Nat :=
  let c0_i32_587 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_586 : BitVec 32 := 16#32
  let v625 : BitVec 32 := Scalar.muli v2 c16_i32_586
  let v626 : BitVec 32 := Scalar.addi c0_i32_587 v625
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_566 : BitVec 32 := 1#32
  let v611 : BitVec 32 := Scalar.addi v5 c1_i32_566
  let c4_i32_567 : BitVec 32 := 4#32
  let c0_i32_568 : BitVec 32 := 0#32
  let v612 : BitVec 1 := Scalar.cmpi .eq c4_i32_567 c0_i32_568
  let c1_i32_569 : BitVec 32 := 1#32
  let v613 : BitVec 32 := Scalar.select v612 c1_i32_569 c4_i32_567
  let v614 : BitVec 32 := Scalar.remsi v611 v613
  let c0_i32_571 : BitVec 32 := 0#32
  let v616 : BitVec 1 := Scalar.cmpi .slt v614 c0_i32_571
  let c0_i32_572 : BitVec 32 := 0#32
  let v617 : BitVec 1 := Scalar.cmpi .slt v613 c0_i32_572
  let v618 : BitVec 1 := Scalar.xori v616 v617
  let c0_i32_570 : BitVec 32 := 0#32
  let v615 : BitVec 1 := Scalar.cmpi .ne v614 c0_i32_570
  let v619 : BitVec 1 := Scalar.andi v618 v615
  let v620 : BitVec 32 := Scalar.addi v614 v613
  let v621 : BitVec 32 := Scalar.select v619 v620 v614
  let c4_i32_588 : BitVec 32 := 4#32
  let v627 : BitVec 32 := Scalar.muli v621 c4_i32_588
  let v628 : BitVec 32 := Scalar.addi v626 v627
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_589 : BitVec 32 := 1#32
  let v629 : BitVec 32 := Scalar.muli v8 c1_i32_589
  let v630 : BitVec 32 := Scalar.addi v628 v629
  v630.toNat
def k0_dev27 (d0 : Dev nD) : Nat :=
  let c0_i32_614 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_613 : BitVec 32 := 16#32
  let v652 : BitVec 32 := Scalar.muli v2 c16_i32_613
  let v653 : BitVec 32 := Scalar.addi c0_i32_614 v652
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_593 : BitVec 32 := 2#32
  let v638 : BitVec 32 := Scalar.addi v5 c2_i32_593
  let c4_i32_594 : BitVec 32 := 4#32
  let c0_i32_595 : BitVec 32 := 0#32
  let v639 : BitVec 1 := Scalar.cmpi .eq c4_i32_594 c0_i32_595
  let c1_i32_596 : BitVec 32 := 1#32
  let v640 : BitVec 32 := Scalar.select v639 c1_i32_596 c4_i32_594
  let v641 : BitVec 32 := Scalar.remsi v638 v640
  let c0_i32_598 : BitVec 32 := 0#32
  let v643 : BitVec 1 := Scalar.cmpi .slt v641 c0_i32_598
  let c0_i32_599 : BitVec 32 := 0#32
  let v644 : BitVec 1 := Scalar.cmpi .slt v640 c0_i32_599
  let v645 : BitVec 1 := Scalar.xori v643 v644
  let c0_i32_597 : BitVec 32 := 0#32
  let v642 : BitVec 1 := Scalar.cmpi .ne v641 c0_i32_597
  let v646 : BitVec 1 := Scalar.andi v645 v642
  let v647 : BitVec 32 := Scalar.addi v641 v640
  let v648 : BitVec 32 := Scalar.select v646 v647 v641
  let c4_i32_615 : BitVec 32 := 4#32
  let v654 : BitVec 32 := Scalar.muli v648 c4_i32_615
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_616 : BitVec 32 := 1#32
  let v656 : BitVec 32 := Scalar.muli v8 c1_i32_616
  let v657 : BitVec 32 := Scalar.addi v655 v656
  v657.toNat
def k0_dev28 (d0 : Dev nD) : Nat :=
  let c0_i32_641 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_640 : BitVec 32 := 16#32
  let v679 : BitVec 32 := Scalar.muli v2 c16_i32_640
  let v680 : BitVec 32 := Scalar.addi c0_i32_641 v679
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_620 : BitVec 32 := 3#32
  let v665 : BitVec 32 := Scalar.addi v5 c3_i32_620
  let c4_i32_621 : BitVec 32 := 4#32
  let c0_i32_622 : BitVec 32 := 0#32
  let v666 : BitVec 1 := Scalar.cmpi .eq c4_i32_621 c0_i32_622
  let c1_i32_623 : BitVec 32 := 1#32
  let v667 : BitVec 32 := Scalar.select v666 c1_i32_623 c4_i32_621
  let v668 : BitVec 32 := Scalar.remsi v665 v667
  let c0_i32_625 : BitVec 32 := 0#32
  let v670 : BitVec 1 := Scalar.cmpi .slt v668 c0_i32_625
  let c0_i32_626 : BitVec 32 := 0#32
  let v671 : BitVec 1 := Scalar.cmpi .slt v667 c0_i32_626
  let v672 : BitVec 1 := Scalar.xori v670 v671
  let c0_i32_624 : BitVec 32 := 0#32
  let v669 : BitVec 1 := Scalar.cmpi .ne v668 c0_i32_624
  let v673 : BitVec 1 := Scalar.andi v672 v669
  let v674 : BitVec 32 := Scalar.addi v668 v667
  let v675 : BitVec 32 := Scalar.select v673 v674 v668
  let c4_i32_642 : BitVec 32 := 4#32
  let v681 : BitVec 32 := Scalar.muli v675 c4_i32_642
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_643 : BitVec 32 := 1#32
  let v683 : BitVec 32 := Scalar.muli v8 c1_i32_643
  let v684 : BitVec 32 := Scalar.addi v682 v683
  v684.toNat
def k0_dev29 (d0 : Dev nD) : Nat :=
  let c0_i32_668 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_667 : BitVec 32 := 16#32
  let v706 : BitVec 32 := Scalar.muli v2 c16_i32_667
  let v707 : BitVec 32 := Scalar.addi c0_i32_668 v706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_647 : BitVec 32 := 1#32
  let v692 : BitVec 32 := Scalar.addi v5 c1_i32_647
  let c4_i32_648 : BitVec 32 := 4#32
  let c0_i32_649 : BitVec 32 := 0#32
  let v693 : BitVec 1 := Scalar.cmpi .eq c4_i32_648 c0_i32_649
  let c1_i32_650 : BitVec 32 := 1#32
  let v694 : BitVec 32 := Scalar.select v693 c1_i32_650 c4_i32_648
  let v695 : BitVec 32 := Scalar.remsi v692 v694
  let c0_i32_652 : BitVec 32 := 0#32
  let v697 : BitVec 1 := Scalar.cmpi .slt v695 c0_i32_652
  let c0_i32_653 : BitVec 32 := 0#32
  let v698 : BitVec 1 := Scalar.cmpi .slt v694 c0_i32_653
  let v699 : BitVec 1 := Scalar.xori v697 v698
  let c0_i32_651 : BitVec 32 := 0#32
  let v696 : BitVec 1 := Scalar.cmpi .ne v695 c0_i32_651
  let v700 : BitVec 1 := Scalar.andi v699 v696
  let v701 : BitVec 32 := Scalar.addi v695 v694
  let v702 : BitVec 32 := Scalar.select v700 v701 v695
  let c4_i32_669 : BitVec 32 := 4#32
  let v708 : BitVec 32 := Scalar.muli v702 c4_i32_669
  let v709 : BitVec 32 := Scalar.addi v707 v708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_670 : BitVec 32 := 1#32
  let v710 : BitVec 32 := Scalar.muli v8 c1_i32_670
  let v711 : BitVec 32 := Scalar.addi v709 v710
  v711.toNat
def k0_dev30 (d0 : Dev nD) : Nat :=
  let c0_i32_695 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_694 : BitVec 32 := 16#32
  let v733 : BitVec 32 := Scalar.muli v2 c16_i32_694
  let v734 : BitVec 32 := Scalar.addi c0_i32_695 v733
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_674 : BitVec 32 := 2#32
  let v719 : BitVec 32 := Scalar.addi v5 c2_i32_674
  let c4_i32_675 : BitVec 32 := 4#32
  let c0_i32_676 : BitVec 32 := 0#32
  let v720 : BitVec 1 := Scalar.cmpi .eq c4_i32_675 c0_i32_676
  let c1_i32_677 : BitVec 32 := 1#32
  let v721 : BitVec 32 := Scalar.select v720 c1_i32_677 c4_i32_675
  let v722 : BitVec 32 := Scalar.remsi v719 v721
  let c0_i32_679 : BitVec 32 := 0#32
  let v724 : BitVec 1 := Scalar.cmpi .slt v722 c0_i32_679
  let c0_i32_680 : BitVec 32 := 0#32
  let v725 : BitVec 1 := Scalar.cmpi .slt v721 c0_i32_680
  let v726 : BitVec 1 := Scalar.xori v724 v725
  let c0_i32_678 : BitVec 32 := 0#32
  let v723 : BitVec 1 := Scalar.cmpi .ne v722 c0_i32_678
  let v727 : BitVec 1 := Scalar.andi v726 v723
  let v728 : BitVec 32 := Scalar.addi v722 v721
  let v729 : BitVec 32 := Scalar.select v727 v728 v722
  let c4_i32_696 : BitVec 32 := 4#32
  let v735 : BitVec 32 := Scalar.muli v729 c4_i32_696
  let v736 : BitVec 32 := Scalar.addi v734 v735
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_697 : BitVec 32 := 1#32
  let v737 : BitVec 32 := Scalar.muli v8 c1_i32_697
  let v738 : BitVec 32 := Scalar.addi v736 v737
  v738.toNat
def k0_dev31 (d0 : Dev nD) : Nat :=
  let c0_i32_722 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_721 : BitVec 32 := 16#32
  let v760 : BitVec 32 := Scalar.muli v2 c16_i32_721
  let v761 : BitVec 32 := Scalar.addi c0_i32_722 v760
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_701 : BitVec 32 := 3#32
  let v746 : BitVec 32 := Scalar.addi v5 c3_i32_701
  let c4_i32_702 : BitVec 32 := 4#32
  let c0_i32_703 : BitVec 32 := 0#32
  let v747 : BitVec 1 := Scalar.cmpi .eq c4_i32_702 c0_i32_703
  let c1_i32_704 : BitVec 32 := 1#32
  let v748 : BitVec 32 := Scalar.select v747 c1_i32_704 c4_i32_702
  let v749 : BitVec 32 := Scalar.remsi v746 v748
  let c0_i32_706 : BitVec 32 := 0#32
  let v751 : BitVec 1 := Scalar.cmpi .slt v749 c0_i32_706
  let c0_i32_707 : BitVec 32 := 0#32
  let v752 : BitVec 1 := Scalar.cmpi .slt v748 c0_i32_707
  let v753 : BitVec 1 := Scalar.xori v751 v752
  let c0_i32_705 : BitVec 32 := 0#32
  let v750 : BitVec 1 := Scalar.cmpi .ne v749 c0_i32_705
  let v754 : BitVec 1 := Scalar.andi v753 v750
  let v755 : BitVec 32 := Scalar.addi v749 v748
  let v756 : BitVec 32 := Scalar.select v754 v755 v749
  let c4_i32_723 : BitVec 32 := 4#32
  let v762 : BitVec 32 := Scalar.muli v756 c4_i32_723
  let v763 : BitVec 32 := Scalar.addi v761 v762
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_724 : BitVec 32 := 1#32
  let v764 : BitVec 32 := Scalar.muli v8 c1_i32_724
  let v765 : BitVec 32 := Scalar.addi v763 v764
  v765.toNat
def k0_off2 (d0 : Dev nD) (c0_i32_780 : BitVec 32) (c1_i32 : BitVec 32) (c0_i32_781 : BitVec 32) : Fin 2 → Nat :=
  let v6 : BitVec 32 := Dev.word d0
  let v7 : BitVec 32 := Scalar.divsi v6 c1_i32
  let c4_i32_1 : BitVec 32 := 4#32
  let v8 : BitVec 32 := Scalar.remsi v7 c4_i32_1
  let c64_i32_779 : BitVec 32 := 64#32
  let v806 : BitVec 32 := Scalar.muli v8 c64_i32_779
  let v807 : BitVec 32 := Scalar.addi c0_i32_780 v806
  let v808 : BitVec 32 := Scalar.addi v807 c0_i32_781
  let v809 : Index := Scalar.indexCast v808
  let c0_782 : Index := 0#32
  ![v809.toNat, 0]
def k0_off2_at (r : Fin 8) : BitVec 32 × BitVec 32 × BitVec 32 :=
  if r.val < 4 then
    if r.val < 2 then
      if r.val < 1 then
        (0#32, 1#32, 0#32)
      else
        (256#32, 4#32, 0#32)
    else
      if r.val < 3 then
        (0#32, 1#32, 16#32)
      else
        (256#32, 4#32, 16#32)
  else
    if r.val < 6 then
      if r.val < 5 then
        (0#32, 1#32, 32#32)
      else
        (256#32, 4#32, 32#32)
    else
      if r.val < 7 then
        (0#32, 1#32, 48#32)
      else
        (256#32, 4#32, 48#32)
def k0_off3 (d0 : Dev nD) (c0_i32_802 : BitVec 32) (c1_i32 : BitVec 32) (c0_i32_803 : BitVec 32) : Fin 2 → Nat :=
  let v6 : BitVec 32 := Dev.word d0
  let v7 : BitVec 32 := Scalar.divsi v6 c1_i32
  let c4_i32_1 : BitVec 32 := 4#32
  let v8 : BitVec 32 := Scalar.remsi v7 c4_i32_1
  let c64_i32_801 : BitVec 32 := 64#32
  let v835 : BitVec 32 := Scalar.muli v8 c64_i32_801
  let v836 : BitVec 32 := Scalar.addi c0_i32_802 v835
  let v837 : BitVec 32 := Scalar.addi v836 c0_i32_803
  let c0_i32_820 : BitVec 32 := 0#32
  ![v837.toNat, 0]
def k0_off3_at (r : Fin 8) : BitVec 32 × BitVec 32 × BitVec 32 :=
  if r.val < 4 then
    if r.val < 2 then
      if r.val < 1 then
        (0#32, 1#32, 0#32)
      else
        (256#32, 4#32, 0#32)
    else
      if r.val < 3 then
        (0#32, 1#32, 16#32)
      else
        (256#32, 4#32, 16#32)
  else
    if r.val < 6 then
      if r.val < 5 then
        (0#32, 1#32, 32#32)
      else
        (256#32, 4#32, 32#32)
    else
      if r.val < 7 then
        (0#32, 1#32, 48#32)
      else
        (256#32, 4#32, 48#32)
def k0_dev32 (d0 : Dev nD) : Nat :=
  let c0_i32_815 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_814 : BitVec 32 := 16#32
  let v838 : BitVec 32 := Scalar.muli v2 c16_i32_814
  let v839 : BitVec 32 := Scalar.addi c0_i32_815 v838
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_794 : BitVec 32 := 1#32
  let v824 : BitVec 32 := Scalar.addi v5 c1_i32_794
  let c4_i32_795 : BitVec 32 := 4#32
  let c0_i32_796 : BitVec 32 := 0#32
  let v825 : BitVec 1 := Scalar.cmpi .eq c4_i32_795 c0_i32_796
  let c1_i32_797 : BitVec 32 := 1#32
  let v826 : BitVec 32 := Scalar.select v825 c1_i32_797 c4_i32_795
  let v827 : BitVec 32 := Scalar.remsi v824 v826
  let c0_i32_799 : BitVec 32 := 0#32
  let v829 : BitVec 1 := Scalar.cmpi .slt v827 c0_i32_799
  let c0_i32_800 : BitVec 32 := 0#32
  let v830 : BitVec 1 := Scalar.cmpi .slt v826 c0_i32_800
  let v831 : BitVec 1 := Scalar.xori v829 v830
  let c0_i32_798 : BitVec 32 := 0#32
  let v828 : BitVec 1 := Scalar.cmpi .ne v827 c0_i32_798
  let v832 : BitVec 1 := Scalar.andi v831 v828
  let v833 : BitVec 32 := Scalar.addi v827 v826
  let v834 : BitVec 32 := Scalar.select v832 v833 v827
  let c4_i32_816 : BitVec 32 := 4#32
  let v840 : BitVec 32 := Scalar.muli v834 c4_i32_816
  let v841 : BitVec 32 := Scalar.addi v839 v840
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_817 : BitVec 32 := 1#32
  let v842 : BitVec 32 := Scalar.muli v8 c1_i32_817
  let v843 : BitVec 32 := Scalar.addi v841 v842
  v843.toNat
def k0_dev33 (d0 : Dev nD) : Nat :=
  let c0_i32_842 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_841 : BitVec 32 := 16#32
  let v865 : BitVec 32 := Scalar.muli v2 c16_i32_841
  let v866 : BitVec 32 := Scalar.addi c0_i32_842 v865
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_821 : BitVec 32 := 2#32
  let v851 : BitVec 32 := Scalar.addi v5 c2_i32_821
  let c4_i32_822 : BitVec 32 := 4#32
  let c0_i32_823 : BitVec 32 := 0#32
  let v852 : BitVec 1 := Scalar.cmpi .eq c4_i32_822 c0_i32_823
  let c1_i32_824 : BitVec 32 := 1#32
  let v853 : BitVec 32 := Scalar.select v852 c1_i32_824 c4_i32_822
  let v854 : BitVec 32 := Scalar.remsi v851 v853
  let c0_i32_826 : BitVec 32 := 0#32
  let v856 : BitVec 1 := Scalar.cmpi .slt v854 c0_i32_826
  let c0_i32_827 : BitVec 32 := 0#32
  let v857 : BitVec 1 := Scalar.cmpi .slt v853 c0_i32_827
  let v858 : BitVec 1 := Scalar.xori v856 v857
  let c0_i32_825 : BitVec 32 := 0#32
  let v855 : BitVec 1 := Scalar.cmpi .ne v854 c0_i32_825
  let v859 : BitVec 1 := Scalar.andi v858 v855
  let v860 : BitVec 32 := Scalar.addi v854 v853
  let v861 : BitVec 32 := Scalar.select v859 v860 v854
  let c4_i32_843 : BitVec 32 := 4#32
  let v867 : BitVec 32 := Scalar.muli v861 c4_i32_843
  let v868 : BitVec 32 := Scalar.addi v866 v867
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_844 : BitVec 32 := 1#32
  let v869 : BitVec 32 := Scalar.muli v8 c1_i32_844
  let v870 : BitVec 32 := Scalar.addi v868 v869
  v870.toNat
def k0_dev34 (d0 : Dev nD) : Nat :=
  let c0_i32_868 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_867 : BitVec 32 := 16#32
  let v892 : BitVec 32 := Scalar.muli v2 c16_i32_867
  let v893 : BitVec 32 := Scalar.addi c0_i32_868 v892
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_848 : BitVec 32 := 3#32
  let v878 : BitVec 32 := Scalar.addi v5 c3_i32_848
  let c4_i32_849 : BitVec 32 := 4#32
  let c0_i32_850 : BitVec 32 := 0#32
  let v879 : BitVec 1 := Scalar.cmpi .eq c4_i32_849 c0_i32_850
  let c1_i32_851 : BitVec 32 := 1#32
  let v880 : BitVec 32 := Scalar.select v879 c1_i32_851 c4_i32_849
  let v881 : BitVec 32 := Scalar.remsi v878 v880
  let c0_i32_853 : BitVec 32 := 0#32
  let v883 : BitVec 1 := Scalar.cmpi .slt v881 c0_i32_853
  let c0_i32_854 : BitVec 32 := 0#32
  let v884 : BitVec 1 := Scalar.cmpi .slt v880 c0_i32_854
  let v885 : BitVec 1 := Scalar.xori v883 v884
  let c0_i32_852 : BitVec 32 := 0#32
  let v882 : BitVec 1 := Scalar.cmpi .ne v881 c0_i32_852
  let v886 : BitVec 1 := Scalar.andi v885 v882
  let v887 : BitVec 32 := Scalar.addi v881 v880
  let v888 : BitVec 32 := Scalar.select v886 v887 v881
  let c4_i32_869 : BitVec 32 := 4#32
  let v894 : BitVec 32 := Scalar.muli v888 c4_i32_869
  let v895 : BitVec 32 := Scalar.addi v893 v894
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_870 : BitVec 32 := 1#32
  let v896 : BitVec 32 := Scalar.muli v8 c1_i32_870
  let v897 : BitVec 32 := Scalar.addi v895 v896
  v897.toNat
def k0_dev35 (d0 : Dev nD) : Nat :=
  let c0_i32_963 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_962 : BitVec 32 := 16#32
  let v970 : BitVec 32 := Scalar.muli v2 c16_i32_962
  let v971 : BitVec 32 := Scalar.addi c0_i32_963 v970
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_964 : BitVec 32 := 4#32
  let v972 : BitVec 32 := Scalar.muli v5 c4_i32_964
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_942 : BitVec 32 := 1#32
  let v956 : BitVec 32 := Scalar.addi v8 c1_i32_942
  let c4_i32_943 : BitVec 32 := 4#32
  let c0_i32_944 : BitVec 32 := 0#32
  let v957 : BitVec 1 := Scalar.cmpi .eq c4_i32_943 c0_i32_944
  let c1_i32_945 : BitVec 32 := 1#32
  let v958 : BitVec 32 := Scalar.select v957 c1_i32_945 c4_i32_943
  let v959 : BitVec 32 := Scalar.remsi v956 v958
  let c0_i32_947 : BitVec 32 := 0#32
  let v961 : BitVec 1 := Scalar.cmpi .slt v959 c0_i32_947
  let c0_i32_948 : BitVec 32 := 0#32
  let v962 : BitVec 1 := Scalar.cmpi .slt v958 c0_i32_948
  let v963 : BitVec 1 := Scalar.xori v961 v962
  let c0_i32_946 : BitVec 32 := 0#32
  let v960 : BitVec 1 := Scalar.cmpi .ne v959 c0_i32_946
  let v964 : BitVec 1 := Scalar.andi v963 v960
  let v965 : BitVec 32 := Scalar.addi v959 v958
  let v966 : BitVec 32 := Scalar.select v964 v965 v959
  let c1_i32_965 : BitVec 32 := 1#32
  let v974 : BitVec 32 := Scalar.muli v966 c1_i32_965
  let v975 : BitVec 32 := Scalar.addi v973 v974
  v975.toNat
def k0_dev36 (d0 : Dev nD) : Nat :=
  let c0_i32_990 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_989 : BitVec 32 := 16#32
  let v997 : BitVec 32 := Scalar.muli v2 c16_i32_989
  let v998 : BitVec 32 := Scalar.addi c0_i32_990 v997
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_991 : BitVec 32 := 4#32
  let v999 : BitVec 32 := Scalar.muli v5 c4_i32_991
  let v1000 : BitVec 32 := Scalar.addi v998 v999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_969 : BitVec 32 := 2#32
  let v983 : BitVec 32 := Scalar.addi v8 c2_i32_969
  let c4_i32_970 : BitVec 32 := 4#32
  let c0_i32_971 : BitVec 32 := 0#32
  let v984 : BitVec 1 := Scalar.cmpi .eq c4_i32_970 c0_i32_971
  let c1_i32_972 : BitVec 32 := 1#32
  let v985 : BitVec 32 := Scalar.select v984 c1_i32_972 c4_i32_970
  let v986 : BitVec 32 := Scalar.remsi v983 v985
  let c0_i32_974 : BitVec 32 := 0#32
  let v988 : BitVec 1 := Scalar.cmpi .slt v986 c0_i32_974
  let c0_i32_975 : BitVec 32 := 0#32
  let v989 : BitVec 1 := Scalar.cmpi .slt v985 c0_i32_975
  let v990 : BitVec 1 := Scalar.xori v988 v989
  let c0_i32_973 : BitVec 32 := 0#32
  let v987 : BitVec 1 := Scalar.cmpi .ne v986 c0_i32_973
  let v991 : BitVec 1 := Scalar.andi v990 v987
  let v992 : BitVec 32 := Scalar.addi v986 v985
  let v993 : BitVec 32 := Scalar.select v991 v992 v986
  let c1_i32_992 : BitVec 32 := 1#32
  let v1001 : BitVec 32 := Scalar.muli v993 c1_i32_992
  let v1002 : BitVec 32 := Scalar.addi v1000 v1001
  v1002.toNat
def k0_dev37 (d0 : Dev nD) : Nat :=
  let c0_i32_1017 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1016 : BitVec 32 := 16#32
  let v1024 : BitVec 32 := Scalar.muli v2 c16_i32_1016
  let v1025 : BitVec 32 := Scalar.addi c0_i32_1017 v1024
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1018 : BitVec 32 := 4#32
  let v1026 : BitVec 32 := Scalar.muli v5 c4_i32_1018
  let v1027 : BitVec 32 := Scalar.addi v1025 v1026
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_996 : BitVec 32 := 3#32
  let v1010 : BitVec 32 := Scalar.addi v8 c3_i32_996
  let c4_i32_997 : BitVec 32 := 4#32
  let c0_i32_998 : BitVec 32 := 0#32
  let v1011 : BitVec 1 := Scalar.cmpi .eq c4_i32_997 c0_i32_998
  let c1_i32_999 : BitVec 32 := 1#32
  let v1012 : BitVec 32 := Scalar.select v1011 c1_i32_999 c4_i32_997
  let v1013 : BitVec 32 := Scalar.remsi v1010 v1012
  let c0_i32_1001 : BitVec 32 := 0#32
  let v1015 : BitVec 1 := Scalar.cmpi .slt v1013 c0_i32_1001
  let c0_i32_1002 : BitVec 32 := 0#32
  let v1016 : BitVec 1 := Scalar.cmpi .slt v1012 c0_i32_1002
  let v1017 : BitVec 1 := Scalar.xori v1015 v1016
  let c0_i32_1000 : BitVec 32 := 0#32
  let v1014 : BitVec 1 := Scalar.cmpi .ne v1013 c0_i32_1000
  let v1018 : BitVec 1 := Scalar.andi v1017 v1014
  let v1019 : BitVec 32 := Scalar.addi v1013 v1012
  let v1020 : BitVec 32 := Scalar.select v1018 v1019 v1013
  let c1_i32_1019 : BitVec 32 := 1#32
  let v1028 : BitVec 32 := Scalar.muli v1020 c1_i32_1019
  let v1029 : BitVec 32 := Scalar.addi v1027 v1028
  v1029.toNat
def k0_dev38 (d0 : Dev nD) : Nat :=
  let c0_i32_1111 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1110 : BitVec 32 := 16#32
  let v1102 : BitVec 32 := Scalar.muli v2 c16_i32_1110
  let v1103 : BitVec 32 := Scalar.addi c0_i32_1111 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1090 : BitVec 32 := 1#32
  let v1088 : BitVec 32 := Scalar.addi v5 c1_i32_1090
  let c4_i32_1091 : BitVec 32 := 4#32
  let c0_i32_1092 : BitVec 32 := 0#32
  let v1089 : BitVec 1 := Scalar.cmpi .eq c4_i32_1091 c0_i32_1092
  let c1_i32_1093 : BitVec 32 := 1#32
  let v1090 : BitVec 32 := Scalar.select v1089 c1_i32_1093 c4_i32_1091
  let v1091 : BitVec 32 := Scalar.remsi v1088 v1090
  let c0_i32_1095 : BitVec 32 := 0#32
  let v1093 : BitVec 1 := Scalar.cmpi .slt v1091 c0_i32_1095
  let c0_i32_1096 : BitVec 32 := 0#32
  let v1094 : BitVec 1 := Scalar.cmpi .slt v1090 c0_i32_1096
  let v1095 : BitVec 1 := Scalar.xori v1093 v1094
  let c0_i32_1094 : BitVec 32 := 0#32
  let v1092 : BitVec 1 := Scalar.cmpi .ne v1091 c0_i32_1094
  let v1096 : BitVec 1 := Scalar.andi v1095 v1092
  let v1097 : BitVec 32 := Scalar.addi v1091 v1090
  let v1098 : BitVec 32 := Scalar.select v1096 v1097 v1091
  let c4_i32_1112 : BitVec 32 := 4#32
  let v1104 : BitVec 32 := Scalar.muli v1098 c4_i32_1112
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1113 : BitVec 32 := 1#32
  let v1106 : BitVec 32 := Scalar.muli v8 c1_i32_1113
  let v1107 : BitVec 32 := Scalar.addi v1105 v1106
  v1107.toNat
def k0_dev39 (d0 : Dev nD) : Nat :=
  let c0_i32_1138 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1137 : BitVec 32 := 16#32
  let v1129 : BitVec 32 := Scalar.muli v2 c16_i32_1137
  let v1130 : BitVec 32 := Scalar.addi c0_i32_1138 v1129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1117 : BitVec 32 := 2#32
  let v1115 : BitVec 32 := Scalar.addi v5 c2_i32_1117
  let c4_i32_1118 : BitVec 32 := 4#32
  let c0_i32_1119 : BitVec 32 := 0#32
  let v1116 : BitVec 1 := Scalar.cmpi .eq c4_i32_1118 c0_i32_1119
  let c1_i32_1120 : BitVec 32 := 1#32
  let v1117 : BitVec 32 := Scalar.select v1116 c1_i32_1120 c4_i32_1118
  let v1118 : BitVec 32 := Scalar.remsi v1115 v1117
  let c0_i32_1122 : BitVec 32 := 0#32
  let v1120 : BitVec 1 := Scalar.cmpi .slt v1118 c0_i32_1122
  let c0_i32_1123 : BitVec 32 := 0#32
  let v1121 : BitVec 1 := Scalar.cmpi .slt v1117 c0_i32_1123
  let v1122 : BitVec 1 := Scalar.xori v1120 v1121
  let c0_i32_1121 : BitVec 32 := 0#32
  let v1119 : BitVec 1 := Scalar.cmpi .ne v1118 c0_i32_1121
  let v1123 : BitVec 1 := Scalar.andi v1122 v1119
  let v1124 : BitVec 32 := Scalar.addi v1118 v1117
  let v1125 : BitVec 32 := Scalar.select v1123 v1124 v1118
  let c4_i32_1139 : BitVec 32 := 4#32
  let v1131 : BitVec 32 := Scalar.muli v1125 c4_i32_1139
  let v1132 : BitVec 32 := Scalar.addi v1130 v1131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1140 : BitVec 32 := 1#32
  let v1133 : BitVec 32 := Scalar.muli v8 c1_i32_1140
  let v1134 : BitVec 32 := Scalar.addi v1132 v1133
  v1134.toNat
def k0_dev40 (d0 : Dev nD) : Nat :=
  let c0_i32_1165 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1164 : BitVec 32 := 16#32
  let v1156 : BitVec 32 := Scalar.muli v2 c16_i32_1164
  let v1157 : BitVec 32 := Scalar.addi c0_i32_1165 v1156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1144 : BitVec 32 := 3#32
  let v1142 : BitVec 32 := Scalar.addi v5 c3_i32_1144
  let c4_i32_1145 : BitVec 32 := 4#32
  let c0_i32_1146 : BitVec 32 := 0#32
  let v1143 : BitVec 1 := Scalar.cmpi .eq c4_i32_1145 c0_i32_1146
  let c1_i32_1147 : BitVec 32 := 1#32
  let v1144 : BitVec 32 := Scalar.select v1143 c1_i32_1147 c4_i32_1145
  let v1145 : BitVec 32 := Scalar.remsi v1142 v1144
  let c0_i32_1149 : BitVec 32 := 0#32
  let v1147 : BitVec 1 := Scalar.cmpi .slt v1145 c0_i32_1149
  let c0_i32_1150 : BitVec 32 := 0#32
  let v1148 : BitVec 1 := Scalar.cmpi .slt v1144 c0_i32_1150
  let v1149 : BitVec 1 := Scalar.xori v1147 v1148
  let c0_i32_1148 : BitVec 32 := 0#32
  let v1146 : BitVec 1 := Scalar.cmpi .ne v1145 c0_i32_1148
  let v1150 : BitVec 1 := Scalar.andi v1149 v1146
  let v1151 : BitVec 32 := Scalar.addi v1145 v1144
  let v1152 : BitVec 32 := Scalar.select v1150 v1151 v1145
  let c4_i32_1166 : BitVec 32 := 4#32
  let v1158 : BitVec 32 := Scalar.muli v1152 c4_i32_1166
  let v1159 : BitVec 32 := Scalar.addi v1157 v1158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1167 : BitVec 32 := 1#32
  let v1160 : BitVec 32 := Scalar.muli v8 c1_i32_1167
  let v1161 : BitVec 32 := Scalar.addi v1159 v1160
  v1161.toNat
def k0_dev41 (d0 : Dev nD) : Nat :=
  let c0_i32_1260 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1259 : BitVec 32 := 16#32
  let v1234 : BitVec 32 := Scalar.muli v2 c16_i32_1259
  let v1235 : BitVec 32 := Scalar.addi c0_i32_1260 v1234
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1261 : BitVec 32 := 4#32
  let v1236 : BitVec 32 := Scalar.muli v5 c4_i32_1261
  let v1237 : BitVec 32 := Scalar.addi v1235 v1236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1239 : BitVec 32 := 1#32
  let v1220 : BitVec 32 := Scalar.addi v8 c1_i32_1239
  let c4_i32_1240 : BitVec 32 := 4#32
  let c0_i32_1241 : BitVec 32 := 0#32
  let v1221 : BitVec 1 := Scalar.cmpi .eq c4_i32_1240 c0_i32_1241
  let c1_i32_1242 : BitVec 32 := 1#32
  let v1222 : BitVec 32 := Scalar.select v1221 c1_i32_1242 c4_i32_1240
  let v1223 : BitVec 32 := Scalar.remsi v1220 v1222
  let c0_i32_1244 : BitVec 32 := 0#32
  let v1225 : BitVec 1 := Scalar.cmpi .slt v1223 c0_i32_1244
  let c0_i32_1245 : BitVec 32 := 0#32
  let v1226 : BitVec 1 := Scalar.cmpi .slt v1222 c0_i32_1245
  let v1227 : BitVec 1 := Scalar.xori v1225 v1226
  let c0_i32_1243 : BitVec 32 := 0#32
  let v1224 : BitVec 1 := Scalar.cmpi .ne v1223 c0_i32_1243
  let v1228 : BitVec 1 := Scalar.andi v1227 v1224
  let v1229 : BitVec 32 := Scalar.addi v1223 v1222
  let v1230 : BitVec 32 := Scalar.select v1228 v1229 v1223
  let c1_i32_1262 : BitVec 32 := 1#32
  let v1238 : BitVec 32 := Scalar.muli v1230 c1_i32_1262
  let v1239 : BitVec 32 := Scalar.addi v1237 v1238
  v1239.toNat
def k0_dev42 (d0 : Dev nD) : Nat :=
  let c0_i32_1287 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1286 : BitVec 32 := 16#32
  let v1261 : BitVec 32 := Scalar.muli v2 c16_i32_1286
  let v1262 : BitVec 32 := Scalar.addi c0_i32_1287 v1261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1288 : BitVec 32 := 4#32
  let v1263 : BitVec 32 := Scalar.muli v5 c4_i32_1288
  let v1264 : BitVec 32 := Scalar.addi v1262 v1263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1266 : BitVec 32 := 2#32
  let v1247 : BitVec 32 := Scalar.addi v8 c2_i32_1266
  let c4_i32_1267 : BitVec 32 := 4#32
  let c0_i32_1268 : BitVec 32 := 0#32
  let v1248 : BitVec 1 := Scalar.cmpi .eq c4_i32_1267 c0_i32_1268
  let c1_i32_1269 : BitVec 32 := 1#32
  let v1249 : BitVec 32 := Scalar.select v1248 c1_i32_1269 c4_i32_1267
  let v1250 : BitVec 32 := Scalar.remsi v1247 v1249
  let c0_i32_1271 : BitVec 32 := 0#32
  let v1252 : BitVec 1 := Scalar.cmpi .slt v1250 c0_i32_1271
  let c0_i32_1272 : BitVec 32 := 0#32
  let v1253 : BitVec 1 := Scalar.cmpi .slt v1249 c0_i32_1272
  let v1254 : BitVec 1 := Scalar.xori v1252 v1253
  let c0_i32_1270 : BitVec 32 := 0#32
  let v1251 : BitVec 1 := Scalar.cmpi .ne v1250 c0_i32_1270
  let v1255 : BitVec 1 := Scalar.andi v1254 v1251
  let v1256 : BitVec 32 := Scalar.addi v1250 v1249
  let v1257 : BitVec 32 := Scalar.select v1255 v1256 v1250
  let c1_i32_1289 : BitVec 32 := 1#32
  let v1265 : BitVec 32 := Scalar.muli v1257 c1_i32_1289
  let v1266 : BitVec 32 := Scalar.addi v1264 v1265
  v1266.toNat
def k0_dev43 (d0 : Dev nD) : Nat :=
  let c0_i32_1314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1313 : BitVec 32 := 16#32
  let v1288 : BitVec 32 := Scalar.muli v2 c16_i32_1313
  let v1289 : BitVec 32 := Scalar.addi c0_i32_1314 v1288
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1315 : BitVec 32 := 4#32
  let v1290 : BitVec 32 := Scalar.muli v5 c4_i32_1315
  let v1291 : BitVec 32 := Scalar.addi v1289 v1290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1293 : BitVec 32 := 3#32
  let v1274 : BitVec 32 := Scalar.addi v8 c3_i32_1293
  let c4_i32_1294 : BitVec 32 := 4#32
  let c0_i32_1295 : BitVec 32 := 0#32
  let v1275 : BitVec 1 := Scalar.cmpi .eq c4_i32_1294 c0_i32_1295
  let c1_i32_1296 : BitVec 32 := 1#32
  let v1276 : BitVec 32 := Scalar.select v1275 c1_i32_1296 c4_i32_1294
  let v1277 : BitVec 32 := Scalar.remsi v1274 v1276
  let c0_i32_1298 : BitVec 32 := 0#32
  let v1279 : BitVec 1 := Scalar.cmpi .slt v1277 c0_i32_1298
  let c0_i32_1299 : BitVec 32 := 0#32
  let v1280 : BitVec 1 := Scalar.cmpi .slt v1276 c0_i32_1299
  let v1281 : BitVec 1 := Scalar.xori v1279 v1280
  let c0_i32_1297 : BitVec 32 := 0#32
  let v1278 : BitVec 1 := Scalar.cmpi .ne v1277 c0_i32_1297
  let v1282 : BitVec 1 := Scalar.andi v1281 v1278
  let v1283 : BitVec 32 := Scalar.addi v1277 v1276
  let v1284 : BitVec 32 := Scalar.select v1282 v1283 v1277
  let c1_i32_1316 : BitVec 32 := 1#32
  let v1292 : BitVec 32 := Scalar.muli v1284 c1_i32_1316
  let v1293 : BitVec 32 := Scalar.addi v1291 v1292
  v1293.toNat
def k0_dev44 (d0 : Dev nD) : Nat :=
  let c0_i32_1408 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1407 : BitVec 32 := 16#32
  let v1366 : BitVec 32 := Scalar.muli v2 c16_i32_1407
  let v1367 : BitVec 32 := Scalar.addi c0_i32_1408 v1366
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1387 : BitVec 32 := 1#32
  let v1352 : BitVec 32 := Scalar.addi v5 c1_i32_1387
  let c4_i32_1388 : BitVec 32 := 4#32
  let c0_i32_1389 : BitVec 32 := 0#32
  let v1353 : BitVec 1 := Scalar.cmpi .eq c4_i32_1388 c0_i32_1389
  let c1_i32_1390 : BitVec 32 := 1#32
  let v1354 : BitVec 32 := Scalar.select v1353 c1_i32_1390 c4_i32_1388
  let v1355 : BitVec 32 := Scalar.remsi v1352 v1354
  let c0_i32_1392 : BitVec 32 := 0#32
  let v1357 : BitVec 1 := Scalar.cmpi .slt v1355 c0_i32_1392
  let c0_i32_1393 : BitVec 32 := 0#32
  let v1358 : BitVec 1 := Scalar.cmpi .slt v1354 c0_i32_1393
  let v1359 : BitVec 1 := Scalar.xori v1357 v1358
  let c0_i32_1391 : BitVec 32 := 0#32
  let v1356 : BitVec 1 := Scalar.cmpi .ne v1355 c0_i32_1391
  let v1360 : BitVec 1 := Scalar.andi v1359 v1356
  let v1361 : BitVec 32 := Scalar.addi v1355 v1354
  let v1362 : BitVec 32 := Scalar.select v1360 v1361 v1355
  let c4_i32_1409 : BitVec 32 := 4#32
  let v1368 : BitVec 32 := Scalar.muli v1362 c4_i32_1409
  let v1369 : BitVec 32 := Scalar.addi v1367 v1368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1410 : BitVec 32 := 1#32
  let v1370 : BitVec 32 := Scalar.muli v8 c1_i32_1410
  let v1371 : BitVec 32 := Scalar.addi v1369 v1370
  v1371.toNat
def k0_dev45 (d0 : Dev nD) : Nat :=
  let c0_i32_1435 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1434 : BitVec 32 := 16#32
  let v1393 : BitVec 32 := Scalar.muli v2 c16_i32_1434
  let v1394 : BitVec 32 := Scalar.addi c0_i32_1435 v1393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1414 : BitVec 32 := 2#32
  let v1379 : BitVec 32 := Scalar.addi v5 c2_i32_1414
  let c4_i32_1415 : BitVec 32 := 4#32
  let c0_i32_1416 : BitVec 32 := 0#32
  let v1380 : BitVec 1 := Scalar.cmpi .eq c4_i32_1415 c0_i32_1416
  let c1_i32_1417 : BitVec 32 := 1#32
  let v1381 : BitVec 32 := Scalar.select v1380 c1_i32_1417 c4_i32_1415
  let v1382 : BitVec 32 := Scalar.remsi v1379 v1381
  let c0_i32_1419 : BitVec 32 := 0#32
  let v1384 : BitVec 1 := Scalar.cmpi .slt v1382 c0_i32_1419
  let c0_i32_1420 : BitVec 32 := 0#32
  let v1385 : BitVec 1 := Scalar.cmpi .slt v1381 c0_i32_1420
  let v1386 : BitVec 1 := Scalar.xori v1384 v1385
  let c0_i32_1418 : BitVec 32 := 0#32
  let v1383 : BitVec 1 := Scalar.cmpi .ne v1382 c0_i32_1418
  let v1387 : BitVec 1 := Scalar.andi v1386 v1383
  let v1388 : BitVec 32 := Scalar.addi v1382 v1381
  let v1389 : BitVec 32 := Scalar.select v1387 v1388 v1382
  let c4_i32_1436 : BitVec 32 := 4#32
  let v1395 : BitVec 32 := Scalar.muli v1389 c4_i32_1436
  let v1396 : BitVec 32 := Scalar.addi v1394 v1395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1437 : BitVec 32 := 1#32
  let v1397 : BitVec 32 := Scalar.muli v8 c1_i32_1437
  let v1398 : BitVec 32 := Scalar.addi v1396 v1397
  v1398.toNat
def k0_dev46 (d0 : Dev nD) : Nat :=
  let c0_i32_1462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1461 : BitVec 32 := 16#32
  let v1420 : BitVec 32 := Scalar.muli v2 c16_i32_1461
  let v1421 : BitVec 32 := Scalar.addi c0_i32_1462 v1420
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1441 : BitVec 32 := 3#32
  let v1406 : BitVec 32 := Scalar.addi v5 c3_i32_1441
  let c4_i32_1442 : BitVec 32 := 4#32
  let c0_i32_1443 : BitVec 32 := 0#32
  let v1407 : BitVec 1 := Scalar.cmpi .eq c4_i32_1442 c0_i32_1443
  let c1_i32_1444 : BitVec 32 := 1#32
  let v1408 : BitVec 32 := Scalar.select v1407 c1_i32_1444 c4_i32_1442
  let v1409 : BitVec 32 := Scalar.remsi v1406 v1408
  let c0_i32_1446 : BitVec 32 := 0#32
  let v1411 : BitVec 1 := Scalar.cmpi .slt v1409 c0_i32_1446
  let c0_i32_1447 : BitVec 32 := 0#32
  let v1412 : BitVec 1 := Scalar.cmpi .slt v1408 c0_i32_1447
  let v1413 : BitVec 1 := Scalar.xori v1411 v1412
  let c0_i32_1445 : BitVec 32 := 0#32
  let v1410 : BitVec 1 := Scalar.cmpi .ne v1409 c0_i32_1445
  let v1414 : BitVec 1 := Scalar.andi v1413 v1410
  let v1415 : BitVec 32 := Scalar.addi v1409 v1408
  let v1416 : BitVec 32 := Scalar.select v1414 v1415 v1409
  let c4_i32_1463 : BitVec 32 := 4#32
  let v1422 : BitVec 32 := Scalar.muli v1416 c4_i32_1463
  let v1423 : BitVec 32 := Scalar.addi v1421 v1422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1464 : BitVec 32 := 1#32
  let v1424 : BitVec 32 := Scalar.muli v8 c1_i32_1464
  let v1425 : BitVec 32 := Scalar.addi v1423 v1424
  v1425.toNat
def k0_dev47 (d0 : Dev nD) : Nat :=
  let c0_i32_1557 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1556 : BitVec 32 := 16#32
  let v1498 : BitVec 32 := Scalar.muli v2 c16_i32_1556
  let v1499 : BitVec 32 := Scalar.addi c0_i32_1557 v1498
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1558 : BitVec 32 := 4#32
  let v1500 : BitVec 32 := Scalar.muli v5 c4_i32_1558
  let v1501 : BitVec 32 := Scalar.addi v1499 v1500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1536 : BitVec 32 := 1#32
  let v1484 : BitVec 32 := Scalar.addi v8 c1_i32_1536
  let c4_i32_1537 : BitVec 32 := 4#32
  let c0_i32_1538 : BitVec 32 := 0#32
  let v1485 : BitVec 1 := Scalar.cmpi .eq c4_i32_1537 c0_i32_1538
  let c1_i32_1539 : BitVec 32 := 1#32
  let v1486 : BitVec 32 := Scalar.select v1485 c1_i32_1539 c4_i32_1537
  let v1487 : BitVec 32 := Scalar.remsi v1484 v1486
  let c0_i32_1541 : BitVec 32 := 0#32
  let v1489 : BitVec 1 := Scalar.cmpi .slt v1487 c0_i32_1541
  let c0_i32_1542 : BitVec 32 := 0#32
  let v1490 : BitVec 1 := Scalar.cmpi .slt v1486 c0_i32_1542
  let v1491 : BitVec 1 := Scalar.xori v1489 v1490
  let c0_i32_1540 : BitVec 32 := 0#32
  let v1488 : BitVec 1 := Scalar.cmpi .ne v1487 c0_i32_1540
  let v1492 : BitVec 1 := Scalar.andi v1491 v1488
  let v1493 : BitVec 32 := Scalar.addi v1487 v1486
  let v1494 : BitVec 32 := Scalar.select v1492 v1493 v1487
  let c1_i32_1559 : BitVec 32 := 1#32
  let v1502 : BitVec 32 := Scalar.muli v1494 c1_i32_1559
  let v1503 : BitVec 32 := Scalar.addi v1501 v1502
  v1503.toNat
def k0_dev48 (d0 : Dev nD) : Nat :=
  let c0_i32_1584 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1583 : BitVec 32 := 16#32
  let v1525 : BitVec 32 := Scalar.muli v2 c16_i32_1583
  let v1526 : BitVec 32 := Scalar.addi c0_i32_1584 v1525
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1585 : BitVec 32 := 4#32
  let v1527 : BitVec 32 := Scalar.muli v5 c4_i32_1585
  let v1528 : BitVec 32 := Scalar.addi v1526 v1527
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1563 : BitVec 32 := 2#32
  let v1511 : BitVec 32 := Scalar.addi v8 c2_i32_1563
  let c4_i32_1564 : BitVec 32 := 4#32
  let c0_i32_1565 : BitVec 32 := 0#32
  let v1512 : BitVec 1 := Scalar.cmpi .eq c4_i32_1564 c0_i32_1565
  let c1_i32_1566 : BitVec 32 := 1#32
  let v1513 : BitVec 32 := Scalar.select v1512 c1_i32_1566 c4_i32_1564
  let v1514 : BitVec 32 := Scalar.remsi v1511 v1513
  let c0_i32_1568 : BitVec 32 := 0#32
  let v1516 : BitVec 1 := Scalar.cmpi .slt v1514 c0_i32_1568
  let c0_i32_1569 : BitVec 32 := 0#32
  let v1517 : BitVec 1 := Scalar.cmpi .slt v1513 c0_i32_1569
  let v1518 : BitVec 1 := Scalar.xori v1516 v1517
  let c0_i32_1567 : BitVec 32 := 0#32
  let v1515 : BitVec 1 := Scalar.cmpi .ne v1514 c0_i32_1567
  let v1519 : BitVec 1 := Scalar.andi v1518 v1515
  let v1520 : BitVec 32 := Scalar.addi v1514 v1513
  let v1521 : BitVec 32 := Scalar.select v1519 v1520 v1514
  let c1_i32_1586 : BitVec 32 := 1#32
  let v1529 : BitVec 32 := Scalar.muli v1521 c1_i32_1586
  let v1530 : BitVec 32 := Scalar.addi v1528 v1529
  v1530.toNat
def k0_dev49 (d0 : Dev nD) : Nat :=
  let c0_i32_1611 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1610 : BitVec 32 := 16#32
  let v1552 : BitVec 32 := Scalar.muli v2 c16_i32_1610
  let v1553 : BitVec 32 := Scalar.addi c0_i32_1611 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1612 : BitVec 32 := 4#32
  let v1554 : BitVec 32 := Scalar.muli v5 c4_i32_1612
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1590 : BitVec 32 := 3#32
  let v1538 : BitVec 32 := Scalar.addi v8 c3_i32_1590
  let c4_i32_1591 : BitVec 32 := 4#32
  let c0_i32_1592 : BitVec 32 := 0#32
  let v1539 : BitVec 1 := Scalar.cmpi .eq c4_i32_1591 c0_i32_1592
  let c1_i32_1593 : BitVec 32 := 1#32
  let v1540 : BitVec 32 := Scalar.select v1539 c1_i32_1593 c4_i32_1591
  let v1541 : BitVec 32 := Scalar.remsi v1538 v1540
  let c0_i32_1595 : BitVec 32 := 0#32
  let v1543 : BitVec 1 := Scalar.cmpi .slt v1541 c0_i32_1595
  let c0_i32_1596 : BitVec 32 := 0#32
  let v1544 : BitVec 1 := Scalar.cmpi .slt v1540 c0_i32_1596
  let v1545 : BitVec 1 := Scalar.xori v1543 v1544
  let c0_i32_1594 : BitVec 32 := 0#32
  let v1542 : BitVec 1 := Scalar.cmpi .ne v1541 c0_i32_1594
  let v1546 : BitVec 1 := Scalar.andi v1545 v1542
  let v1547 : BitVec 32 := Scalar.addi v1541 v1540
  let v1548 : BitVec 32 := Scalar.select v1546 v1547 v1541
  let c1_i32_1613 : BitVec 32 := 1#32
  let v1556 : BitVec 32 := Scalar.muli v1548 c1_i32_1613
  let v1557 : BitVec 32 := Scalar.addi v1555 v1556
  v1557.toNat
def k0_dev50 (d0 : Dev nD) : Nat :=
  let c0_i32_1705 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1704 : BitVec 32 := 16#32
  let v1630 : BitVec 32 := Scalar.muli v2 c16_i32_1704
  let v1631 : BitVec 32 := Scalar.addi c0_i32_1705 v1630
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1684 : BitVec 32 := 1#32
  let v1616 : BitVec 32 := Scalar.addi v5 c1_i32_1684
  let c4_i32_1685 : BitVec 32 := 4#32
  let c0_i32_1686 : BitVec 32 := 0#32
  let v1617 : BitVec 1 := Scalar.cmpi .eq c4_i32_1685 c0_i32_1686
  let c1_i32_1687 : BitVec 32 := 1#32
  let v1618 : BitVec 32 := Scalar.select v1617 c1_i32_1687 c4_i32_1685
  let v1619 : BitVec 32 := Scalar.remsi v1616 v1618
  let c0_i32_1689 : BitVec 32 := 0#32
  let v1621 : BitVec 1 := Scalar.cmpi .slt v1619 c0_i32_1689
  let c0_i32_1690 : BitVec 32 := 0#32
  let v1622 : BitVec 1 := Scalar.cmpi .slt v1618 c0_i32_1690
  let v1623 : BitVec 1 := Scalar.xori v1621 v1622
  let c0_i32_1688 : BitVec 32 := 0#32
  let v1620 : BitVec 1 := Scalar.cmpi .ne v1619 c0_i32_1688
  let v1624 : BitVec 1 := Scalar.andi v1623 v1620
  let v1625 : BitVec 32 := Scalar.addi v1619 v1618
  let v1626 : BitVec 32 := Scalar.select v1624 v1625 v1619
  let c4_i32_1706 : BitVec 32 := 4#32
  let v1632 : BitVec 32 := Scalar.muli v1626 c4_i32_1706
  let v1633 : BitVec 32 := Scalar.addi v1631 v1632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1707 : BitVec 32 := 1#32
  let v1634 : BitVec 32 := Scalar.muli v8 c1_i32_1707
  let v1635 : BitVec 32 := Scalar.addi v1633 v1634
  v1635.toNat
def k0_dev51 (d0 : Dev nD) : Nat :=
  let c0_i32_1732 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1731 : BitVec 32 := 16#32
  let v1657 : BitVec 32 := Scalar.muli v2 c16_i32_1731
  let v1658 : BitVec 32 := Scalar.addi c0_i32_1732 v1657
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1711 : BitVec 32 := 2#32
  let v1643 : BitVec 32 := Scalar.addi v5 c2_i32_1711
  let c4_i32_1712 : BitVec 32 := 4#32
  let c0_i32_1713 : BitVec 32 := 0#32
  let v1644 : BitVec 1 := Scalar.cmpi .eq c4_i32_1712 c0_i32_1713
  let c1_i32_1714 : BitVec 32 := 1#32
  let v1645 : BitVec 32 := Scalar.select v1644 c1_i32_1714 c4_i32_1712
  let v1646 : BitVec 32 := Scalar.remsi v1643 v1645
  let c0_i32_1716 : BitVec 32 := 0#32
  let v1648 : BitVec 1 := Scalar.cmpi .slt v1646 c0_i32_1716
  let c0_i32_1717 : BitVec 32 := 0#32
  let v1649 : BitVec 1 := Scalar.cmpi .slt v1645 c0_i32_1717
  let v1650 : BitVec 1 := Scalar.xori v1648 v1649
  let c0_i32_1715 : BitVec 32 := 0#32
  let v1647 : BitVec 1 := Scalar.cmpi .ne v1646 c0_i32_1715
  let v1651 : BitVec 1 := Scalar.andi v1650 v1647
  let v1652 : BitVec 32 := Scalar.addi v1646 v1645
  let v1653 : BitVec 32 := Scalar.select v1651 v1652 v1646
  let c4_i32_1733 : BitVec 32 := 4#32
  let v1659 : BitVec 32 := Scalar.muli v1653 c4_i32_1733
  let v1660 : BitVec 32 := Scalar.addi v1658 v1659
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1734 : BitVec 32 := 1#32
  let v1661 : BitVec 32 := Scalar.muli v8 c1_i32_1734
  let v1662 : BitVec 32 := Scalar.addi v1660 v1661
  v1662.toNat
def k0_dev52 (d0 : Dev nD) : Nat :=
  let c0_i32_1759 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1758 : BitVec 32 := 16#32
  let v1684 : BitVec 32 := Scalar.muli v2 c16_i32_1758
  let v1685 : BitVec 32 := Scalar.addi c0_i32_1759 v1684
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1738 : BitVec 32 := 3#32
  let v1670 : BitVec 32 := Scalar.addi v5 c3_i32_1738
  let c4_i32_1739 : BitVec 32 := 4#32
  let c0_i32_1740 : BitVec 32 := 0#32
  let v1671 : BitVec 1 := Scalar.cmpi .eq c4_i32_1739 c0_i32_1740
  let c1_i32_1741 : BitVec 32 := 1#32
  let v1672 : BitVec 32 := Scalar.select v1671 c1_i32_1741 c4_i32_1739
  let v1673 : BitVec 32 := Scalar.remsi v1670 v1672
  let c0_i32_1743 : BitVec 32 := 0#32
  let v1675 : BitVec 1 := Scalar.cmpi .slt v1673 c0_i32_1743
  let c0_i32_1744 : BitVec 32 := 0#32
  let v1676 : BitVec 1 := Scalar.cmpi .slt v1672 c0_i32_1744
  let v1677 : BitVec 1 := Scalar.xori v1675 v1676
  let c0_i32_1742 : BitVec 32 := 0#32
  let v1674 : BitVec 1 := Scalar.cmpi .ne v1673 c0_i32_1742
  let v1678 : BitVec 1 := Scalar.andi v1677 v1674
  let v1679 : BitVec 32 := Scalar.addi v1673 v1672
  let v1680 : BitVec 32 := Scalar.select v1678 v1679 v1673
  let c4_i32_1760 : BitVec 32 := 4#32
  let v1686 : BitVec 32 := Scalar.muli v1680 c4_i32_1760
  let v1687 : BitVec 32 := Scalar.addi v1685 v1686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1761 : BitVec 32 := 1#32
  let v1688 : BitVec 32 := Scalar.muli v8 c1_i32_1761
  let v1689 : BitVec 32 := Scalar.addi v1687 v1688
  v1689.toNat
def k0_dev53 (d0 : Dev nD) : Nat :=
  let c0_i32_1854 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1853 : BitVec 32 := 16#32
  let v1762 : BitVec 32 := Scalar.muli v2 c16_i32_1853
  let v1763 : BitVec 32 := Scalar.addi c0_i32_1854 v1762
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1855 : BitVec 32 := 4#32
  let v1764 : BitVec 32 := Scalar.muli v5 c4_i32_1855
  let v1765 : BitVec 32 := Scalar.addi v1763 v1764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1833 : BitVec 32 := 1#32
  let v1748 : BitVec 32 := Scalar.addi v8 c1_i32_1833
  let c4_i32_1834 : BitVec 32 := 4#32
  let c0_i32_1835 : BitVec 32 := 0#32
  let v1749 : BitVec 1 := Scalar.cmpi .eq c4_i32_1834 c0_i32_1835
  let c1_i32_1836 : BitVec 32 := 1#32
  let v1750 : BitVec 32 := Scalar.select v1749 c1_i32_1836 c4_i32_1834
  let v1751 : BitVec 32 := Scalar.remsi v1748 v1750
  let c0_i32_1838 : BitVec 32 := 0#32
  let v1753 : BitVec 1 := Scalar.cmpi .slt v1751 c0_i32_1838
  let c0_i32_1839 : BitVec 32 := 0#32
  let v1754 : BitVec 1 := Scalar.cmpi .slt v1750 c0_i32_1839
  let v1755 : BitVec 1 := Scalar.xori v1753 v1754
  let c0_i32_1837 : BitVec 32 := 0#32
  let v1752 : BitVec 1 := Scalar.cmpi .ne v1751 c0_i32_1837
  let v1756 : BitVec 1 := Scalar.andi v1755 v1752
  let v1757 : BitVec 32 := Scalar.addi v1751 v1750
  let v1758 : BitVec 32 := Scalar.select v1756 v1757 v1751
  let c1_i32_1856 : BitVec 32 := 1#32
  let v1766 : BitVec 32 := Scalar.muli v1758 c1_i32_1856
  let v1767 : BitVec 32 := Scalar.addi v1765 v1766
  v1767.toNat
def k0_dev54 (d0 : Dev nD) : Nat :=
  let c0_i32_1881 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1880 : BitVec 32 := 16#32
  let v1789 : BitVec 32 := Scalar.muli v2 c16_i32_1880
  let v1790 : BitVec 32 := Scalar.addi c0_i32_1881 v1789
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1882 : BitVec 32 := 4#32
  let v1791 : BitVec 32 := Scalar.muli v5 c4_i32_1882
  let v1792 : BitVec 32 := Scalar.addi v1790 v1791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1860 : BitVec 32 := 2#32
  let v1775 : BitVec 32 := Scalar.addi v8 c2_i32_1860
  let c4_i32_1861 : BitVec 32 := 4#32
  let c0_i32_1862 : BitVec 32 := 0#32
  let v1776 : BitVec 1 := Scalar.cmpi .eq c4_i32_1861 c0_i32_1862
  let c1_i32_1863 : BitVec 32 := 1#32
  let v1777 : BitVec 32 := Scalar.select v1776 c1_i32_1863 c4_i32_1861
  let v1778 : BitVec 32 := Scalar.remsi v1775 v1777
  let c0_i32_1865 : BitVec 32 := 0#32
  let v1780 : BitVec 1 := Scalar.cmpi .slt v1778 c0_i32_1865
  let c0_i32_1866 : BitVec 32 := 0#32
  let v1781 : BitVec 1 := Scalar.cmpi .slt v1777 c0_i32_1866
  let v1782 : BitVec 1 := Scalar.xori v1780 v1781
  let c0_i32_1864 : BitVec 32 := 0#32
  let v1779 : BitVec 1 := Scalar.cmpi .ne v1778 c0_i32_1864
  let v1783 : BitVec 1 := Scalar.andi v1782 v1779
  let v1784 : BitVec 32 := Scalar.addi v1778 v1777
  let v1785 : BitVec 32 := Scalar.select v1783 v1784 v1778
  let c1_i32_1883 : BitVec 32 := 1#32
  let v1793 : BitVec 32 := Scalar.muli v1785 c1_i32_1883
  let v1794 : BitVec 32 := Scalar.addi v1792 v1793
  v1794.toNat
def k0_dev55 (d0 : Dev nD) : Nat :=
  let c0_i32_1908 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1907 : BitVec 32 := 16#32
  let v1816 : BitVec 32 := Scalar.muli v2 c16_i32_1907
  let v1817 : BitVec 32 := Scalar.addi c0_i32_1908 v1816
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1909 : BitVec 32 := 4#32
  let v1818 : BitVec 32 := Scalar.muli v5 c4_i32_1909
  let v1819 : BitVec 32 := Scalar.addi v1817 v1818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1887 : BitVec 32 := 3#32
  let v1802 : BitVec 32 := Scalar.addi v8 c3_i32_1887
  let c4_i32_1888 : BitVec 32 := 4#32
  let c0_i32_1889 : BitVec 32 := 0#32
  let v1803 : BitVec 1 := Scalar.cmpi .eq c4_i32_1888 c0_i32_1889
  let c1_i32_1890 : BitVec 32 := 1#32
  let v1804 : BitVec 32 := Scalar.select v1803 c1_i32_1890 c4_i32_1888
  let v1805 : BitVec 32 := Scalar.remsi v1802 v1804
  let c0_i32_1892 : BitVec 32 := 0#32
  let v1807 : BitVec 1 := Scalar.cmpi .slt v1805 c0_i32_1892
  let c0_i32_1893 : BitVec 32 := 0#32
  let v1808 : BitVec 1 := Scalar.cmpi .slt v1804 c0_i32_1893
  let v1809 : BitVec 1 := Scalar.xori v1807 v1808
  let c0_i32_1891 : BitVec 32 := 0#32
  let v1806 : BitVec 1 := Scalar.cmpi .ne v1805 c0_i32_1891
  let v1810 : BitVec 1 := Scalar.andi v1809 v1806
  let v1811 : BitVec 32 := Scalar.addi v1805 v1804
  let v1812 : BitVec 32 := Scalar.select v1810 v1811 v1805
  let c1_i32_1910 : BitVec 32 := 1#32
  let v1820 : BitVec 32 := Scalar.muli v1812 c1_i32_1910
  let v1821 : BitVec 32 := Scalar.addi v1819 v1820
  v1821.toNat
def k0_dev56 (d0 : Dev nD) : Nat :=
  let c0_i32_2034 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2033 : BitVec 32 := 16#32
  let v1898 : BitVec 32 := Scalar.muli v9 c16_i32_2033
  let v1899 : BitVec 32 := Scalar.addi c0_i32_2034 v1898
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2035 : BitVec 32 := 4#32
  let v1900 : BitVec 32 := Scalar.muli v5 c4_i32_2035
  let v1901 : BitVec 32 := Scalar.addi v1899 v1900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2036 : BitVec 32 := 1#32
  let v1902 : BitVec 32 := Scalar.muli v8 c1_i32_2036
  let v1903 : BitVec 32 := Scalar.addi v1901 v1902
  v1903.toNat
def k0_dev57 (d0 : Dev nD) : Nat :=
  let c0_i32_2164 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2163 : BitVec 32 := 16#32
  let v1980 : BitVec 32 := Scalar.muli v9 c16_i32_2163
  let v1981 : BitVec 32 := Scalar.addi c0_i32_2164 v1980
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2165 : BitVec 32 := 4#32
  let v1982 : BitVec 32 := Scalar.muli v5 c4_i32_2165
  let v1983 : BitVec 32 := Scalar.addi v1981 v1982
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2166 : BitVec 32 := 1#32
  let v1984 : BitVec 32 := Scalar.muli v8 c1_i32_2166
  let v1985 : BitVec 32 := Scalar.addi v1983 v1984
  v1985.toNat
def k0_dev58 (d0 : Dev nD) : Nat :=
  let c0_i32_2294 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2293 : BitVec 32 := 16#32
  let v2062 : BitVec 32 := Scalar.muli v9 c16_i32_2293
  let v2063 : BitVec 32 := Scalar.addi c0_i32_2294 v2062
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2295 : BitVec 32 := 4#32
  let v2064 : BitVec 32 := Scalar.muli v5 c4_i32_2295
  let v2065 : BitVec 32 := Scalar.addi v2063 v2064
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2296 : BitVec 32 := 1#32
  let v2066 : BitVec 32 := Scalar.muli v8 c1_i32_2296
  let v2067 : BitVec 32 := Scalar.addi v2065 v2066
  v2067.toNat
def k0_dev59 (d0 : Dev nD) : Nat :=
  let c0_i32_2424 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2423 : BitVec 32 := 16#32
  let v2144 : BitVec 32 := Scalar.muli v9 c16_i32_2423
  let v2145 : BitVec 32 := Scalar.addi c0_i32_2424 v2144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2425 : BitVec 32 := 4#32
  let v2146 : BitVec 32 := Scalar.muli v5 c4_i32_2425
  let v2147 : BitVec 32 := Scalar.addi v2145 v2146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2426 : BitVec 32 := 1#32
  let v2148 : BitVec 32 := Scalar.muli v8 c1_i32_2426
  let v2149 : BitVec 32 := Scalar.addi v2147 v2148
  v2149.toNat
def k0_dev60 (d0 : Dev nD) : Nat :=
  let c0_i32_2554 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2553 : BitVec 32 := 16#32
  let v2226 : BitVec 32 := Scalar.muli v9 c16_i32_2553
  let v2227 : BitVec 32 := Scalar.addi c0_i32_2554 v2226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2555 : BitVec 32 := 4#32
  let v2228 : BitVec 32 := Scalar.muli v5 c4_i32_2555
  let v2229 : BitVec 32 := Scalar.addi v2227 v2228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2556 : BitVec 32 := 1#32
  let v2230 : BitVec 32 := Scalar.muli v8 c1_i32_2556
  let v2231 : BitVec 32 := Scalar.addi v2229 v2230
  v2231.toNat
def k0_dev61 (d0 : Dev nD) : Nat :=
  let c0_i32_2684 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2683 : BitVec 32 := 16#32
  let v2308 : BitVec 32 := Scalar.muli v9 c16_i32_2683
  let v2309 : BitVec 32 := Scalar.addi c0_i32_2684 v2308
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2685 : BitVec 32 := 4#32
  let v2310 : BitVec 32 := Scalar.muli v5 c4_i32_2685
  let v2311 : BitVec 32 := Scalar.addi v2309 v2310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2686 : BitVec 32 := 1#32
  let v2312 : BitVec 32 := Scalar.muli v8 c1_i32_2686
  let v2313 : BitVec 32 := Scalar.addi v2311 v2312
  v2313.toNat
def k0_dev62 (d0 : Dev nD) : Nat :=
  let c0_i32_2814 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2813 : BitVec 32 := 16#32
  let v2390 : BitVec 32 := Scalar.muli v9 c16_i32_2813
  let v2391 : BitVec 32 := Scalar.addi c0_i32_2814 v2390
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2815 : BitVec 32 := 4#32
  let v2392 : BitVec 32 := Scalar.muli v5 c4_i32_2815
  let v2393 : BitVec 32 := Scalar.addi v2391 v2392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2816 : BitVec 32 := 1#32
  let v2394 : BitVec 32 := Scalar.muli v8 c1_i32_2816
  let v2395 : BitVec 32 := Scalar.addi v2393 v2394
  v2395.toNat
def k0_dev63 (d0 : Dev nD) : Nat :=
  let c0_i32_2944 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_2943 : BitVec 32 := 16#32
  let v2472 : BitVec 32 := Scalar.muli v9 c16_i32_2943
  let v2473 : BitVec 32 := Scalar.addi c0_i32_2944 v2472
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2945 : BitVec 32 := 4#32
  let v2474 : BitVec 32 := Scalar.muli v5 c4_i32_2945
  let v2475 : BitVec 32 := Scalar.addi v2473 v2474
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2946 : BitVec 32 := 1#32
  let v2476 : BitVec 32 := Scalar.muli v8 c1_i32_2946
  let v2477 : BitVec 32 := Scalar.addi v2475 v2476
  v2477.toNat
def k0_dev64 (d0 : Dev nD) : Nat :=
  let c0_i32_3008 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3007 : BitVec 32 := 16#32
  let v2527 : BitVec 32 := Scalar.muli v2 c16_i32_3007
  let v2528 : BitVec 32 := Scalar.addi c0_i32_3008 v2527
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3009 : BitVec 32 := 4#32
  let v2529 : BitVec 32 := Scalar.muli v5 c4_i32_3009
  let v2530 : BitVec 32 := Scalar.addi v2528 v2529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2989 : BitVec 32 := 1#32
  let v2513 : BitVec 32 := Scalar.addi v8 c1_i32_2989
  let c4_i32_2990 : BitVec 32 := 4#32
  let c0_i32_2991 : BitVec 32 := 0#32
  let v2514 : BitVec 1 := Scalar.cmpi .eq c4_i32_2990 c0_i32_2991
  let c1_i32_2992 : BitVec 32 := 1#32
  let v2515 : BitVec 32 := Scalar.select v2514 c1_i32_2992 c4_i32_2990
  let v2516 : BitVec 32 := Scalar.remsi v2513 v2515
  let c0_i32_2994 : BitVec 32 := 0#32
  let v2518 : BitVec 1 := Scalar.cmpi .slt v2516 c0_i32_2994
  let c0_i32_2995 : BitVec 32 := 0#32
  let v2519 : BitVec 1 := Scalar.cmpi .slt v2515 c0_i32_2995
  let v2520 : BitVec 1 := Scalar.xori v2518 v2519
  let c0_i32_2993 : BitVec 32 := 0#32
  let v2517 : BitVec 1 := Scalar.cmpi .ne v2516 c0_i32_2993
  let v2521 : BitVec 1 := Scalar.andi v2520 v2517
  let v2522 : BitVec 32 := Scalar.addi v2516 v2515
  let v2523 : BitVec 32 := Scalar.select v2521 v2522 v2516
  let c1_i32_3010 : BitVec 32 := 1#32
  let v2531 : BitVec 32 := Scalar.muli v2523 c1_i32_3010
  let v2532 : BitVec 32 := Scalar.addi v2530 v2531
  v2532.toNat
def k0_dev65 (d0 : Dev nD) : Nat :=
  let c0_i32_3032 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3031 : BitVec 32 := 16#32
  let v2553 : BitVec 32 := Scalar.muli v2 c16_i32_3031
  let v2554 : BitVec 32 := Scalar.addi c0_i32_3032 v2553
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3033 : BitVec 32 := 4#32
  let v2555 : BitVec 32 := Scalar.muli v5 c4_i32_3033
  let v2556 : BitVec 32 := Scalar.addi v2554 v2555
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3013 : BitVec 32 := 2#32
  let v2539 : BitVec 32 := Scalar.addi v8 c2_i32_3013
  let c4_i32_3014 : BitVec 32 := 4#32
  let c0_i32_3015 : BitVec 32 := 0#32
  let v2540 : BitVec 1 := Scalar.cmpi .eq c4_i32_3014 c0_i32_3015
  let c1_i32_3016 : BitVec 32 := 1#32
  let v2541 : BitVec 32 := Scalar.select v2540 c1_i32_3016 c4_i32_3014
  let v2542 : BitVec 32 := Scalar.remsi v2539 v2541
  let c0_i32_3018 : BitVec 32 := 0#32
  let v2544 : BitVec 1 := Scalar.cmpi .slt v2542 c0_i32_3018
  let c0_i32_3019 : BitVec 32 := 0#32
  let v2545 : BitVec 1 := Scalar.cmpi .slt v2541 c0_i32_3019
  let v2546 : BitVec 1 := Scalar.xori v2544 v2545
  let c0_i32_3017 : BitVec 32 := 0#32
  let v2543 : BitVec 1 := Scalar.cmpi .ne v2542 c0_i32_3017
  let v2547 : BitVec 1 := Scalar.andi v2546 v2543
  let v2548 : BitVec 32 := Scalar.addi v2542 v2541
  let v2549 : BitVec 32 := Scalar.select v2547 v2548 v2542
  let c1_i32_3034 : BitVec 32 := 1#32
  let v2557 : BitVec 32 := Scalar.muli v2549 c1_i32_3034
  let v2558 : BitVec 32 := Scalar.addi v2556 v2557
  v2558.toNat
def k0_dev66 (d0 : Dev nD) : Nat :=
  let c0_i32_3056 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3055 : BitVec 32 := 16#32
  let v2579 : BitVec 32 := Scalar.muli v2 c16_i32_3055
  let v2580 : BitVec 32 := Scalar.addi c0_i32_3056 v2579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3057 : BitVec 32 := 4#32
  let v2581 : BitVec 32 := Scalar.muli v5 c4_i32_3057
  let v2582 : BitVec 32 := Scalar.addi v2580 v2581
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3037 : BitVec 32 := 3#32
  let v2565 : BitVec 32 := Scalar.addi v8 c3_i32_3037
  let c4_i32_3038 : BitVec 32 := 4#32
  let c0_i32_3039 : BitVec 32 := 0#32
  let v2566 : BitVec 1 := Scalar.cmpi .eq c4_i32_3038 c0_i32_3039
  let c1_i32_3040 : BitVec 32 := 1#32
  let v2567 : BitVec 32 := Scalar.select v2566 c1_i32_3040 c4_i32_3038
  let v2568 : BitVec 32 := Scalar.remsi v2565 v2567
  let c0_i32_3042 : BitVec 32 := 0#32
  let v2570 : BitVec 1 := Scalar.cmpi .slt v2568 c0_i32_3042
  let c0_i32_3043 : BitVec 32 := 0#32
  let v2571 : BitVec 1 := Scalar.cmpi .slt v2567 c0_i32_3043
  let v2572 : BitVec 1 := Scalar.xori v2570 v2571
  let c0_i32_3041 : BitVec 32 := 0#32
  let v2569 : BitVec 1 := Scalar.cmpi .ne v2568 c0_i32_3041
  let v2573 : BitVec 1 := Scalar.andi v2572 v2569
  let v2574 : BitVec 32 := Scalar.addi v2568 v2567
  let v2575 : BitVec 32 := Scalar.select v2573 v2574 v2568
  let c1_i32_3058 : BitVec 32 := 1#32
  let v2583 : BitVec 32 := Scalar.muli v2575 c1_i32_3058
  let v2584 : BitVec 32 := Scalar.addi v2582 v2583
  v2584.toNat
def k0_dev67 (d0 : Dev nD) : Nat :=
  let c0_i32_3120 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3119 : BitVec 32 := 16#32
  let v2633 : BitVec 32 := Scalar.muli v2 c16_i32_3119
  let v2634 : BitVec 32 := Scalar.addi c0_i32_3120 v2633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3101 : BitVec 32 := 1#32
  let v2619 : BitVec 32 := Scalar.addi v5 c1_i32_3101
  let c4_i32_3102 : BitVec 32 := 4#32
  let c0_i32_3103 : BitVec 32 := 0#32
  let v2620 : BitVec 1 := Scalar.cmpi .eq c4_i32_3102 c0_i32_3103
  let c1_i32_3104 : BitVec 32 := 1#32
  let v2621 : BitVec 32 := Scalar.select v2620 c1_i32_3104 c4_i32_3102
  let v2622 : BitVec 32 := Scalar.remsi v2619 v2621
  let c0_i32_3106 : BitVec 32 := 0#32
  let v2624 : BitVec 1 := Scalar.cmpi .slt v2622 c0_i32_3106
  let c0_i32_3107 : BitVec 32 := 0#32
  let v2625 : BitVec 1 := Scalar.cmpi .slt v2621 c0_i32_3107
  let v2626 : BitVec 1 := Scalar.xori v2624 v2625
  let c0_i32_3105 : BitVec 32 := 0#32
  let v2623 : BitVec 1 := Scalar.cmpi .ne v2622 c0_i32_3105
  let v2627 : BitVec 1 := Scalar.andi v2626 v2623
  let v2628 : BitVec 32 := Scalar.addi v2622 v2621
  let v2629 : BitVec 32 := Scalar.select v2627 v2628 v2622
  let c4_i32_3121 : BitVec 32 := 4#32
  let v2635 : BitVec 32 := Scalar.muli v2629 c4_i32_3121
  let v2636 : BitVec 32 := Scalar.addi v2634 v2635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3122 : BitVec 32 := 1#32
  let v2637 : BitVec 32 := Scalar.muli v8 c1_i32_3122
  let v2638 : BitVec 32 := Scalar.addi v2636 v2637
  v2638.toNat
def k0_dev68 (d0 : Dev nD) : Nat :=
  let c0_i32_3144 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3143 : BitVec 32 := 16#32
  let v2659 : BitVec 32 := Scalar.muli v2 c16_i32_3143
  let v2660 : BitVec 32 := Scalar.addi c0_i32_3144 v2659
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3125 : BitVec 32 := 2#32
  let v2645 : BitVec 32 := Scalar.addi v5 c2_i32_3125
  let c4_i32_3126 : BitVec 32 := 4#32
  let c0_i32_3127 : BitVec 32 := 0#32
  let v2646 : BitVec 1 := Scalar.cmpi .eq c4_i32_3126 c0_i32_3127
  let c1_i32_3128 : BitVec 32 := 1#32
  let v2647 : BitVec 32 := Scalar.select v2646 c1_i32_3128 c4_i32_3126
  let v2648 : BitVec 32 := Scalar.remsi v2645 v2647
  let c0_i32_3130 : BitVec 32 := 0#32
  let v2650 : BitVec 1 := Scalar.cmpi .slt v2648 c0_i32_3130
  let c0_i32_3131 : BitVec 32 := 0#32
  let v2651 : BitVec 1 := Scalar.cmpi .slt v2647 c0_i32_3131
  let v2652 : BitVec 1 := Scalar.xori v2650 v2651
  let c0_i32_3129 : BitVec 32 := 0#32
  let v2649 : BitVec 1 := Scalar.cmpi .ne v2648 c0_i32_3129
  let v2653 : BitVec 1 := Scalar.andi v2652 v2649
  let v2654 : BitVec 32 := Scalar.addi v2648 v2647
  let v2655 : BitVec 32 := Scalar.select v2653 v2654 v2648
  let c4_i32_3145 : BitVec 32 := 4#32
  let v2661 : BitVec 32 := Scalar.muli v2655 c4_i32_3145
  let v2662 : BitVec 32 := Scalar.addi v2660 v2661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3146 : BitVec 32 := 1#32
  let v2663 : BitVec 32 := Scalar.muli v8 c1_i32_3146
  let v2664 : BitVec 32 := Scalar.addi v2662 v2663
  v2664.toNat
def k0_dev69 (d0 : Dev nD) : Nat :=
  let c0_i32_3168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3167 : BitVec 32 := 16#32
  let v2685 : BitVec 32 := Scalar.muli v2 c16_i32_3167
  let v2686 : BitVec 32 := Scalar.addi c0_i32_3168 v2685
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3149 : BitVec 32 := 3#32
  let v2671 : BitVec 32 := Scalar.addi v5 c3_i32_3149
  let c4_i32_3150 : BitVec 32 := 4#32
  let c0_i32_3151 : BitVec 32 := 0#32
  let v2672 : BitVec 1 := Scalar.cmpi .eq c4_i32_3150 c0_i32_3151
  let c1_i32_3152 : BitVec 32 := 1#32
  let v2673 : BitVec 32 := Scalar.select v2672 c1_i32_3152 c4_i32_3150
  let v2674 : BitVec 32 := Scalar.remsi v2671 v2673
  let c0_i32_3154 : BitVec 32 := 0#32
  let v2676 : BitVec 1 := Scalar.cmpi .slt v2674 c0_i32_3154
  let c0_i32_3155 : BitVec 32 := 0#32
  let v2677 : BitVec 1 := Scalar.cmpi .slt v2673 c0_i32_3155
  let v2678 : BitVec 1 := Scalar.xori v2676 v2677
  let c0_i32_3153 : BitVec 32 := 0#32
  let v2675 : BitVec 1 := Scalar.cmpi .ne v2674 c0_i32_3153
  let v2679 : BitVec 1 := Scalar.andi v2678 v2675
  let v2680 : BitVec 32 := Scalar.addi v2674 v2673
  let v2681 : BitVec 32 := Scalar.select v2679 v2680 v2674
  let c4_i32_3169 : BitVec 32 := 4#32
  let v2687 : BitVec 32 := Scalar.muli v2681 c4_i32_3169
  let v2688 : BitVec 32 := Scalar.addi v2686 v2687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3170 : BitVec 32 := 1#32
  let v2689 : BitVec 32 := Scalar.muli v8 c1_i32_3170
  let v2690 : BitVec 32 := Scalar.addi v2688 v2689
  v2690.toNat
def k0_dev70 (d0 : Dev nD) : Nat :=
  let c0_i32_3232 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3231 : BitVec 32 := 16#32
  let v2739 : BitVec 32 := Scalar.muli v2 c16_i32_3231
  let v2740 : BitVec 32 := Scalar.addi c0_i32_3232 v2739
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3233 : BitVec 32 := 4#32
  let v2741 : BitVec 32 := Scalar.muli v5 c4_i32_3233
  let v2742 : BitVec 32 := Scalar.addi v2740 v2741
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3213 : BitVec 32 := 1#32
  let v2725 : BitVec 32 := Scalar.addi v8 c1_i32_3213
  let c4_i32_3214 : BitVec 32 := 4#32
  let c0_i32_3215 : BitVec 32 := 0#32
  let v2726 : BitVec 1 := Scalar.cmpi .eq c4_i32_3214 c0_i32_3215
  let c1_i32_3216 : BitVec 32 := 1#32
  let v2727 : BitVec 32 := Scalar.select v2726 c1_i32_3216 c4_i32_3214
  let v2728 : BitVec 32 := Scalar.remsi v2725 v2727
  let c0_i32_3218 : BitVec 32 := 0#32
  let v2730 : BitVec 1 := Scalar.cmpi .slt v2728 c0_i32_3218
  let c0_i32_3219 : BitVec 32 := 0#32
  let v2731 : BitVec 1 := Scalar.cmpi .slt v2727 c0_i32_3219
  let v2732 : BitVec 1 := Scalar.xori v2730 v2731
  let c0_i32_3217 : BitVec 32 := 0#32
  let v2729 : BitVec 1 := Scalar.cmpi .ne v2728 c0_i32_3217
  let v2733 : BitVec 1 := Scalar.andi v2732 v2729
  let v2734 : BitVec 32 := Scalar.addi v2728 v2727
  let v2735 : BitVec 32 := Scalar.select v2733 v2734 v2728
  let c1_i32_3234 : BitVec 32 := 1#32
  let v2743 : BitVec 32 := Scalar.muli v2735 c1_i32_3234
  let v2744 : BitVec 32 := Scalar.addi v2742 v2743
  v2744.toNat
def k0_dev71 (d0 : Dev nD) : Nat :=
  let c0_i32_3256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3255 : BitVec 32 := 16#32
  let v2765 : BitVec 32 := Scalar.muli v2 c16_i32_3255
  let v2766 : BitVec 32 := Scalar.addi c0_i32_3256 v2765
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3257 : BitVec 32 := 4#32
  let v2767 : BitVec 32 := Scalar.muli v5 c4_i32_3257
  let v2768 : BitVec 32 := Scalar.addi v2766 v2767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3237 : BitVec 32 := 2#32
  let v2751 : BitVec 32 := Scalar.addi v8 c2_i32_3237
  let c4_i32_3238 : BitVec 32 := 4#32
  let c0_i32_3239 : BitVec 32 := 0#32
  let v2752 : BitVec 1 := Scalar.cmpi .eq c4_i32_3238 c0_i32_3239
  let c1_i32_3240 : BitVec 32 := 1#32
  let v2753 : BitVec 32 := Scalar.select v2752 c1_i32_3240 c4_i32_3238
  let v2754 : BitVec 32 := Scalar.remsi v2751 v2753
  let c0_i32_3242 : BitVec 32 := 0#32
  let v2756 : BitVec 1 := Scalar.cmpi .slt v2754 c0_i32_3242
  let c0_i32_3243 : BitVec 32 := 0#32
  let v2757 : BitVec 1 := Scalar.cmpi .slt v2753 c0_i32_3243
  let v2758 : BitVec 1 := Scalar.xori v2756 v2757
  let c0_i32_3241 : BitVec 32 := 0#32
  let v2755 : BitVec 1 := Scalar.cmpi .ne v2754 c0_i32_3241
  let v2759 : BitVec 1 := Scalar.andi v2758 v2755
  let v2760 : BitVec 32 := Scalar.addi v2754 v2753
  let v2761 : BitVec 32 := Scalar.select v2759 v2760 v2754
  let c1_i32_3258 : BitVec 32 := 1#32
  let v2769 : BitVec 32 := Scalar.muli v2761 c1_i32_3258
  let v2770 : BitVec 32 := Scalar.addi v2768 v2769
  v2770.toNat
def k0_dev72 (d0 : Dev nD) : Nat :=
  let c0_i32_3280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3279 : BitVec 32 := 16#32
  let v2791 : BitVec 32 := Scalar.muli v2 c16_i32_3279
  let v2792 : BitVec 32 := Scalar.addi c0_i32_3280 v2791
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3281 : BitVec 32 := 4#32
  let v2793 : BitVec 32 := Scalar.muli v5 c4_i32_3281
  let v2794 : BitVec 32 := Scalar.addi v2792 v2793
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3261 : BitVec 32 := 3#32
  let v2777 : BitVec 32 := Scalar.addi v8 c3_i32_3261
  let c4_i32_3262 : BitVec 32 := 4#32
  let c0_i32_3263 : BitVec 32 := 0#32
  let v2778 : BitVec 1 := Scalar.cmpi .eq c4_i32_3262 c0_i32_3263
  let c1_i32_3264 : BitVec 32 := 1#32
  let v2779 : BitVec 32 := Scalar.select v2778 c1_i32_3264 c4_i32_3262
  let v2780 : BitVec 32 := Scalar.remsi v2777 v2779
  let c0_i32_3266 : BitVec 32 := 0#32
  let v2782 : BitVec 1 := Scalar.cmpi .slt v2780 c0_i32_3266
  let c0_i32_3267 : BitVec 32 := 0#32
  let v2783 : BitVec 1 := Scalar.cmpi .slt v2779 c0_i32_3267
  let v2784 : BitVec 1 := Scalar.xori v2782 v2783
  let c0_i32_3265 : BitVec 32 := 0#32
  let v2781 : BitVec 1 := Scalar.cmpi .ne v2780 c0_i32_3265
  let v2785 : BitVec 1 := Scalar.andi v2784 v2781
  let v2786 : BitVec 32 := Scalar.addi v2780 v2779
  let v2787 : BitVec 32 := Scalar.select v2785 v2786 v2780
  let c1_i32_3282 : BitVec 32 := 1#32
  let v2795 : BitVec 32 := Scalar.muli v2787 c1_i32_3282
  let v2796 : BitVec 32 := Scalar.addi v2794 v2795
  v2796.toNat
def k0_dev73 (d0 : Dev nD) : Nat :=
  let c0_i32_3344 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3343 : BitVec 32 := 16#32
  let v2845 : BitVec 32 := Scalar.muli v2 c16_i32_3343
  let v2846 : BitVec 32 := Scalar.addi c0_i32_3344 v2845
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3325 : BitVec 32 := 1#32
  let v2831 : BitVec 32 := Scalar.addi v5 c1_i32_3325
  let c4_i32_3326 : BitVec 32 := 4#32
  let c0_i32_3327 : BitVec 32 := 0#32
  let v2832 : BitVec 1 := Scalar.cmpi .eq c4_i32_3326 c0_i32_3327
  let c1_i32_3328 : BitVec 32 := 1#32
  let v2833 : BitVec 32 := Scalar.select v2832 c1_i32_3328 c4_i32_3326
  let v2834 : BitVec 32 := Scalar.remsi v2831 v2833
  let c0_i32_3330 : BitVec 32 := 0#32
  let v2836 : BitVec 1 := Scalar.cmpi .slt v2834 c0_i32_3330
  let c0_i32_3331 : BitVec 32 := 0#32
  let v2837 : BitVec 1 := Scalar.cmpi .slt v2833 c0_i32_3331
  let v2838 : BitVec 1 := Scalar.xori v2836 v2837
  let c0_i32_3329 : BitVec 32 := 0#32
  let v2835 : BitVec 1 := Scalar.cmpi .ne v2834 c0_i32_3329
  let v2839 : BitVec 1 := Scalar.andi v2838 v2835
  let v2840 : BitVec 32 := Scalar.addi v2834 v2833
  let v2841 : BitVec 32 := Scalar.select v2839 v2840 v2834
  let c4_i32_3345 : BitVec 32 := 4#32
  let v2847 : BitVec 32 := Scalar.muli v2841 c4_i32_3345
  let v2848 : BitVec 32 := Scalar.addi v2846 v2847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3346 : BitVec 32 := 1#32
  let v2849 : BitVec 32 := Scalar.muli v8 c1_i32_3346
  let v2850 : BitVec 32 := Scalar.addi v2848 v2849
  v2850.toNat
def k0_dev74 (d0 : Dev nD) : Nat :=
  let c0_i32_3368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3367 : BitVec 32 := 16#32
  let v2871 : BitVec 32 := Scalar.muli v2 c16_i32_3367
  let v2872 : BitVec 32 := Scalar.addi c0_i32_3368 v2871
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3349 : BitVec 32 := 2#32
  let v2857 : BitVec 32 := Scalar.addi v5 c2_i32_3349
  let c4_i32_3350 : BitVec 32 := 4#32
  let c0_i32_3351 : BitVec 32 := 0#32
  let v2858 : BitVec 1 := Scalar.cmpi .eq c4_i32_3350 c0_i32_3351
  let c1_i32_3352 : BitVec 32 := 1#32
  let v2859 : BitVec 32 := Scalar.select v2858 c1_i32_3352 c4_i32_3350
  let v2860 : BitVec 32 := Scalar.remsi v2857 v2859
  let c0_i32_3354 : BitVec 32 := 0#32
  let v2862 : BitVec 1 := Scalar.cmpi .slt v2860 c0_i32_3354
  let c0_i32_3355 : BitVec 32 := 0#32
  let v2863 : BitVec 1 := Scalar.cmpi .slt v2859 c0_i32_3355
  let v2864 : BitVec 1 := Scalar.xori v2862 v2863
  let c0_i32_3353 : BitVec 32 := 0#32
  let v2861 : BitVec 1 := Scalar.cmpi .ne v2860 c0_i32_3353
  let v2865 : BitVec 1 := Scalar.andi v2864 v2861
  let v2866 : BitVec 32 := Scalar.addi v2860 v2859
  let v2867 : BitVec 32 := Scalar.select v2865 v2866 v2860
  let c4_i32_3369 : BitVec 32 := 4#32
  let v2873 : BitVec 32 := Scalar.muli v2867 c4_i32_3369
  let v2874 : BitVec 32 := Scalar.addi v2872 v2873
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3370 : BitVec 32 := 1#32
  let v2875 : BitVec 32 := Scalar.muli v8 c1_i32_3370
  let v2876 : BitVec 32 := Scalar.addi v2874 v2875
  v2876.toNat
def k0_dev75 (d0 : Dev nD) : Nat :=
  let c0_i32_3392 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3391 : BitVec 32 := 16#32
  let v2897 : BitVec 32 := Scalar.muli v2 c16_i32_3391
  let v2898 : BitVec 32 := Scalar.addi c0_i32_3392 v2897
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3373 : BitVec 32 := 3#32
  let v2883 : BitVec 32 := Scalar.addi v5 c3_i32_3373
  let c4_i32_3374 : BitVec 32 := 4#32
  let c0_i32_3375 : BitVec 32 := 0#32
  let v2884 : BitVec 1 := Scalar.cmpi .eq c4_i32_3374 c0_i32_3375
  let c1_i32_3376 : BitVec 32 := 1#32
  let v2885 : BitVec 32 := Scalar.select v2884 c1_i32_3376 c4_i32_3374
  let v2886 : BitVec 32 := Scalar.remsi v2883 v2885
  let c0_i32_3378 : BitVec 32 := 0#32
  let v2888 : BitVec 1 := Scalar.cmpi .slt v2886 c0_i32_3378
  let c0_i32_3379 : BitVec 32 := 0#32
  let v2889 : BitVec 1 := Scalar.cmpi .slt v2885 c0_i32_3379
  let v2890 : BitVec 1 := Scalar.xori v2888 v2889
  let c0_i32_3377 : BitVec 32 := 0#32
  let v2887 : BitVec 1 := Scalar.cmpi .ne v2886 c0_i32_3377
  let v2891 : BitVec 1 := Scalar.andi v2890 v2887
  let v2892 : BitVec 32 := Scalar.addi v2886 v2885
  let v2893 : BitVec 32 := Scalar.select v2891 v2892 v2886
  let c4_i32_3393 : BitVec 32 := 4#32
  let v2899 : BitVec 32 := Scalar.muli v2893 c4_i32_3393
  let v2900 : BitVec 32 := Scalar.addi v2898 v2899
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3394 : BitVec 32 := 1#32
  let v2901 : BitVec 32 := Scalar.muli v8 c1_i32_3394
  let v2902 : BitVec 32 := Scalar.addi v2900 v2901
  v2902.toNat
def k0_dev76 (d0 : Dev nD) : Nat :=
  let c0_i32_3456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3455 : BitVec 32 := 16#32
  let v2951 : BitVec 32 := Scalar.muli v2 c16_i32_3455
  let v2952 : BitVec 32 := Scalar.addi c0_i32_3456 v2951
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3457 : BitVec 32 := 4#32
  let v2953 : BitVec 32 := Scalar.muli v5 c4_i32_3457
  let v2954 : BitVec 32 := Scalar.addi v2952 v2953
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3437 : BitVec 32 := 1#32
  let v2937 : BitVec 32 := Scalar.addi v8 c1_i32_3437
  let c4_i32_3438 : BitVec 32 := 4#32
  let c0_i32_3439 : BitVec 32 := 0#32
  let v2938 : BitVec 1 := Scalar.cmpi .eq c4_i32_3438 c0_i32_3439
  let c1_i32_3440 : BitVec 32 := 1#32
  let v2939 : BitVec 32 := Scalar.select v2938 c1_i32_3440 c4_i32_3438
  let v2940 : BitVec 32 := Scalar.remsi v2937 v2939
  let c0_i32_3442 : BitVec 32 := 0#32
  let v2942 : BitVec 1 := Scalar.cmpi .slt v2940 c0_i32_3442
  let c0_i32_3443 : BitVec 32 := 0#32
  let v2943 : BitVec 1 := Scalar.cmpi .slt v2939 c0_i32_3443
  let v2944 : BitVec 1 := Scalar.xori v2942 v2943
  let c0_i32_3441 : BitVec 32 := 0#32
  let v2941 : BitVec 1 := Scalar.cmpi .ne v2940 c0_i32_3441
  let v2945 : BitVec 1 := Scalar.andi v2944 v2941
  let v2946 : BitVec 32 := Scalar.addi v2940 v2939
  let v2947 : BitVec 32 := Scalar.select v2945 v2946 v2940
  let c1_i32_3458 : BitVec 32 := 1#32
  let v2955 : BitVec 32 := Scalar.muli v2947 c1_i32_3458
  let v2956 : BitVec 32 := Scalar.addi v2954 v2955
  v2956.toNat
def k0_dev77 (d0 : Dev nD) : Nat :=
  let c0_i32_3480 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3479 : BitVec 32 := 16#32
  let v2977 : BitVec 32 := Scalar.muli v2 c16_i32_3479
  let v2978 : BitVec 32 := Scalar.addi c0_i32_3480 v2977
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3481 : BitVec 32 := 4#32
  let v2979 : BitVec 32 := Scalar.muli v5 c4_i32_3481
  let v2980 : BitVec 32 := Scalar.addi v2978 v2979
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3461 : BitVec 32 := 2#32
  let v2963 : BitVec 32 := Scalar.addi v8 c2_i32_3461
  let c4_i32_3462 : BitVec 32 := 4#32
  let c0_i32_3463 : BitVec 32 := 0#32
  let v2964 : BitVec 1 := Scalar.cmpi .eq c4_i32_3462 c0_i32_3463
  let c1_i32_3464 : BitVec 32 := 1#32
  let v2965 : BitVec 32 := Scalar.select v2964 c1_i32_3464 c4_i32_3462
  let v2966 : BitVec 32 := Scalar.remsi v2963 v2965
  let c0_i32_3466 : BitVec 32 := 0#32
  let v2968 : BitVec 1 := Scalar.cmpi .slt v2966 c0_i32_3466
  let c0_i32_3467 : BitVec 32 := 0#32
  let v2969 : BitVec 1 := Scalar.cmpi .slt v2965 c0_i32_3467
  let v2970 : BitVec 1 := Scalar.xori v2968 v2969
  let c0_i32_3465 : BitVec 32 := 0#32
  let v2967 : BitVec 1 := Scalar.cmpi .ne v2966 c0_i32_3465
  let v2971 : BitVec 1 := Scalar.andi v2970 v2967
  let v2972 : BitVec 32 := Scalar.addi v2966 v2965
  let v2973 : BitVec 32 := Scalar.select v2971 v2972 v2966
  let c1_i32_3482 : BitVec 32 := 1#32
  let v2981 : BitVec 32 := Scalar.muli v2973 c1_i32_3482
  let v2982 : BitVec 32 := Scalar.addi v2980 v2981
  v2982.toNat
def k0_dev78 (d0 : Dev nD) : Nat :=
  let c0_i32_3504 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3503 : BitVec 32 := 16#32
  let v3003 : BitVec 32 := Scalar.muli v2 c16_i32_3503
  let v3004 : BitVec 32 := Scalar.addi c0_i32_3504 v3003
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3505 : BitVec 32 := 4#32
  let v3005 : BitVec 32 := Scalar.muli v5 c4_i32_3505
  let v3006 : BitVec 32 := Scalar.addi v3004 v3005
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3485 : BitVec 32 := 3#32
  let v2989 : BitVec 32 := Scalar.addi v8 c3_i32_3485
  let c4_i32_3486 : BitVec 32 := 4#32
  let c0_i32_3487 : BitVec 32 := 0#32
  let v2990 : BitVec 1 := Scalar.cmpi .eq c4_i32_3486 c0_i32_3487
  let c1_i32_3488 : BitVec 32 := 1#32
  let v2991 : BitVec 32 := Scalar.select v2990 c1_i32_3488 c4_i32_3486
  let v2992 : BitVec 32 := Scalar.remsi v2989 v2991
  let c0_i32_3490 : BitVec 32 := 0#32
  let v2994 : BitVec 1 := Scalar.cmpi .slt v2992 c0_i32_3490
  let c0_i32_3491 : BitVec 32 := 0#32
  let v2995 : BitVec 1 := Scalar.cmpi .slt v2991 c0_i32_3491
  let v2996 : BitVec 1 := Scalar.xori v2994 v2995
  let c0_i32_3489 : BitVec 32 := 0#32
  let v2993 : BitVec 1 := Scalar.cmpi .ne v2992 c0_i32_3489
  let v2997 : BitVec 1 := Scalar.andi v2996 v2993
  let v2998 : BitVec 32 := Scalar.addi v2992 v2991
  let v2999 : BitVec 32 := Scalar.select v2997 v2998 v2992
  let c1_i32_3506 : BitVec 32 := 1#32
  let v3007 : BitVec 32 := Scalar.muli v2999 c1_i32_3506
  let v3008 : BitVec 32 := Scalar.addi v3006 v3007
  v3008.toNat
def k0_dev79 (d0 : Dev nD) : Nat :=
  let c0_i32_3568 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3567 : BitVec 32 := 16#32
  let v3057 : BitVec 32 := Scalar.muli v2 c16_i32_3567
  let v3058 : BitVec 32 := Scalar.addi c0_i32_3568 v3057
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3549 : BitVec 32 := 1#32
  let v3043 : BitVec 32 := Scalar.addi v5 c1_i32_3549
  let c4_i32_3550 : BitVec 32 := 4#32
  let c0_i32_3551 : BitVec 32 := 0#32
  let v3044 : BitVec 1 := Scalar.cmpi .eq c4_i32_3550 c0_i32_3551
  let c1_i32_3552 : BitVec 32 := 1#32
  let v3045 : BitVec 32 := Scalar.select v3044 c1_i32_3552 c4_i32_3550
  let v3046 : BitVec 32 := Scalar.remsi v3043 v3045
  let c0_i32_3554 : BitVec 32 := 0#32
  let v3048 : BitVec 1 := Scalar.cmpi .slt v3046 c0_i32_3554
  let c0_i32_3555 : BitVec 32 := 0#32
  let v3049 : BitVec 1 := Scalar.cmpi .slt v3045 c0_i32_3555
  let v3050 : BitVec 1 := Scalar.xori v3048 v3049
  let c0_i32_3553 : BitVec 32 := 0#32
  let v3047 : BitVec 1 := Scalar.cmpi .ne v3046 c0_i32_3553
  let v3051 : BitVec 1 := Scalar.andi v3050 v3047
  let v3052 : BitVec 32 := Scalar.addi v3046 v3045
  let v3053 : BitVec 32 := Scalar.select v3051 v3052 v3046
  let c4_i32_3569 : BitVec 32 := 4#32
  let v3059 : BitVec 32 := Scalar.muli v3053 c4_i32_3569
  let v3060 : BitVec 32 := Scalar.addi v3058 v3059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3570 : BitVec 32 := 1#32
  let v3061 : BitVec 32 := Scalar.muli v8 c1_i32_3570
  let v3062 : BitVec 32 := Scalar.addi v3060 v3061
  v3062.toNat
def k0_dev80 (d0 : Dev nD) : Nat :=
  let c0_i32_3592 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3591 : BitVec 32 := 16#32
  let v3083 : BitVec 32 := Scalar.muli v2 c16_i32_3591
  let v3084 : BitVec 32 := Scalar.addi c0_i32_3592 v3083
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3573 : BitVec 32 := 2#32
  let v3069 : BitVec 32 := Scalar.addi v5 c2_i32_3573
  let c4_i32_3574 : BitVec 32 := 4#32
  let c0_i32_3575 : BitVec 32 := 0#32
  let v3070 : BitVec 1 := Scalar.cmpi .eq c4_i32_3574 c0_i32_3575
  let c1_i32_3576 : BitVec 32 := 1#32
  let v3071 : BitVec 32 := Scalar.select v3070 c1_i32_3576 c4_i32_3574
  let v3072 : BitVec 32 := Scalar.remsi v3069 v3071
  let c0_i32_3578 : BitVec 32 := 0#32
  let v3074 : BitVec 1 := Scalar.cmpi .slt v3072 c0_i32_3578
  let c0_i32_3579 : BitVec 32 := 0#32
  let v3075 : BitVec 1 := Scalar.cmpi .slt v3071 c0_i32_3579
  let v3076 : BitVec 1 := Scalar.xori v3074 v3075
  let c0_i32_3577 : BitVec 32 := 0#32
  let v3073 : BitVec 1 := Scalar.cmpi .ne v3072 c0_i32_3577
  let v3077 : BitVec 1 := Scalar.andi v3076 v3073
  let v3078 : BitVec 32 := Scalar.addi v3072 v3071
  let v3079 : BitVec 32 := Scalar.select v3077 v3078 v3072
  let c4_i32_3593 : BitVec 32 := 4#32
  let v3085 : BitVec 32 := Scalar.muli v3079 c4_i32_3593
  let v3086 : BitVec 32 := Scalar.addi v3084 v3085
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3594 : BitVec 32 := 1#32
  let v3087 : BitVec 32 := Scalar.muli v8 c1_i32_3594
  let v3088 : BitVec 32 := Scalar.addi v3086 v3087
  v3088.toNat
def k0_dev81 (d0 : Dev nD) : Nat :=
  let c0_i32_3616 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3615 : BitVec 32 := 16#32
  let v3109 : BitVec 32 := Scalar.muli v2 c16_i32_3615
  let v3110 : BitVec 32 := Scalar.addi c0_i32_3616 v3109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3597 : BitVec 32 := 3#32
  let v3095 : BitVec 32 := Scalar.addi v5 c3_i32_3597
  let c4_i32_3598 : BitVec 32 := 4#32
  let c0_i32_3599 : BitVec 32 := 0#32
  let v3096 : BitVec 1 := Scalar.cmpi .eq c4_i32_3598 c0_i32_3599
  let c1_i32_3600 : BitVec 32 := 1#32
  let v3097 : BitVec 32 := Scalar.select v3096 c1_i32_3600 c4_i32_3598
  let v3098 : BitVec 32 := Scalar.remsi v3095 v3097
  let c0_i32_3602 : BitVec 32 := 0#32
  let v3100 : BitVec 1 := Scalar.cmpi .slt v3098 c0_i32_3602
  let c0_i32_3603 : BitVec 32 := 0#32
  let v3101 : BitVec 1 := Scalar.cmpi .slt v3097 c0_i32_3603
  let v3102 : BitVec 1 := Scalar.xori v3100 v3101
  let c0_i32_3601 : BitVec 32 := 0#32
  let v3099 : BitVec 1 := Scalar.cmpi .ne v3098 c0_i32_3601
  let v3103 : BitVec 1 := Scalar.andi v3102 v3099
  let v3104 : BitVec 32 := Scalar.addi v3098 v3097
  let v3105 : BitVec 32 := Scalar.select v3103 v3104 v3098
  let c4_i32_3617 : BitVec 32 := 4#32
  let v3111 : BitVec 32 := Scalar.muli v3105 c4_i32_3617
  let v3112 : BitVec 32 := Scalar.addi v3110 v3111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3618 : BitVec 32 := 1#32
  let v3113 : BitVec 32 := Scalar.muli v8 c1_i32_3618
  let v3114 : BitVec 32 := Scalar.addi v3112 v3113
  v3114.toNat
def k0_dev82 (d0 : Dev nD) : Nat :=
  let c0_i32_3680 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3679 : BitVec 32 := 16#32
  let v3163 : BitVec 32 := Scalar.muli v2 c16_i32_3679
  let v3164 : BitVec 32 := Scalar.addi c0_i32_3680 v3163
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3681 : BitVec 32 := 4#32
  let v3165 : BitVec 32 := Scalar.muli v5 c4_i32_3681
  let v3166 : BitVec 32 := Scalar.addi v3164 v3165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3661 : BitVec 32 := 1#32
  let v3149 : BitVec 32 := Scalar.addi v8 c1_i32_3661
  let c4_i32_3662 : BitVec 32 := 4#32
  let c0_i32_3663 : BitVec 32 := 0#32
  let v3150 : BitVec 1 := Scalar.cmpi .eq c4_i32_3662 c0_i32_3663
  let c1_i32_3664 : BitVec 32 := 1#32
  let v3151 : BitVec 32 := Scalar.select v3150 c1_i32_3664 c4_i32_3662
  let v3152 : BitVec 32 := Scalar.remsi v3149 v3151
  let c0_i32_3666 : BitVec 32 := 0#32
  let v3154 : BitVec 1 := Scalar.cmpi .slt v3152 c0_i32_3666
  let c0_i32_3667 : BitVec 32 := 0#32
  let v3155 : BitVec 1 := Scalar.cmpi .slt v3151 c0_i32_3667
  let v3156 : BitVec 1 := Scalar.xori v3154 v3155
  let c0_i32_3665 : BitVec 32 := 0#32
  let v3153 : BitVec 1 := Scalar.cmpi .ne v3152 c0_i32_3665
  let v3157 : BitVec 1 := Scalar.andi v3156 v3153
  let v3158 : BitVec 32 := Scalar.addi v3152 v3151
  let v3159 : BitVec 32 := Scalar.select v3157 v3158 v3152
  let c1_i32_3682 : BitVec 32 := 1#32
  let v3167 : BitVec 32 := Scalar.muli v3159 c1_i32_3682
  let v3168 : BitVec 32 := Scalar.addi v3166 v3167
  v3168.toNat
def k0_dev83 (d0 : Dev nD) : Nat :=
  let c0_i32_3704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3703 : BitVec 32 := 16#32
  let v3189 : BitVec 32 := Scalar.muli v2 c16_i32_3703
  let v3190 : BitVec 32 := Scalar.addi c0_i32_3704 v3189
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3705 : BitVec 32 := 4#32
  let v3191 : BitVec 32 := Scalar.muli v5 c4_i32_3705
  let v3192 : BitVec 32 := Scalar.addi v3190 v3191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_3685 : BitVec 32 := 2#32
  let v3175 : BitVec 32 := Scalar.addi v8 c2_i32_3685
  let c4_i32_3686 : BitVec 32 := 4#32
  let c0_i32_3687 : BitVec 32 := 0#32
  let v3176 : BitVec 1 := Scalar.cmpi .eq c4_i32_3686 c0_i32_3687
  let c1_i32_3688 : BitVec 32 := 1#32
  let v3177 : BitVec 32 := Scalar.select v3176 c1_i32_3688 c4_i32_3686
  let v3178 : BitVec 32 := Scalar.remsi v3175 v3177
  let c0_i32_3690 : BitVec 32 := 0#32
  let v3180 : BitVec 1 := Scalar.cmpi .slt v3178 c0_i32_3690
  let c0_i32_3691 : BitVec 32 := 0#32
  let v3181 : BitVec 1 := Scalar.cmpi .slt v3177 c0_i32_3691
  let v3182 : BitVec 1 := Scalar.xori v3180 v3181
  let c0_i32_3689 : BitVec 32 := 0#32
  let v3179 : BitVec 1 := Scalar.cmpi .ne v3178 c0_i32_3689
  let v3183 : BitVec 1 := Scalar.andi v3182 v3179
  let v3184 : BitVec 32 := Scalar.addi v3178 v3177
  let v3185 : BitVec 32 := Scalar.select v3183 v3184 v3178
  let c1_i32_3706 : BitVec 32 := 1#32
  let v3193 : BitVec 32 := Scalar.muli v3185 c1_i32_3706
  let v3194 : BitVec 32 := Scalar.addi v3192 v3193
  v3194.toNat
def k0_dev84 (d0 : Dev nD) : Nat :=
  let c0_i32_3728 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3727 : BitVec 32 := 16#32
  let v3215 : BitVec 32 := Scalar.muli v2 c16_i32_3727
  let v3216 : BitVec 32 := Scalar.addi c0_i32_3728 v3215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3729 : BitVec 32 := 4#32
  let v3217 : BitVec 32 := Scalar.muli v5 c4_i32_3729
  let v3218 : BitVec 32 := Scalar.addi v3216 v3217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_3709 : BitVec 32 := 3#32
  let v3201 : BitVec 32 := Scalar.addi v8 c3_i32_3709
  let c4_i32_3710 : BitVec 32 := 4#32
  let c0_i32_3711 : BitVec 32 := 0#32
  let v3202 : BitVec 1 := Scalar.cmpi .eq c4_i32_3710 c0_i32_3711
  let c1_i32_3712 : BitVec 32 := 1#32
  let v3203 : BitVec 32 := Scalar.select v3202 c1_i32_3712 c4_i32_3710
  let v3204 : BitVec 32 := Scalar.remsi v3201 v3203
  let c0_i32_3714 : BitVec 32 := 0#32
  let v3206 : BitVec 1 := Scalar.cmpi .slt v3204 c0_i32_3714
  let c0_i32_3715 : BitVec 32 := 0#32
  let v3207 : BitVec 1 := Scalar.cmpi .slt v3203 c0_i32_3715
  let v3208 : BitVec 1 := Scalar.xori v3206 v3207
  let c0_i32_3713 : BitVec 32 := 0#32
  let v3205 : BitVec 1 := Scalar.cmpi .ne v3204 c0_i32_3713
  let v3209 : BitVec 1 := Scalar.andi v3208 v3205
  let v3210 : BitVec 32 := Scalar.addi v3204 v3203
  let v3211 : BitVec 32 := Scalar.select v3209 v3210 v3204
  let c1_i32_3730 : BitVec 32 := 1#32
  let v3219 : BitVec 32 := Scalar.muli v3211 c1_i32_3730
  let v3220 : BitVec 32 := Scalar.addi v3218 v3219
  v3220.toNat
def k0_dev85 (d0 : Dev nD) : Nat :=
  let c0_i32_3792 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3791 : BitVec 32 := 16#32
  let v3269 : BitVec 32 := Scalar.muli v2 c16_i32_3791
  let v3270 : BitVec 32 := Scalar.addi c0_i32_3792 v3269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3773 : BitVec 32 := 1#32
  let v3255 : BitVec 32 := Scalar.addi v5 c1_i32_3773
  let c4_i32_3774 : BitVec 32 := 4#32
  let c0_i32_3775 : BitVec 32 := 0#32
  let v3256 : BitVec 1 := Scalar.cmpi .eq c4_i32_3774 c0_i32_3775
  let c1_i32_3776 : BitVec 32 := 1#32
  let v3257 : BitVec 32 := Scalar.select v3256 c1_i32_3776 c4_i32_3774
  let v3258 : BitVec 32 := Scalar.remsi v3255 v3257
  let c0_i32_3778 : BitVec 32 := 0#32
  let v3260 : BitVec 1 := Scalar.cmpi .slt v3258 c0_i32_3778
  let c0_i32_3779 : BitVec 32 := 0#32
  let v3261 : BitVec 1 := Scalar.cmpi .slt v3257 c0_i32_3779
  let v3262 : BitVec 1 := Scalar.xori v3260 v3261
  let c0_i32_3777 : BitVec 32 := 0#32
  let v3259 : BitVec 1 := Scalar.cmpi .ne v3258 c0_i32_3777
  let v3263 : BitVec 1 := Scalar.andi v3262 v3259
  let v3264 : BitVec 32 := Scalar.addi v3258 v3257
  let v3265 : BitVec 32 := Scalar.select v3263 v3264 v3258
  let c4_i32_3793 : BitVec 32 := 4#32
  let v3271 : BitVec 32 := Scalar.muli v3265 c4_i32_3793
  let v3272 : BitVec 32 := Scalar.addi v3270 v3271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3794 : BitVec 32 := 1#32
  let v3273 : BitVec 32 := Scalar.muli v8 c1_i32_3794
  let v3274 : BitVec 32 := Scalar.addi v3272 v3273
  v3274.toNat
def k0_dev86 (d0 : Dev nD) : Nat :=
  let c0_i32_3816 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3815 : BitVec 32 := 16#32
  let v3295 : BitVec 32 := Scalar.muli v2 c16_i32_3815
  let v3296 : BitVec 32 := Scalar.addi c0_i32_3816 v3295
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_3797 : BitVec 32 := 2#32
  let v3281 : BitVec 32 := Scalar.addi v5 c2_i32_3797
  let c4_i32_3798 : BitVec 32 := 4#32
  let c0_i32_3799 : BitVec 32 := 0#32
  let v3282 : BitVec 1 := Scalar.cmpi .eq c4_i32_3798 c0_i32_3799
  let c1_i32_3800 : BitVec 32 := 1#32
  let v3283 : BitVec 32 := Scalar.select v3282 c1_i32_3800 c4_i32_3798
  let v3284 : BitVec 32 := Scalar.remsi v3281 v3283
  let c0_i32_3802 : BitVec 32 := 0#32
  let v3286 : BitVec 1 := Scalar.cmpi .slt v3284 c0_i32_3802
  let c0_i32_3803 : BitVec 32 := 0#32
  let v3287 : BitVec 1 := Scalar.cmpi .slt v3283 c0_i32_3803
  let v3288 : BitVec 1 := Scalar.xori v3286 v3287
  let c0_i32_3801 : BitVec 32 := 0#32
  let v3285 : BitVec 1 := Scalar.cmpi .ne v3284 c0_i32_3801
  let v3289 : BitVec 1 := Scalar.andi v3288 v3285
  let v3290 : BitVec 32 := Scalar.addi v3284 v3283
  let v3291 : BitVec 32 := Scalar.select v3289 v3290 v3284
  let c4_i32_3817 : BitVec 32 := 4#32
  let v3297 : BitVec 32 := Scalar.muli v3291 c4_i32_3817
  let v3298 : BitVec 32 := Scalar.addi v3296 v3297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3818 : BitVec 32 := 1#32
  let v3299 : BitVec 32 := Scalar.muli v8 c1_i32_3818
  let v3300 : BitVec 32 := Scalar.addi v3298 v3299
  v3300.toNat
def k0_dev87 (d0 : Dev nD) : Nat :=
  let c0_i32_3840 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3839 : BitVec 32 := 16#32
  let v3321 : BitVec 32 := Scalar.muli v2 c16_i32_3839
  let v3322 : BitVec 32 := Scalar.addi c0_i32_3840 v3321
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_3821 : BitVec 32 := 3#32
  let v3307 : BitVec 32 := Scalar.addi v5 c3_i32_3821
  let c4_i32_3822 : BitVec 32 := 4#32
  let c0_i32_3823 : BitVec 32 := 0#32
  let v3308 : BitVec 1 := Scalar.cmpi .eq c4_i32_3822 c0_i32_3823
  let c1_i32_3824 : BitVec 32 := 1#32
  let v3309 : BitVec 32 := Scalar.select v3308 c1_i32_3824 c4_i32_3822
  let v3310 : BitVec 32 := Scalar.remsi v3307 v3309
  let c0_i32_3826 : BitVec 32 := 0#32
  let v3312 : BitVec 1 := Scalar.cmpi .slt v3310 c0_i32_3826
  let c0_i32_3827 : BitVec 32 := 0#32
  let v3313 : BitVec 1 := Scalar.cmpi .slt v3309 c0_i32_3827
  let v3314 : BitVec 1 := Scalar.xori v3312 v3313
  let c0_i32_3825 : BitVec 32 := 0#32
  let v3311 : BitVec 1 := Scalar.cmpi .ne v3310 c0_i32_3825
  let v3315 : BitVec 1 := Scalar.andi v3314 v3311
  let v3316 : BitVec 32 := Scalar.addi v3310 v3309
  let v3317 : BitVec 32 := Scalar.select v3315 v3316 v3310
  let c4_i32_3841 : BitVec 32 := 4#32
  let v3323 : BitVec 32 := Scalar.muli v3317 c4_i32_3841
  let v3324 : BitVec 32 := Scalar.addi v3322 v3323
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3842 : BitVec 32 := 1#32
  let v3325 : BitVec 32 := Scalar.muli v8 c1_i32_3842
  let v3326 : BitVec 32 := Scalar.addi v3324 v3325
  v3326.toNat
abbrev stage0_0 : Fin 1 → Memref sig .tc .vmem S1x1x1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4x4x512x512 : Shape := ⟨5, ![2, 4, 4, 512, 512]⟩
abbrev S_ : Shape := ⟨0, ![]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x4x4x512x512, .bf16⟩
  | .hbm, ⟨1, _⟩ => ⟨S2x4x4x512x512, .f32⟩
  | .hbm, ⟨2, _⟩ => ⟨S_, .f32⟩
  | .hbm, ⟨3, _⟩ => ⟨S512x512, .f32⟩
  | .hbm, ⟨4, _⟩ => ⟨S512x512, .bf16⟩
  | .hbm, ⟨5, _⟩ => ⟨S512x512, .f32⟩
  | _, _ => ⟨S2x4x4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Prog.lean ====
/-
# The kernel's body as a program of loops

The printed body of the kernel is a straight line of some four hundred memory operations: the kernel's loops over
halves, sub-blocks and distances are unrolled in it. Here the loops are written again, over one operation per kind
(signal, transfer, wait, accumulation), and the printed body is shown to be that program (`body_eq`).

The devices form a 2 × 4 × 4 mesh of coordinates `x`, `y`, `z`. The accumulator's 512 rows are cut into two halves
`h`, each half into four chunks `q` of 64 rows, each chunk into four sub-blocks `s` of 16 rows. In half 0 the first
exchange runs along `z` and the second along `y`; in half 1 it is the other way round.
-/
module

public import proofs.«01_k».proof.Proof.Gen.KernelIdeal
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-- The two halves, the four stages of the protocol, the three distances along an axis, the four sub-blocks. -/
abbrev Half := Fin 2
abbrev Stage := Fin 4
abbrev Dist := Fin 3
abbrev Sub := Fin 4

/-! ## Peers and coordinates -/

/-- The device `d + 1` further along `z`; -/
def peerZ (d : Dist) (c : Dev nD) : Dev nD := match d with
  | 0 => ⟨k0_dev1 c, k0_dev1_lt c⟩ | 1 => ⟨k0_dev2 c, k0_dev2_lt c⟩ | 2 => ⟨k0_dev3 c, k0_dev3_lt c⟩
/-- `d + 1` further along `y`; -/
def peerY (d : Dist) (c : Dev nD) : Dev nD := match d with
  | 0 => ⟨k0_dev4 c, k0_dev4_lt c⟩ | 1 => ⟨k0_dev5 c, k0_dev5_lt c⟩ | 2 => ⟨k0_dev6 c, k0_dev6_lt c⟩
/-- the other device along `x`. -/
def peerX (c : Dev nD) : Dev nD := ⟨k0_dev7 c, k0_dev7_lt c⟩

/-- The peer along the axis a half exchanges on first, and along the one it exchanges on second. -/
def peer1 (h : Half) (d : Dist) (c : Dev nD) : Dev nD := match h with | 0 => peerZ d c | 1 => peerY d c
def peer2 (h : Half) (d : Dist) (c : Dev nD) : Dev nD := match h with | 0 => peerY d c | 1 => peerZ d c

/-- The seven peers the kernel signals at its start, in the order it signals them. -/
def peerB (p : Fin 7) (c : Dev nD) : Dev nD := match p with
  | 0 => peerZ 0 c | 1 => peerZ 1 c | 2 => peerZ 2 c | 3 => peerY 0 c | 4 => peerY 1 c | 5 => peerY 2 c | 6 => peerX c

/-- A device's coordinate on the axis its half `h` exchanges on first: the chunk of that half it owns. -/
def own (h : Half) (c : Dev nD) : Fin 4 := match h with
  | 0 => ⟨c.val % 4, Nat.mod_lt _ (by decide)⟩ | 1 => ⟨c.val / 4 % 4, Nat.mod_lt _ (by decide)⟩

/-! ## Views -/

abbrev xM : Memref sig .tc .vmem S1x1x1x512x512 .bf16 := Memref.whole cc0_stg0_0
abbrev oM : Memref sig .tc .vmem S512x512 .f32 := Memref.whole cc0_stg1_0
abbrev aM : Memref sig .tc .vmem S512x512 .bf16 := Memref.whole cc0_scratch0
abbrev rM : Memref sig .tc .vmem S2x7x64x512 .bf16 := Memref.whole cc0_scratch1

/-- Offsets of a sub-block of the accumulator, and what is asked of a block's offsets. -/
def blkOff (h : Half) (q : Fin 4) (s : Sub) : Fin 2 → Nat := ![256 * h.val + 64 * q.val + 16 * s.val, 0]

abbrev InbA (o : Fin 2 → Nat) : Prop := ∀ a, o a + S16x512.size a ≤ S512x512.size a

theorem blkOff_inb (h : Half) (q : Fin 4) (s : Sub) : InbA (blkOff h q s) := by revert h q s; decide +kernel

abbrev aRect (o : Fin 2 → Nat) (ho : InbA o) : Rect S512x512 := Rect.unit (s := S512x512) o S16x512.size ho

theorem blkOff_words (h : Half) (q : Fin 4) (s : Sub) :
    (aRect (blkOff h q s) (blkOff_inb h q s)).WholeWords (EltTy.packing .bf16) := by revert h q s; decide +kernel
theorem blkOff_packed (h : Half) (q : Fin 4) (s : Sub) :
    (aRect (blkOff h q s) (blkOff_inb h q s)).PackedRows (EltTy.packing .bf16) := by revert h q s; decide +kernel

/-- The three families of offsets the kernel computes: of the chunk sent to a peer in the first exchange, and of the
    chunk it owns, once for loads and stores and once for transfers. -/
def offP (c : Dev nD) (h : Half) (d : Dist) (s : Sub) : Fin 2 → Nat :=
  k0_off1 c (BitVec.ofNat 32 (256 * h.val)) (BitVec.ofNat 32 (3 * h.val + 1)) (BitVec.ofNat 32 (d.val + 1)) (BitVec.ofNat 32 (16 * s.val))
def offL (c : Dev nD) (h : Half) (s : Sub) : Fin 2 → Nat :=
  k0_off2 c (BitVec.ofNat 32 (256 * h.val)) (BitVec.ofNat 32 (3 * h.val + 1)) (BitVec.ofNat 32 (16 * s.val))
def offO (c : Dev nD) (h : Half) (s : Sub) : Fin 2 → Nat :=
  k0_off3 c (BitVec.ofNat 32 (256 * h.val)) (BitVec.ofNat 32 (3 * h.val + 1)) (BitVec.ofNat 32 (16 * s.val))

theorem offP_eq (c : Dev nD) (h : Half) (d : Dist) (s : Sub) : offP c h d s = blkOff h (own h (peer1 h d c)) s := by
  revert c h d s; decide +kernel
theorem offL_eq (c : Dev nD) (h : Half) (s : Sub) : offL c h s = blkOff h (own h c) s := by revert c h s; decide +kernel
theorem offO_eq (c : Dev nD) (h : Half) (s : Sub) : offO c h s = blkOff h (own h c) s := by revert c h s; decide +kernel

/-- A sub-block of the accumulator as a memref, and that a transfer through it and a store to it touch whole words. -/
abbrev aBlk (o : Fin 2 → Nat) (ho : InbA o) : Memref sig .tc .vmem S16x512 .bf16 := aM.slice (aRect o ho) (fun _ => rfl)

structure Good (o : Fin 2 → Nat) : Prop where
  inb : InbA o
  words : (aRect o inb).WholeWords (EltTy.packing .bf16)
  packed : (aRect o inb).PackedRows (EltTy.packing .bf16)

theorem good_blk (h : Half) (q : Fin 4) (s : Sub) : Good (blkOff h q s) := ⟨blkOff_inb h q s, blkOff_words h q s, blkOff_packed h q s⟩
theorem good_P (c : Dev nD) (h : Half) (d : Dist) (s : Sub) : Good (offP c h d s) := offP_eq c h d s ▸ good_blk h _ s
theorem good_L (c : Dev nD) (h : Half) (s : Sub) : Good (offL c h s) := offL_eq c h s ▸ good_blk h _ s
theorem good_O (c : Dev nD) (h : Half) (s : Sub) : Good (offO c h s) := offO_eq c h s ▸ good_blk h _ s

theorem Good.exact {o : Fin 2 → Nat} (g : Good o) : (aBlk o g.inb).view.WordExact := (Memref.isWhole_whole _).wordExact_slice rfl _ g.words

/-- Slot `k` of half `h`'s landing buffer, rows of sub-block `s`. -/
def slotOff (h : Half) (k : Fin 7) (s : Sub) : Fin 4 → Nat := ![h.val, k.val, 16 * s.val, 0]
theorem slotOff_inb (h : Half) (k : Fin 7) (s : Sub) : ∀ a, slotOff h k s a + S1x1x16x512.size a ≤ S2x7x64x512.size a := by
  revert h k s; decide +kernel
abbrev rRect (h : Half) (k : Fin 7) (s : Sub) : Rect S2x7x64x512 := Rect.unit (s := S2x7x64x512) (slotOff h k s) S1x1x16x512.size (slotOff_inb h k s)
theorem slot_words (h : Half) (k : Fin 7) (s : Sub) : (rRect h k s).WholeWords (EltTy.packing .bf16) := by revert h k s; decide +kernel
abbrev rBlk (h : Half) (k : Fin 7) (s : Sub) : Memref sig .tc .vmem S16x512 .bf16 :=
  (rM.slice (rRect h k s) (fun _ => rfl)).squeeze S16x512 squeezes_S1x1x16x512_S16x512
theorem rBlk_exact (h : Half) (k : Fin 7) (s : Sub) : (rBlk h k s).view.WordExact :=
  ((Memref.isWhole_whole _).wordExact_slice rfl _ (slot_words h k s)).reshape _ _

/-! ## Semaphores -/

/-- The barrier semaphore. -/
abbrev barS : Sem sig := (SemArray.scalar (sig.barrier 0 rfl) : Sems sig S_).sem

def semOff (h : Half) (st : Stage) (d : Dist) (s : Sub) : Fin 4 → Nat := ![h.val, st.val, d.val, s.val]
theorem semOff_inb (h : Half) (st : Stage) (d : Dist) (s : Sub) : ∀ a, semOff h st d s a + S1x1x1x1.size a ≤ S2x4x3x4.size a := by
  revert h st d s; decide +kernel
/-- The semaphore a transfer of stage `st` credits at its sender, and the one it credits at its target. -/
abbrev sendS (h : Half) (st : Stage) (d : Dist) (s : Sub) : DmaSem sig :=
  ((cc0_scratch2.slice (Rect.unit (s := S2x4x3x4) (semOff h st d s) S1x1x1x1.size (semOff_inb h st d s))).squeeze S_ squeezes_S1x1x1x1_S_).sem
abbrev recvS (h : Half) (st : Stage) (d : Dist) (s : Sub) : DmaSem sig :=
  ((cc0_scratch3.slice (Rect.unit (s := S2x4x3x4) (semOff h st d s) S1x1x1x1.size (semOff_inb h st d s))).squeeze S_ squeezes_S1x1x1x1_S_).sem

/-! ## The operations -/

abbrev Pr (F : FTy → Type) (α : Type) := Prog (TpuEff nD τ sig (Elt F) Λ₀ .tc) α

abbrev DmaView := Memref sig .tc .vmem S16x512 .bf16

/-- Start a transfer from `src` here to `dst` on device `p`. -/
abbrev send (p : Dev nD) (src dst : DmaView) (hs : src.view.WordExact) (hd : dst.view.WordExact) (ss rs : DmaSem sig) : Pr F PUnit :=
  Prog.lift (.enqueueDma src (.remote (Dev.tc p) dst (.dma ss)) (.dma rs) hs hd ⟨⟨rfl, Or.inl rfl⟩, trivial⟩)
abbrev await (sm : DmaSem sig) (src dst : DmaView) (hs : src.view.WordExact) (hd : dst.view.WordExact) : Pr F PUnit :=
  Prog.lift (.waitDma2 sm src dst hs hd)

/-- The source and the target of each transfer, as the stages name them. Stage 0: a peer's chunk into its slot `d`. -/
abbrev slot1 (d : Dist) : Fin 7 := ⟨d.val + 3, by omega⟩
abbrev slot0 (d : Dist) : Fin 7 := ⟨d.val, by omega⟩

def send0 (c : Dev nD) (h : Half) (d : Dist) (s : Sub) : Pr F PUnit :=
  send (peer1 h d c) (aBlk (offP c h d s) (good_P c h d s).inb) (rBlk h (slot0 d) s) (good_P c h d s).exact (rBlk_exact ..) (sendS h 0 d s) (recvS h 0 d s)
def send1 (c : Dev nD) (h : Half) (d : Dist) (s : Sub) : Pr F PUnit :=
  send (peer2 h d c) (aBlk (offO c h s) (good_O c h s).inb) (rBlk h (slot1 d) s) (good_O c h s).exact (rBlk_exact ..) (sendS h 1 d s) (recvS h 1 d s)
def send2 (c : Dev nD) (h : Half) (s : Sub) : Pr F PUnit :=
  send (peerX c) (aBlk (offO c h s) (good_O c h s).inb) (rBlk h 6 s) (good_O c h s).exact (rBlk_exact ..) (sendS h 2 0 s) (recvS h 2 0 s)
def send3 (c : Dev nD) (h : Half) (d : Dist) (s : Sub) : Pr F PUnit :=
  send (peer1 h d c) (aBlk (offO c h s) (good_O c h s).inb) (aBlk (offO c h s) (good_O c h s).inb) (good_O c h s).exact (good_O c h s).exact (sendS h 3 d s) (recvS h 3 d s)

def recv0 (c : Dev nD) (h : Half) (d : Dist) (s : Sub) : Pr F PUnit :=
  await (recvS h 0 d s) (aBlk (offP c h d s) (good_P c h d s).inb) (rBlk h (slot0 d) s) (good_P c h d s).exact (rBlk_exact ..)
def recv1 (c : Dev nD) (h : Half) (d : Dist) (s : Sub) : Pr F PUnit :=
  await (recvS h 1 d s) (aBlk (offO c h s) (good_O c h s).inb) (rBlk h (slot1 d) s) (good_O c h s).exact (rBlk_exact ..)
def recv2 (c : Dev nD) (h : Half) (s : Sub) : Pr F PUnit :=
  await (recvS h 2 0 s) (aBlk (offO c h s) (good_O c h s).inb) (rBlk h 6 s) (good_O c h s).exact (rBlk_exact ..)
def recv3 (c : Dev nD) (h : Half) (d : Dist) (s : Sub) : Pr F PUnit :=
  await (recvS h 3 d s) (aBlk (offO c h s) (good_O c h s).inb) (aBlk (offO c h s) (good_O c h s).inb) (good_O c h s).exact (good_O c h s).exact

def sent0 (c : Dev nD) (h : Half) (d : Dist) (s : Sub) : Pr F PUnit :=
  await (sendS h 0 d s) (rBlk h (slot0 d) s) (aBlk (offP c h d s) (good_P c h d s).inb) (rBlk_exact ..) (good_P c h d s).exact
def sent1 (c : Dev nD) (h : Half) (d : Dist) (s : Sub) : Pr F PUnit :=
  await (sendS h 1 d s) (rBlk h (slot1 d) s) (aBlk (offO c h s) (good_O c h s).inb) (rBlk_exact ..) (good_O c h s).exact
def sent2 (c : Dev nD) (h : Half) (s : Sub) : Pr F PUnit :=
  await (sendS h 2 0 s) (rBlk h 6 s) (aBlk (offO c h s) (good_O c h s).inb) (rBlk_exact ..) (good_O c h s).exact
def sent3 (c : Dev nD) (h : Half) (d : Dist) (s : Sub) : Pr F PUnit :=
  await (sendS h 3 d s) (aBlk (offO c h s) (good_O c h s).inb) (aBlk (offO c h s) (good_O c h s).inb) (good_O c h s).exact (good_O c h s).exact

/-- Rows of the accumulator, and a slot's rows, as a load reads them. -/
abbrev loadA (o : Fin 2 → Nat) (g : Good o) : Pr F (Vec F S16x512 .bf16) :=
  Prog.lift (.load aM (aRect o g.inb).toLoadRect (View.loadsAt_vmem h_S16x512))
abbrev loadR (h : Half) (k : Fin 7) (s : Sub) : Pr F (Vec F S1x1x16x512 .bf16) :=
  Prog.lift (.load rM (rRect h k s).toLoadRect (View.loadsAt_vmem h_S1x1x16x512))
abbrev storeA (o : Fin 2 → Nat) (g : Good o) (v : FVec F S16x512 .bf16) : Pr F PUnit :=
  Prog.lift (.store aM (aRect o g.inb) v Finset.univ
    (View.stores_vmem h_S16x512 ((Memref.isWhole_whole _).storeExact_slice rfl _ g.packed) (fun _ => rfl)) (.inl rfl))

abbrev flat (v : Vec F S1x1x16x512 .bf16) : FVec F S16x512 .bf16 := shapeCast S16x512 v shapeCasts_S1x1x16x512_S16x512

/-- What the accumulation of three slots stores, and of one. -/
def pay3 (a : Vec F S16x512 .bf16) (r₀ r₁ r₂ : Vec F S1x1x16x512 .bf16) : FVec F S16x512 .bf16 :=
  shapeCast S16x512 (addf a (addf (addf (flat r₀) (flat r₁)) (flat r₂))) shapeCasts_S16x512_S16x512
def pay1 (a : Vec F S16x512 .bf16) (r₀ : Vec F S1x1x16x512 .bf16) : FVec F S16x512 .bf16 :=
  shapeCast S16x512 (addf a (flat r₀)) shapeCasts_S16x512_S16x512

/-- The accumulation of three slots onto a block of the accumulator, and of the last slot. -/
def add3At (o : Fin 2 → Nat) (g : Good o) (h : Half) (s : Sub) (k₀ k₁ k₂ : Fin 7) : Pr F PUnit := do
  let a ← loadA o g
  let r₀ ← loadR h k₀ s
  let r₁ ← loadR h k₁ s
  let r₂ ← loadR h k₂ s
  let _ ← loadA (F := F) o g
  storeA o g (pay3 a r₀ r₁ r₂)
def add1At (o : Fin 2 → Nat) (g : Good o) (h : Half) (s : Sub) : Pr F PUnit := do
  let a ← loadA o g
  let r₀ ← loadR h 6 s
  let _ ← loadA (F := F) o g
  storeA o g (pay1 a r₀)
def add3 (c : Dev nD) (h : Half) (s : Sub) (k₀ k₁ k₂ : Fin 7) : Pr F PUnit := add3At (offL c h s) (good_L c h s) h s k₀ k₁ k₂
def add1 (c : Dev nD) (h : Half) (s : Sub) : Pr F PUnit := add1At (offL c h s) (good_L c h s) h s

abbrev rAll : Rect S512x512 := Rect.unit (s := S512x512) ![0, 0] S512x512.size inb_S512x512_S512x512_0_0
abbrev rX : Rect S1x1x1x512x512 := Rect.unit (s := S1x1x1x512x512) ![0, 0, 0, 0, 0] S1x1x1x512x512.size inb_S1x1x1x512x512_S1x1x1x512x512_0_0_0_0_0

/-- The device's block as the accumulator's first contents. -/
def payX (v : Vec F S1x1x1x512x512 .bf16) : FVec F S512x512 .bf16 :=
  shapeCast S512x512 (shapeCast S512x512 (shapeCast S1x1x1x512x512 v shapeCasts_S1x1x1x512x512_S1x1x1x512x512) shapeCasts_S1x1x1x512x512_S512x512)
    shapeCasts_S512x512_S512x512
/-- The accumulator as the result. -/
def payO (v : Vec F S512x512 .bf16) : FVec F S512x512 .f32 := extf .f32 v

def initA : Pr F PUnit := do
  let v ← Prog.lift (.load xM rX.toLoadRect (View.loadsAt_vmem h_S1x1x1x512x512))
  let _ : Vec F S512x512 .bf16 ← Prog.lift (.load aM rAll.toLoadRect (View.loadsAt_vmem h_S512x512))
  Prog.lift (.store aM rAll (payX v) Finset.univ
    (View.stores_vmem h_S512x512 ((Memref.isWhole_whole _).storeExact_slice rfl _ packedbf16_S512x512_S512x512_0_0) (fun _ => rfl)) (.inl rfl))

/-! ## The loops -/

/-- Run `f` at each element of a list. -/
def each {ι : Type} (f : ι → Pr F PUnit) : List ι → Pr F PUnit
  | [] => pure ⟨⟩
  | i :: l => do f i; each f l

abbrev dists : List Dist := [0, 1, 2]
/-- (sub-block, half) pairs, halves innermost: the order of the middle loops. -/
abbrev pairs : List (Half × Sub) := [(0, 0), (1, 0), (0, 1), (1, 1), (0, 2), (1, 2), (0, 3), (1, 3)]
/-- the same pairs, sub-blocks innermost: the order of the first loop. -/
abbrev pairs' : List (Half × Sub) := [(0, 0), (0, 1), (0, 2), (0, 3), (1, 0), (1, 1), (1, 2), (1, 3)]

def iter0 (c : Dev nD) (j : Half × Sub) : Pr F PUnit := each (fun d => send0 c j.1 d j.2) dists
def iter1 (c : Dev nD) (j : Half × Sub) : Pr F PUnit := do
  each (fun d => recv0 c j.1 d j.2) dists
  add3 c j.1 j.2 0 1 2
  each (fun d => send1 c j.1 d j.2) dists
def iter2 (c : Dev nD) (j : Half × Sub) : Pr F PUnit := do
  each (fun d => do recv1 c j.1 d j.2; sent1 c j.1 d j.2) dists
  add3 c j.1 j.2 3 4 5
  send2 c j.1 j.2
def iter3 (c : Dev nD) (j : Half × Sub) : Pr F PUnit := do
  recv2 c j.1 j.2
  sent2 c j.1 j.2
  add1 c j.1 j.2
  each (fun d => send3 c j.1 d j.2) dists
def iter4 (c : Dev nD) (j : Half × Sub) : Pr F PUnit := each (fun d => recv3 c j.1 d j.2) dists
def iter5 (c : Dev nD) (j : Half × Sub) : Pr F PUnit := each (fun d => do sent0 c j.1 d j.2; sent3 c j.1 d j.2) dists

def prog (c : Dev nD) : Pr F PUnit := do
  each (fun p => semSignalWord (peerB p c) barS 1#32) [0, 1, 2, 3, 4, 5, 6]
  semWaitWord barS 7#32
  initA
  each (iter0 c) pairs'
  each (iter1 c) pairs
  each (iter2 c) pairs
  each (iter3 c) pairs
  each (iter4 c) pairs
  let v ← Prog.lift (.load aM rAll.toLoadRect (View.loadsAt_vmem h_S512x512))
  let _ : Vec F S512x512 .f32 ← Prog.lift (.load oM rAll.toLoadRect (View.loadsAt_vmem h_S512x512))
  Prog.lift (.store oM rAll (payO v) Finset.univ
    (View.stores_vmem_bits_univ h_S512x512 rfl) (.inl rfl))
  each (iter5 c) pairs

/-- The printed body, on the kernel's own buffers, is that program at the device it runs on. -/
theorem body_eq :
    cc0_body (F := F) xM (Memref.isWhole_whole _) oM (Memref.isWhole_whole _) aM (Memref.isWhole_whole _) rM (Memref.isWhole_whole _)
        cc0_scratch2 cc0_scratch3
      = (do let c ← Prog.lift .deviceId; prog c) := by
  sl_kernel_rfl

end Cert.AllReduce

end
-- ==== Proof.Geometry.lean ====
/-
# The blocks of the two scratch buffers, and what they hold

The accumulator is cut into 32 blocks of sixteen rows, one per half, chunk and sub-block; the landing buffer into 56,
one per half, slot and sub-block. Contents are written as functions of the whole buffer, so that a block is a
buffer's contents held on the block's indices.
-/
module

public import proofs.«01_k».proof.Proof.Prog
public import Idealize.ShloMosaic.Lib.Pipeline.Value
public import Idealize.ShloMosaic.Lib.Pipeline.ValueKit.Geometry

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## Peers -/

/-- Distances come in pairs: going `d + 1` along an axis and then `rev d + 1` goes all the way round. -/
abbrev rev (d : Dist) : Dist := Fin.rev d

theorem peer1_rev (h : Half) (d : Dist) (c : Dev nD) : peer1 h d (peer1 h (rev d) c) = c := by revert h d c; decide +kernel
theorem rev_peer1 (h : Half) (d : Dist) (c : Dev nD) : peer1 h (rev d) (peer1 h d c) = c := by revert h d c; decide +kernel
theorem peer2_rev (h : Half) (d : Dist) (c : Dev nD) : peer2 h d (peer2 h (rev d) c) = c := by revert h d c; decide +kernel
theorem rev_peer2 (h : Half) (d : Dist) (c : Dev nD) : peer2 h (rev d) (peer2 h d c) = c := by revert h d c; decide +kernel
theorem peerX_peerX (c : Dev nD) : peerX (peerX c) = c := by revert c; decide +kernel
theorem own_peer2 (h : Half) (d : Dist) (c : Dev nD) : own h (peer2 h d c) = own h c := by revert h d c; decide +kernel
theorem own_peerX (h : Half) (c : Dev nD) : own h (peerX c) = own h c := by revert h c; decide +kernel

/-- The chunks of a half, as a device's own (`none`) and those of its three peers along the first axis. -/
def chunk (h : Half) (c : Dev nD) : Option Dist → Fin 4
  | none => own h c
  | some d => own h (peer1 h d c)

theorem chunk_bijective (h : Half) (c : Dev nD) : Function.Bijective (chunk h c) := by revert h c; decide +kernel

/-! ## The blocks -/

abbrev AIdx : Type := S512x512.Idx
abbrev RIdx : Type := S2x7x64x512.Idx

/-- The indices of block `(h, q, s)` of the accumulator, and of block `(h, k, s)` of the landing buffer. -/
def aSet (h : Half) (q : Fin 4) (s : Sub) : Finset AIdx := (aBlk (blkOff h q s) (blkOff_inb h q s)).view.set
def rSet (h : Half) (k : Fin 7) (s : Sub) : Finset RIdx := (rBlk h k s).view.set

theorem aBlk_emb (o : Fin 2 → Nat) (ho : InbA o) (x : S16x512.Idx) (a : Fin 2) :
    (((aBlk o ho).view.emb x : AIdx) a : Nat) = o a + (x a : Nat) :=
  ValueKit.view_emb_slice_whole_unit_val cc0_scratch0 o S16x512.size ho x a

/-- A sixteen-row index as an index of a slot's block, which has two more axes of one. -/
def up (x : S16x512.Idx) : S1x1x16x512.Idx := fun a => match a with
  | ⟨0, _⟩ => (0 : Fin 1) | ⟨1, _⟩ => (0 : Fin 1) | ⟨2, _⟩ => x 0 | ⟨3, _⟩ => x 1

theorem up_rowMajor (x : S16x512.Idx) : (S1x1x16x512.rowMajor (up x)).val = (S16x512.rowMajor x).val := by
  rw [Shape.rowMajor_val_four, Shape.rowMajor_val_two]
  show ((0 * 1 + 0) * 16 + (x 0 : Nat)) * 512 + (x 1 : Nat) = (x 0 : Nat) * 512 + (x 1 : Nat)
  omega

theorem up_eq (h : S16x512.numel = S1x1x16x512.numel) (x : S16x512.Idx) : Shape.reshapeEquiv h x = up x :=
  Shape.reshapeEquiv_eq_of_rowMajor h (up_rowMajor x)

theorem flat_apply (v : Vec F S1x1x16x512 .bf16) (x : S16x512.Idx) : flat v x = v (up x) :=
  shapeCast_apply v _ x (up x) (up_rowMajor x)

theorem rRect_emb (h : Half) (k : Fin 7) (s : Sub) (y : S1x1x16x512.Idx) (a : Fin 4) :
    ((((rM.slice (rRect h k s) (fun _ => rfl)).view.emb y : RIdx) a : Nat)) = slotOff h k s a + (y a : Nat) :=
  ValueKit.view_emb_slice_whole_unit_val cc0_scratch1 (slotOff h k s) S1x1x16x512.size (slotOff_inb h k s) y a

theorem rBlk_emb (h : Half) (k : Fin 7) (s : Sub) (x : S16x512.Idx) :
    (rBlk h k s).view.emb x = (rM.slice (rRect h k s) (fun _ => rfl)).view.emb (up x) :=
  congrArg (rM.slice (rRect h k s) (fun _ => rfl)).view.emb (up_eq _ x)

theorem mem_aSet {h : Half} {q : Fin 4} {s : Sub} {i : AIdx} :
    i ∈ aSet h q s ↔ 256 * h.val + 64 * q.val + 16 * s.val ≤ (i 0).val ∧ (i 0).val < 256 * h.val + 64 * q.val + 16 * s.val + 16 := by
  unfold aSet
  refine ValueKit.mem_set_slice_whole_iff cc0_scratch0 _ i (Rect.mem_set_unit.trans ?_)
  have h1 : (i 1).val < 512 := (i 1).isLt
  exact ⟨fun H => H (0 : Fin 2), fun H a => match a with | ⟨0, _⟩ => H | ⟨1, _⟩ => ⟨Nat.zero_le _, by show (i 1).val < 0 + 512; omega⟩⟩

theorem mem_rSet {h : Half} {k : Fin 7} {s : Sub} {i : RIdx} :
    i ∈ rSet h k s ↔ (i 0).val = h.val ∧ (i 1).val = k.val ∧ 16 * s.val ≤ (i 2).val ∧ (i 2).val < 16 * s.val + 16 := by
  unfold rSet
  rw [show (rBlk h k s).view.set = (rM.slice (rRect h k s) (fun _ => rfl)).view.set from View.set_reshape _ _]
  refine ValueKit.mem_set_slice_whole_iff cc0_scratch1 _ i (Rect.mem_set_unit.trans ?_)
  have h3 : (i 3).val < 512 := (i 3).isLt
  constructor
  · intro H
    have H0 : h.val ≤ (i 0).val ∧ (i 0).val < h.val + 1 := H (0 : Fin 4)
    have H1 : k.val ≤ (i 1).val ∧ (i 1).val < k.val + 1 := H (1 : Fin 4)
    have H2 : 16 * s.val ≤ (i 2).val ∧ (i 2).val < 16 * s.val + 16 := H (2 : Fin 4)
    omega
  · rintro ⟨H0, H1, H2, H3⟩ a
    match a with
    | ⟨0, _⟩ => show h.val ≤ (i 0).val ∧ (i 0).val < h.val + 1; omega
    | ⟨1, _⟩ => show k.val ≤ (i 1).val ∧ (i 1).val < k.val + 1; omega
    | ⟨2, _⟩ => show 16 * s.val ≤ (i 2).val ∧ (i 2).val < 16 * s.val + 16; omega
    | ⟨3, _⟩ => show 0 ≤ (i 3).val ∧ (i 3).val < 0 + 512; omega

/-- The blocks of either buffer are disjoint and cover it. -/
theorem aSet_disjoint (t t' : (Half × Sub) × Fin 4) (ht : t ≠ t') : Disjoint (aSet t.1.1 t.2 t.1.2) (aSet t'.1.1 t'.2 t'.1.2) := by
  obtain ⟨⟨h, s⟩, q⟩ := t
  obtain ⟨⟨h', s'⟩, q'⟩ := t'
  refine Finset.disjoint_left.mpr fun i hi hi' => ht ?_
  rw [mem_aSet] at hi hi'
  simp only at hi hi'
  have e1 : h = h' := Fin.ext (by omega)
  have e2 : q = q' := Fin.ext (by omega)
  have e3 : s = s' := Fin.ext (by omega)
  rw [e1, e2, e3]

theorem aSet_cover : (Finset.univ : Finset AIdx) = Finset.univ.biUnion fun t : (Half × Sub) × Fin 4 => aSet t.1.1 t.2 t.1.2 := by
  refine (Finset.eq_univ_iff_forall.mpr fun i => Finset.mem_biUnion.mpr ?_).symm
  have h0 : (i 0).val < 512 := (i 0).isLt
  refine ⟨⟨⟨⟨(i 0).val / 256, by omega⟩, ⟨(i 0).val / 16 % 4, by omega⟩⟩, ⟨(i 0).val / 64 % 4, by omega⟩⟩, Finset.mem_univ _, mem_aSet.mpr ?_⟩
  simp only
  omega

theorem rSet_disjoint (t t' : (Half × Sub) × Fin 7) (ht : t ≠ t') : Disjoint (rSet t.1.1 t.2 t.1.2) (rSet t'.1.1 t'.2 t'.1.2) := by
  obtain ⟨⟨h, s⟩, k⟩ := t
  obtain ⟨⟨h', s'⟩, k'⟩ := t'
  refine Finset.disjoint_left.mpr fun i hi hi' => ht ?_
  rw [mem_rSet] at hi hi'
  simp only at hi hi'
  have e1 : h = h' := Fin.ext (by omega)
  have e2 : k = k' := Fin.ext (by omega)
  have e3 : s = s' := Fin.ext (by omega)
  rw [e1, e2, e3]

theorem rSet_cover : (Finset.univ : Finset RIdx) = Finset.univ.biUnion fun t : (Half × Sub) × Fin 7 => rSet t.1.1 t.2 t.1.2 := by
  refine (Finset.eq_univ_iff_forall.mpr fun i => Finset.mem_biUnion.mpr ?_).symm
  have h0 : (i 0).val < 2 := (i 0).isLt
  have h1 : (i 1).val < 7 := (i 1).isLt
  have h2 : (i 2).val < 64 := (i 2).isLt
  refine ⟨⟨⟨⟨(i 0).val, h0⟩, ⟨(i 2).val / 16, by omega⟩⟩, ⟨(i 1).val, h1⟩⟩, Finset.mem_univ _, mem_rSet.mpr ?_⟩
  exact ⟨rfl, rfl, by show 16 * ((i 2).val / 16) ≤ (i 2).val; omega, by show (i 2).val < 16 * ((i 2).val / 16) + 16; omega⟩

/-! ## Contents -/

/-- Contents of the accumulator and of the landing buffer. -/
abbrev VA (F : FTy → Type) : Type := AIdx → Elt F .bf16
abbrev VR (F : FTy → Type) : Type := RIdx → Elt F .bf16

/-- The half a row of the accumulator lies in. -/
def half (i : AIdx) : Half := ⟨(i 0).val / 256, by have h : (i 0).val < 512 := (i 0).isLt; omega⟩

theorem half_of_mem {h : Half} {q : Fin 4} {s : Sub} {i : AIdx} (hi : i ∈ aSet h q s) : half i = h := by
  rw [mem_aSet] at hi; exact Fin.ext (by simp only [half]; omega)

/-- The device that goes `d + 1` along the first axis of half `h`, or along the second, to reach `c`. -/
abbrev src1 (h : Half) (d : Dist) (c : Dev nD) : Dev nD := peer1 h (rev d) c
abbrev src2 (h : Half) (d : Dist) (c : Dev nD) : Dev nD := peer2 h (rev d) c

abbrev plus (a b : Elt F .bf16) : Elt F .bf16 := (FloatOps.addf (F := F) (φ := .bf16) a b)

/-- What a device's accumulator holds once it has added the three blocks it received to its own. -/
def gather (src : Half → Dist → Dev nD → Dev nD) (X : Dev nD → VA F) (c : Dev nD) : VA F := fun i =>
  plus (X c i) (plus (plus (X (src (half i) 0 c) i) (X (src (half i) 1 c) i)) (X (src (half i) 2 c) i))

/-- The accumulator's contents, from first contents `X`, after the exchange along a half's first axis, along its second,
    and with the other device along `x`. Each is what the device's OWN chunks hold. -/
def acc1 (X : Dev nD → VA F) : Dev nD → VA F := gather src1 X
def acc2 (X : Dev nD → VA F) : Dev nD → VA F := gather src2 (acc1 X)
def acc3 (X : Dev nD → VA F) (c : Dev nD) : VA F := fun i => plus (acc2 X c i) (acc2 X (peerX c) i)

/-- The landing buffer of device `c`, a slot of which holds `c`'s own chunk of contents `X`. -/
def landing (c : Dev nD) (X : VA F) : VR F := fun i =>
  X fun a => match a with
    | ⟨0, _⟩ => (⟨256 * (i 0).val + 64 * (own ⟨(i 0).val, (i 0).isLt⟩ c).val + (i 2).val, by
        have h0 : (i 0).val < 2 := (i 0).isLt
        have h2 : (i 2).val < 64 := (i 2).isLt
        show _ < 512
        omega⟩ : Fin 512)
    | ⟨1, _⟩ => (⟨(i 3).val, (i 3).isLt⟩ : Fin 512)

theorem landing_emb (c : Dev nD) (X : VA F) (h : Half) (k : Fin 7) (s : Sub) (x : S16x512.Idx) (ho : InbA (blkOff h (own h c) s)) :
    landing c X ((rM.slice (rRect h k s) (fun _ => rfl)).view.emb (up x)) = X ((aBlk (blkOff h (own h c) s) ho).view.emb x) := by
  have e := rRect_emb h k s (up x)
  have e0 : _ = h.val + 0 := e (0 : Fin 4)
  have e2 : _ = 16 * s.val + (x 0).val := e (2 : Fin 4)
  have e3 : _ = 0 + (x 1).val := e (3 : Fin 4)
  unfold landing
  refine congrArg X (funext fun a => Fin.ext ?_)
  match a with
  | ⟨0, _⟩ =>
    refine Eq.trans ?_ (aBlk_emb (blkOff h (own h c) s) ho x (0 : Fin 2)).symm
    show 256 * _ + 64 * (own _ c).val + _ = (256 * h.val + 64 * (own h c).val + 16 * s.val) + (x 0).val
    rw [e2]
    have eh : (⟨_, ((((rM.slice (rRect h k s) (fun _ => rfl)).view.emb (up x) : RIdx) 0)).isLt⟩ : Half) = h := Fin.ext e0
    rw [eh, e0]
    omega
  | ⟨1, _⟩ =>
    refine Eq.trans ?_ (aBlk_emb (blkOff h (own h c) s) ho x (1 : Fin 2)).symm
    exact e3

/-- A transfer of device `c`'s own chunk of `X` into a slot of its landing buffer leaves the slot holding it; -/
theorem landed (c : Dev nD) (X : VA F) (fd : VR F) (h : Half) (k : Fin 7) (s : Sub) (ho : InbA (blkOff h (own h c) s)) :
    ∀ i ∈ rSet h k s, (rBlk h k s).view.write (Elt F) fd ((aBlk (blkOff h (own h c) s) ho).view.read (Elt F) X) Finset.univ i = landing c X i := by
  intro i hi
  obtain ⟨x, hx, rfl⟩ := Finset.mem_map.mp hi
  rw [View.write_emb_of_mem _ _ (Finset.mem_univ x), rBlk_emb, landing_emb c X h k s x ho]
  rfl

/-- a transfer of a chunk of `X` into the same chunk of another accumulator leaves that chunk holding it. -/
theorem landed_self (X fd : VA F) (h : Half) (q : Fin 4) (s : Sub) (ho : InbA (blkOff h q s)) :
    ∀ i ∈ aSet h q s, (aBlk (blkOff h q s) ho).view.write (Elt F) fd ((aBlk (blkOff h q s) ho).view.read (Elt F) X) Finset.univ i = X i := by
  intro i hi
  obtain ⟨x, hx, rfl⟩ := Finset.mem_map.mp hi
  rw [View.write_emb_of_mem _ _ (Finset.mem_univ x)]
  rfl

/-- What a load of a block of the accumulator reads, and one of a slot's block, at an index. -/
abbrev readA (o : Fin 2 → Nat) (ho : InbA o) (X : VA F) : Vec F S16x512 .bf16 := aM.view.readAt (Elt F) (aRect o ho).toLoadRect X
abbrev readR (h : Half) (k : Fin 7) (s : Sub) (Y : VR F) : Vec F S1x1x16x512 .bf16 := rM.view.readAt (Elt F) (rRect h k s).toLoadRect Y

theorem readA_apply (o : Fin 2 → Nat) (ho : InbA o) (X : VA F) (x : S16x512.Idx) : readA o ho X x = X ((aBlk o ho).view.emb x) := rfl

theorem readR_apply (h : Half) (k : Fin 7) (s : Sub) (c : Dev nD) (X : VA F) (ho : InbA (blkOff h (own h c) s)) (x : S16x512.Idx) :
    flat (readR h k s (landing c X)) x = X ((aBlk (blkOff h (own h c) s) ho).view.emb x) := by
  rw [flat_apply, ← landing_emb c X h k s x ho]
  rfl

theorem aBlk_emb_mem (h : Half) (q : Fin 4) (s : Sub) (ho : InbA (blkOff h q s)) (x : S16x512.Idx) : (aBlk (blkOff h q s) ho).view.emb x ∈ aSet h q s :=
  Finset.mem_map.mpr ⟨x, Finset.mem_univ _, rfl⟩

/-- The store of an accumulation of three slots, and of one, on the device's own block. -/
theorem stored3 (src : Half → Dist → Dev nD → Dev nD) (X : Dev nD → VA F) (c : Dev nD) (h : Half) (s : Sub) (k₀ k₁ k₂ : Fin 7)
    (ho : InbA (blkOff h (own h c) s)) :
    ∀ i ∈ aSet h (own h c) s, (aM.access (aRect (blkOff h (own h c) s) ho) : View sig .tc _ _ _).write (Elt F) (X c)
        (pay3 (readA _ ho (X c)) (readR h k₀ s (landing c (X (src h 0 c)))) (readR h k₁ s (landing c (X (src h 1 c)))) (readR h k₂ s (landing c (X (src h 2 c)))))
        Finset.univ i = gather src X c i := by
  intro i hi
  have hh := half_of_mem hi
  obtain ⟨x, hx, rfl⟩ := Finset.mem_map.mp hi
  refine (View.write_emb_of_mem _ _ (Finset.mem_univ x)).trans ?_
  unfold gather pay3
  rw [hh, shapeCast_self]
  show plus (readA _ ho (X c) x) (plus (plus (flat (readR h k₀ s (landing c (X (src h 0 c)))) x) (flat (readR h k₁ s (landing c (X (src h 1 c)))) x))
    (flat (readR h k₂ s (landing c (X (src h 2 c)))) x)) = _
  rw [readR_apply h k₀ s c _ ho, readR_apply h k₁ s c _ ho, readR_apply h k₂ s c _ ho, readA_apply]

theorem stored1 (X : Dev nD → VA F) (c : Dev nD) (h : Half) (s : Sub) (ho : InbA (blkOff h (own h c) s)) :
    ∀ i ∈ aSet h (own h c) s, (aM.access (aRect (blkOff h (own h c) s) ho) : View sig .tc _ _ _).write (Elt F) (acc2 X c)
        (pay1 (readA _ ho (acc2 X c)) (readR h 6 s (landing c (acc2 X (peerX c))))) Finset.univ i = acc3 X c i := by
  intro i hi
  obtain ⟨x, hx, rfl⟩ := Finset.mem_map.mp hi
  refine (View.write_emb_of_mem _ _ (Finset.mem_univ x)).trans ?_
  unfold acc3 pay1
  rw [shapeCast_self]
  show plus (readA _ ho (acc2 X c) x) (flat (readR h 6 s (landing c (acc2 X (peerX c)))) x) = _
  rw [readR_apply h 6 s c _ ho, readA_apply]

/-- What each device's accumulator holds at the end: of each chunk, its owner's. -/
def owner (c : Dev nD) (i : AIdx) : Dev nD :=
  if (i 0).val / 64 % 4 = (own (half i) c).val then c
  else if (i 0).val / 64 % 4 = (own (half i) (peer1 (half i) 0 c)).val then peer1 (half i) 0 c
  else if (i 0).val / 64 % 4 = (own (half i) (peer1 (half i) 1 c)).val then peer1 (half i) 1 c
  else peer1 (half i) 2 c
def final (X : Dev nD → VA F) (c : Dev nD) : VA F := fun i => acc3 X (owner c i) i

theorem own_peer1_ne (h : Half) (d : Dist) (c : Dev nD) : own h c ≠ own h (peer1 h d c) := by revert h d c; decide +kernel
theorem own_peer1_inj (h : Half) (d d' : Dist) (c : Dev nD) (e : own h (peer1 h d c) = own h (peer1 h d' c)) : d = d' := by
  revert h d d' c; decide +kernel

theorem chunk_of_mem {h : Half} {q : Fin 4} {s : Sub} {i : AIdx} (hi : i ∈ aSet h q s) : (i 0).val / 64 % 4 = q.val := by
  rw [mem_aSet] at hi; omega

theorem final_own (X : Dev nD → VA F) (c : Dev nD) (h : Half) (s : Sub) : ∀ i ∈ aSet h (own h c) s, acc3 X c i = final X c i := by
  intro i hi
  unfold final owner
  rw [half_of_mem hi, chunk_of_mem hi, if_pos rfl]

theorem final_peer (X : Dev nD → VA F) (c : Dev nD) (h : Half) (d : Dist) (s : Sub) :
    ∀ i ∈ aSet h (own h (peer1 h d c)) s, acc3 X (peer1 h d c) i = final X c i := by
  intro i hi
  unfold final owner
  rw [half_of_mem hi, chunk_of_mem hi, if_neg fun e => own_peer1_ne h d c (Fin.ext e).symm]
  congr 1
  by_cases e0 : d = 0
  · subst e0; rw [if_pos rfl]
  rw [if_neg fun e => e0 (own_peer1_inj h d 0 c (Fin.ext e))]
  by_cases e1 : d = 1
  · subst e1; rw [if_pos rfl]
  rw [if_neg fun e => e1 (own_peer1_inj h d 1 c (Fin.ext e))]
  have : d = 2 := (by decide : ∀ d : Dist, d ≠ 0 → d ≠ 1 → d = 2) d e0 e1
  rw [this]

end Cert.AllReduce

end
-- ==== Proof.Protocol.lean ====
/-
# The protocol: cells, rounds, payloads and levels

Every semaphore the kernel waits on is a cell with one round. A device's barrier cell has seven duties of one unit, one
per peer: the peer hands over the slots of its landing buffer that the device will write. A transfer's send cell and
receive cell have one duty each, the transfer's credit. The receive cell's payload is the landed block; of the first
exchange also the sender's own block, on which the chunk comes back at the end. The send cell's payload is the share
of the source the transfer read, where the sender needs it again.
-/
module

public import proofs.«01_k».proof.Proof.Geometry
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev Duty := Fin 7
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A transfer of the protocol up to its device: half, stage, distance, sub-block. -/
abbrev Xfer := Half × Stage × Dist × Sub

/-- A device's own cells: of each transfer the receive cell (`true`) and the send cell (`false`). -/
abbrev OwnKey := Bool × Xfer
abbrev osemD (k : OwnKey) : DmaSem sig := match k with
  | (true, h, st, d, s) => recvS h st d s
  | (false, h, st, d, s) => sendS h st d s
abbrev osem (k : OwnKey) : SemLoc sig := .dma (osemD k)

/-- All its cells: those and the barrier's. -/
abbrev Key := Option OwnKey
abbrev csem : Key → SemLoc sig
  | none => .reg barS
  | some k => osem k

theorem osem_injective : Function.Injective osem := by
  have hv : ∀ (b : Bool) (h : Half) (st : Stage) (d : Dist) (s : Sub),
      (osemD (b, h, st, d, s)).val = (if b then 98 else 2) + (48 * h.val + 12 * st.val + 4 * d.val + s.val) := by decide +kernel
  rintro ⟨b, h, st, d, s⟩ ⟨b', h', st', d', s'⟩ e
  have e' : (osemD (b, h, st, d, s)).val = (osemD (b', h', st', d', s')).val := congrArg Fin.val (SemLoc.dma.inj e)
  rw [hv, hv] at e'
  have h1 := h.isLt; have h2 := st.isLt; have h3 := d.isLt; have h4 := s.isLt
  have h1' := h'.isLt; have h2' := st'.isLt; have h3' := d'.isLt; have h4' := s'.isLt
  have eb : b = b' := by cases b <;> cases b' <;> simp at e' ⊢ <;> omega
  subst eb
  have e1 : h = h' := Fin.ext (by omega)
  have e2 : st = st' := Fin.ext (by omega)
  have e3 : d = d' := Fin.ext (by omega)
  have e4 : s = s' := Fin.ext (by omega)
  rw [e1, e2, e3, e4]

theorem osem_ne_bar (k : OwnKey) : osem k ≠ .reg barS := fun h => by cases h

theorem csem_injective : Function.Injective csem := by
  rintro (_ | k) (_ | k') h
  · rfl
  · exact absurd h.symm (osem_ne_bar k')
  · exact absurd h (osem_ne_bar k)
  · exact congrArg some (osem_injective h)

instance : DecidableEq Xfer := inferInstanceAs (DecidableEq (Fin 2 × Fin 4 × Fin 3 × Fin 4))
instance : DecidableEq OwnKey := inferInstanceAs (DecidableEq (Bool × Xfer))
instance : DecidableEq Key := inferInstanceAs (DecidableEq (Option OwnKey))
instance : DecidableEq (Dev nD × Key) := inferInstanceAs (DecidableEq (Fin nD × Key))

abbrev cell (c : Dev nD) (k : Key) : GSem nD τ sig := ((c : Thread nD τ), csem k)
abbrev barCell (c : Dev nD) : GSem nD τ sig := cell c none
abbrev recvCell (c : Dev nD) (x : Xfer) : GSem nD τ sig := cell c (some (true, x))
abbrev sendCell (c : Dev nD) (x : Xfer) : GSem nD τ sig := cell c (some (false, x))

theorem cell_injective : Function.Injective fun ck : Dev nD × Key => cell ck.1 ck.2 := by
  rintro ⟨c, k⟩ ⟨c', k'⟩ h
  have h1 : c = c' := congrArg (fun g : GSem nD τ sig => g.1.1) h
  have h2 : k = k' := csem_injective (congrArg Prod.snd h)
  rw [h1, h2]

/-- The transfers of stage 2 have one distance only. -/
abbrev used (x : Xfer) : Prop := x.2.1 = 2 → x.2.2.1 = 0

/-- The credit of one transfer: every transfer moves a block of sixteen rows. -/
abbrev N : ℕ := (rBlk 0 0 0).view.dmaCredit
theorem N_pos : 0 < N := View.dmaCredit_pos _ (by decide)

/-! ## Blocks as resources -/

/-- A block of device `c`'s accumulator, at a share, at contents `f`; -/
def accAt (c : Dev nD) (q : PosShare TreeShare) (h : Half) (ch : Fin 4) (s : Sub) (f : VA F) : sProp 𝕄 :=
  ((c : Thread nD τ).loc cc0_scratch0) ↦[aSet h ch s]{q} f
/-- a block of its landing buffer, at contents `f`; at any contents. -/
def slotAt (c : Dev nD) (h : Half) (k : Fin 7) (s : Sub) (f : VR F) : sProp 𝕄 :=
  ((c : Thread nD τ).loc cc0_scratch1) ↦[rSet h k s]{fullShare} f
def slotAny (c : Dev nD) (h : Half) (k : Fin 7) (s : Sub) : sProp 𝕄 := iprop(∃ f, slotAt c h k s f)

instance accAt_storable (c : Dev nD) (q h ch s) (f : VA F) : BI.Storable (upEmb : UEmb _ 𝕄) (accAt c q h ch s f) := by unfold accAt; infer_instance
instance slotAt_storable (c : Dev nD) (h k s) (f : VR F) : BI.Storable (upEmb : UEmb _ 𝕄) (slotAt c h k s f) := by unfold slotAt; infer_instance
instance slotAny_storable (c : Dev nD) (h k s) : BI.Storable (upEmb : UEmb _ 𝕄) (slotAny (F := F) c h k s) := by unfold slotAny; infer_instance

/-- The shares of a block that its three transfers read, and the one the device keeps. -/
def lent (d : Dist) : PosShare TreeShare := match d with
  | 0 => fullShare.left.left | 1 => fullShare.left.right | 2 => fullShare.right.left
abbrev kept : PosShare TreeShare := fullShare.right.right

theorem accAt_deal (c : Dev nD) (h ch s) (f : VA F) :
    (accAt c fullShare h ch s f : sProp 𝕄) ⊣⊢ iprop((bigSep Finset.univ fun d => accAt c (lent d) h ch s f) ∗ accAt c kept h ch s f) := by
  rw [bigSep_univ_eq_bigSepL [(0 : Dist), 1, 2] (by decide) (by decide)]
  show _ ⊣⊢ iprop((accAt c fullShare.left.left h ch s f ∗ accAt c fullShare.left.right h ch s f ∗ accAt c fullShare.right.left h ch s f)
    ∗ accAt c fullShare.right.right h ch s f)
  have e (q : PosShare TreeShare) : (accAt c q h ch s f : sProp 𝕄) ⊣⊢ iprop(accAt c q.left h ch s f ∗ accAt c q.right h ch s f) :=
    pointsTo_share (PosShare.mem_left_op_right q)
  constructor
  · iintro H
    ihave H := (e fullShare).1 $$ H
    icases H with ⟨HL, HR⟩
    ihave HL := (e fullShare.left).1 $$ HL
    icases HL with ⟨H1, H2⟩
    ihave HR := (e fullShare.right).1 $$ HR
    icases HR with ⟨H3, H4⟩
    isplitl [H1 H2 H3]
    · isplitl [H1]; · iexact H1
      isplitl [H2]; · iexact H2
      iexact H3
    iexact H4
  · iintro ⟨⟨H1, H2, H3⟩, H4⟩
    iapply (e fullShare).2
    isplitl [H1 H2]
    · iapply (e fullShare.left).2
      isplitl [H1]; · iexact H1
      iexact H2
    · iapply (e fullShare.right).2
      isplitl [H3]; · iexact H3
      iexact H4

/-! ## The schedule -/

section Schedule

-- The accumulators' first contents, one per device.
variable (X : Dev nD → VA F)

/-- Which slot of peer `p`'s landing buffer a device writes, per half. -/
def slotOf (h : Half) (p : Fin 7) : Fin 7 := match h with
  | 0 => p
  | 1 => match p with | 0 => 3 | 1 => 4 | 2 => 5 | 3 => 0 | 4 => 1 | 5 => 2 | 6 => 6

/-- What peer `p` hands over at the barrier: the slots of its landing buffer that the device writes. -/
def barPay (p : Fin 7) (c : Dev nD) : sProp 𝕄 :=
  bigSep Finset.univ fun j : Half × Sub => slotAny (F := F) (peerB p c) j.1 (slotOf j.1 p) j.2

/-- What the transfer `x` into device `c` hands it, -/
def recvPay (x : Xfer) (c : Dev nD) : sProp 𝕄 := match x with
  | (h, 0, d, s) => iprop(slotAt c h (slot0 d) s (landing c (X (src1 h d c))) ∗ accAt (src1 h d c) fullShare h (own h c) s (X (src1 h d c)))
  | (h, 1, d, s) => slotAt c h (slot1 d) s (landing c (acc1 X (src2 h d c)))
  | (h, 2, _, s) => slotAt c h 6 s (landing c (acc2 X (peerX c)))
  | (h, 3, d, s) => accAt c fullShare h (own h (src1 h d c)) s (acc3 X (src1 h d c))
/-- and what the transfer `x` out of it hands back to it. -/
def sendPay (x : Xfer) (c : Dev nD) : sProp 𝕄 := match x with
  | (_, 0, _, _) => iprop(emp)
  | (h, 1, d, s) => accAt c (lent d) h (own h c) s (acc1 X c)
  | (h, 2, _, s) => accAt c fullShare h (own h c) s (acc2 X c)
  | (h, 3, d, s) => accAt c (lent d) h (own h c) s (acc3 X c)

instance recvPay_storable (x : Xfer) (c : Dev nD) : BI.Storable (upEmb : UEmb _ 𝕄) (recvPay X x c) := by
  unfold recvPay; split <;> infer_instance
instance sendPay_storable (x : Xfer) (c : Dev nD) : BI.Storable (upEmb : UEmb _ 𝕄) (sendPay X x c) := by
  unfold sendPay; split <;> infer_instance
instance barPay_storable (p : Fin 7) (c : Dev nD) : BI.Storable (upEmb : UEmb _ 𝕄) (barPay (F := F) p c) := by unfold barPay; infer_instance

def dutiesK : Key → Finset Duty
  | none => Finset.univ
  | some (_, x) => if used x then {0} else ∅
def payK (c : Dev nD) (d : Duty) : Key → sProp 𝕄
  | none => barPay d c
  | some (true, x) => recvPay X x c
  | some (false, x) => sendPay X x c
def amountK : Key → ℕ
  | none => 1
  | some _ => N

instance payK_storable (c : Dev nD) (d : Duty) (k : Key) : BI.Storable (upEmb : UEmb _ 𝕄) (payK X c d k) := by
  unfold payK; split <;> infer_instance

/-- What is stated per key, at a semaphore: its key's, or a default where it has none. -/
def atSem {α : Sort _} (f : Key → α) (a : α) (sm : SemLoc sig) : α := Function.extend csem f (fun _ => a) sm

theorem atSem_csem {α : Sort _} (f : Key → α) (a : α) (k : Key) : atSem f a (csem k) = f k := csem_injective.extend_apply f _ k

theorem atSem_ind {α : Sort _} (P : α → Prop) (f : Key → α) (a : α) (hf : ∀ k, P (f k)) (ha : P a) (sm : SemLoc sig) : P (atSem f a sm) := by
  by_cases h : ∃ k, csem k = sm
  · obtain ⟨k, rfl⟩ := h; rw [atSem_csem]; exact hf k
  · unfold atSem; rw [Function.extend_apply' _ _ _ h]; exact ha

def sched : Rounds.Schedule (GSem nD τ sig) Duty 𝕄 where
  duties g r := if r = 0 ∧ g.1.2 = .tc then atSem dutiesK ∅ g.2 else ∅
  unitless _ := False
  amount g _ _ := atSem amountK 1 g.2
  payload g _ d := atSem (payK X g.1.1 d) iprop(emp) g.2
  amount_pos g _ _ _ := atSem_ind (fun n => 0 < n) amountK 1 (fun k => match k with | none => Nat.one_pos | some _ => N_pos) Nat.one_pos g.2

instance sched_payload_storable (g : GSem nD τ sig) (r : ℕ) (d : Duty) : BI.Storable (upEmb : UEmb _ 𝕄) ((sched X).payload g r d) := by
  show BI.Storable (upEmb : UEmb _ 𝕄) (atSem (payK X g.1.1 d) iprop(emp) g.2)
  exact atSem_ind (fun P : sProp 𝕄 => BI.Storable (upEmb : UEmb _ 𝕄) P) _ _ (fun k => payK_storable X g.1.1 d k) inferInstance g.2

theorem duties_cell (c : Dev nD) (k : Key) : (sched X).duties (cell c k) 0 = dutiesK k := by
  show (if (0 : ℕ) = 0 ∧ (cell c k).1.2 = .tc then atSem dutiesK ∅ (csem k) else ∅) = _
  rw [if_pos ⟨rfl, rfl⟩, atSem_csem]
theorem duties_later (g : GSem nD τ sig) : ∀ r, 1 ≤ r → (sched X).duties g r = ∅ :=
  fun r hr => if_neg fun h => by omega
theorem amount_cell (c : Dev nD) (k : Key) (d : Duty) : (sched X).amount (cell c k) 0 d = amountK k := atSem_csem _ _ k
theorem payload_cell (c : Dev nD) (k : Key) (d : Duty) : (sched X).payload (cell c k) 0 d = payK X c d k := atSem_csem _ _ k

theorem duties_used (c : Dev nD) (b : Bool) {x : Xfer} (hx : used x) : (sched X).duties (cell c (some (b, x))) 0 = {0} := by
  rw [duties_cell]; exact if_pos hx
theorem duties_unused (c : Dev nD) (b : Bool) {x : Xfer} (hx : ¬ used x) : ∀ r, 0 ≤ r → (sched X).duties (cell c (some (b, x))) r = ∅ := by
  intro r _
  rcases Nat.eq_zero_or_pos r with rfl | hr
  · rw [duties_cell]; exact if_neg hx
  · exact duties_later X _ r hr

theorem expect_bar (c : Dev nD) : (sched X).expect (barCell c) 0 = 7 := by
  unfold Schedule.expect Schedule.amountOf
  rw [duties_cell, Finset.sum_congr rfl fun d _ => amount_cell X c none d]
  rfl
theorem expect_used (c : Dev nD) (b : Bool) {x : Xfer} (hx : used x) : (sched X).expect (cell c (some (b, x))) 0 = N := by
  unfold Schedule.expect Schedule.amountOf; rw [duties_used X c b hx, Finset.sum_singleton, amount_cell]; rfl

theorem rest_bar (c : Dev nD) : bigSep ((sched X).duties (barCell c) 0 \ ∅) (fun d => (sched X).payload (barCell c) 0 d)
    = bigSep Finset.univ fun p : Fin 7 => barPay (F := F) p c := by
  rw [Finset.sdiff_empty, duties_cell]
  exact bigSep_congr fun p _ => payload_cell X c none p
theorem rest_used (c : Dev nD) (b : Bool) {x : Xfer} (hx : used x) :
    bigSep ((sched X).duties (cell c (some (b, x))) 0 \ ∅) (fun d => (sched X).payload (cell c (some (b, x))) 0 d) = payK X c 0 (some (b, x)) := by
  rw [Finset.sdiff_empty, duties_used X c b hx, bigSep_singleton, payload_cell]

end Schedule

/-! ## Debts and levels -/

/-- What a device owes, as the list of its payments still to come, the next one first. -/
abbrev Debts := List (GSem nD τ sig × ℕ)
def due (l : Debts) : CellTallies nD τ sig Unit := l.foldr (fun e O => O + tallyAt e.1 () e.2) 0

def L (g : GSem nD τ sig) : Finset Unit := if g.1.2 = .tc then {()} else ∅
/-- Staging and send cells lie at level 0, barrier cells at 1, receive cells above, in the order of the stages. -/
def lvK : Key → ℕ
  | none => 1
  | some (true, x) => 2 + x.2.1.val
  | some (false, _) => 0
def lv (g : GSem nD τ sig) (_ : Unit) : ℕ := atSem lvK 0 g.2

theorem lv_cell (c : Dev nD) (k : Key) : lv (cell c k) () = lvK k := atSem_csem _ _ k
theorem L_of_ne (g : GSem nD τ sig) (h : g.1.2 ≠ .tc) : L g = ∅ := if_neg h
theorem L_tc (c : Dev nD) (sm : SemLoc sig) : L ((c : Thread nD τ), sm) = {()} := if_pos rfl

/-- Every payment of the list is to a cell above level `n`. -/
def Above (n : ℕ) (l : Debts) : Prop := ∀ e ∈ l, e.1.1.2 = .tc ∧ n < lv e.1 ()

theorem due_pos : ∀ {l : Debts} {g : GSem nD τ sig} {u : Unit}, 0 < due l g u → ∃ e ∈ l, e.1 = g
  | [], g, u, h => absurd h (Nat.lt_irrefl 0)
  | e :: l, g, u, h => by
    have h' : 0 < due l g u + tallyAt e.1 () e.2 g u := h
    rw [tallyAt_apply] at h'
    by_cases he : g = e.1 ∧ u = ()
    · exact ⟨e, List.mem_cons_self, he.1.symm⟩
    · rw [if_neg he, Nat.add_zero] at h'
      obtain ⟨e', hm, hg⟩ := due_pos h'
      exact ⟨e', List.mem_cons_of_mem _ hm, hg⟩

theorem mayWait (c : Dev nD) (sm : SemLoc sig) (n : ℕ) (hn : lv ((c : Thread nD τ), sm) () ≤ n) (l : Debts) (hl : Above n l) :
    (levAts L lv : sProp 𝕄) ⊢ MayWait (c : Thread nD τ) sm () (due l) :=
  MayOwe.of_cut (L := L) (lev := lv) n (fun p hp => by rw [Finset.mem_singleton.mp hp, L_tc]; exact Finset.mem_singleton_self _)
    (fun g u hg => by
      obtain ⟨e, he, rfl⟩ := due_pos hg
      rw [L, if_pos (hl e he).1]; exact Finset.mem_singleton_self _)
    (fun p hp => by rw [Finset.mem_singleton.mp hp]; exact hn)
    (fun g u hg => by
      obtain ⟨e, he, rfl⟩ := due_pos hg
      exact (hl e he).2)

end Cert.AllReduce

end
-- ==== Proof.Steps.lean ====
/-
# The operations of the kernel, as rules

Each rule is about one operation at device `c`, which owes the payments of a list: a signal and a transfer pay the head
of the list, a wait leaves it as it is. The rule of a loop takes the rule of its body.
-/
module

public import proofs.«01_k».proof.Proof.Protocol
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (p : Pr F α) (Q : α → sProp 𝕄) : sProp 𝕄 :=
  wp frame (wpE (defs₀ (F := F)) 𝒱₀ (c : Thread nD τ) none) Set.univ p Q

/-! ## Sequencing -/

theorem wp_then {c : Dev nD} {α β : Type} {p : Pr F β} {k : β → Pr F α} {A : sProp 𝕄} {B : β → sProp 𝕄} {Q : α → sProp 𝕄} (h : A ⊢ WP c p B) :
    A ⊢ iprop((∀ b, B b -∗ WP c (k b) Q) -∗ WP c (p >>= k) Q) := by
  unfold WP
  rw [wp_bind]
  exact h.trans (wp_wand frame _ _)

/-- A loop whose body takes `P i` to `Q i`, and what is owed from the list before it to the list after it. -/
theorem each_wp {c : Dev nD} {ι : Type} {f : ι → Pr F PUnit} {P Q : ι → sProp 𝕄} {I : List ι → sProp 𝕄}
    (h : ∀ i l, iprop(P i ∗ I (i :: l)) ⊢ WP c (f i) fun _ => iprop(Q i ∗ I l)) :
    ∀ l, iprop(bigSepL l P ∗ I l) ⊢ WP c (each f l) fun _ => iprop(bigSepL l Q ∗ I [])
  | [] => by
    unfold each WP
    rw [Prog.pure_eq_ret, wp_ret]
    iintro H
    imodintro
    iexact H
  | i :: l => by
    rw [bigSepL_cons', bigSepL_cons']
    unfold each
    iintro ⟨⟨HP, HPs⟩, HI⟩
    iapply (wp_then (h i l)) $$ [HP HI]
    · isplitl [HP] <;> iassumption
    iintro %_ ⟨HQ, HI⟩
    iapply (wp_wand frame _ _) $$ [HPs HI]
    · iapply (each_wp h l)
      isplitl [HPs] <;> iassumption
    iintro %_ ⟨HQs, HI⟩
    isplitl [HQ HQs]
    · isplitl [HQ] <;> iassumption
    iexact HI

theorem each_univ {c : Dev nD} {ι : Type} [Fintype ι] [DecidableEq ι] {f : ι → Pr F PUnit} {P Q : ι → sProp 𝕄} {I : List ι → sProp 𝕄}
    (l : List ι) (hu : Finset.univ = l.toFinset) (hn : l.Nodup)
    (h : ∀ i l, iprop(P i ∗ I (i :: l)) ⊢ WP c (f i) fun _ => iprop(Q i ∗ I l)) :
    iprop(bigSep Finset.univ P ∗ I l) ⊢ WP c (each f l) fun _ => iprop(bigSep Finset.univ Q ∗ I []) := by
  rw [bigSep_univ_eq_bigSepL l hu hn, bigSep_univ_eq_bigSepL l hu hn]
  exact each_wp h l

section Rules

variable (X : Dev nD → VA F) (K : Dev nD → Key → ℕ)

/-! ## What every device knows, and what a device owes -/

def records : sProp 𝕄 :=
  iprop((bigSep Finset.univ fun ck : Dev nD × Key => cellInv ER (sched X) (K ck.1 ck.2) (cell ck.1 ck.2))
    ∗ bigSep Finset.univ fun ck : Dev nD × Key => reached ER (cell ck.1 ck.2) 0)

instance records_persistent : BI.Persistent (records X K) := by unfold records; infer_instance

theorem inv_at (c : Dev nD) (k : Key) : records X K ⊢ cellInv ER (sched X) (K c k) (cell c k) := by
  have h : (bigSep Finset.univ fun ck : Dev nD × Key => cellInv ER (sched X) (K ck.1 ck.2) (cell ck.1 ck.2)) ⊢ cellInv ER (sched X) (K c k) (cell c k) :=
    bigSep_elim (Finset.mem_univ (c, k))
  unfold records
  iintro ⟨H, -⟩
  iapply h; iexact H
theorem reached_at (c : Dev nD) (k : Key) : records X K ⊢ reached ER (cell c k) 0 := by
  have h : (bigSep Finset.univ fun ck : Dev nD × Key => (reached ER (cell ck.1 ck.2) 0 : sProp 𝕄)) ⊢ reached ER (cell c k) 0 :=
    bigSep_elim (Finset.mem_univ (c, k))
  unfold records
  iintro ⟨-, H⟩
  iapply h; iexact H

/-- The records, the levels, and the list of payments device `c` owes. -/
def inv (c : Dev nD) (l : Debts) : sProp 𝕄 :=
  iprop((records X K ∗ levAts L lv) ∗ ∃ W, owes (c : Thread nD τ) (due l) W)

/-! ## Signals and waits -/

theorem signal_wp (c p : Dev nD) (d : Duty) (l : Debts) :
    iprop((dutyTok ER (barCell p) 0 d ∗ barPay (F := F) d p) ∗ inv X K c ((barCell p, 1) :: l))
      ⊢ WP c (semSignalWord p barS 1#32) fun _ => inv X K c l := by
  unfold inv semSignalWord
  iintro ⟨⟨Ht, Hp⟩, ⟨#Hr, #Hlev⟩, %W, HO⟩
  iapply (Rounds.wp_signal 𝒱₀ ER (sched X) (c : Thread nD τ) none (dst := (p : Thread nD τ)) (κ := K p none)
    (d := d) (r := 0) (by rw [show (((p : Thread nD τ), SemLoc.reg barS) : GSem nD τ sig) = barCell p from rfl, duties_cell]; exact Finset.mem_univ _)
    ((amount_cell X p none d).trans (by decide)) () (due l) rfl) $$ [HO Ht Hp]
  · isplitr; · iapply (inv_at X K p none); iexact Hr
    isplitl [HO]; · iexact HO
    isplitl [Ht]; · iexact Ht
    isplitl [Hp]
    · iapply (Entails.of_eq (show barPay (F := F) d p = (sched X).payload (barCell p) 0 d from (payload_cell X p none d).symm)); iexact Hp
    · iapply (reached_at X K p none); iexact Hr
  iintro HO
  rw [wp_ret]
  imodintro
  isplitr
  · isplitr <;> iassumption
  iexists W; iexact HO

/-- The wait on a cell of one round: the cell's position is spent, its payload comes, and the cell closes. -/
theorem wait_wp (c : Dev nD) (k : Key) (n : ℕ) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) n Kt)
    (hn : n = (sched X).expect (cell c k) 0) (l : Debts) (hl : Above (lvK k) l) :
    iprop((cred (tallyAt (cell c k) () n) ∗ atPos ER (cell c k) 0 ∅ 0) ∗ inv X K c l)
      ⊢ WP c (.op w .ret) fun _ => iprop((semVal (cell c k) 0
          ∗ bigSep ((sched X).duties (cell c k) 0 \ ∅) (fun d => (sched X).payload (cell c k) 0 d)) ∗ inv X K c l) := by
  unfold inv
  iintro ⟨⟨Hc, Hat⟩, ⟨#Hr, #Hlev⟩, %W, HO⟩
  iapply (Rounds.wp_wait_rest_token 𝒱₀ ER (sched X) (c : Thread nD τ) none (κ := K c k) hw (Set.mem_univ _) () (O := due l) (W := W)
    (R := 0) (m := 0) (T := ∅) (by rw [Nat.zero_add]; exact hn)) $$ [Hc HO Hat]
  · isplitr; · iapply (inv_at X K c k); iexact Hr
    isplitl [Hc]; · iexact Hc
    isplitl [HO]; · iexact HO
    isplitr
    · iapply (mayWait c (csem k) (lvK k) (le_of_eq (lv_cell c k)) l hl); iexact Hlev
    iexact Hat
  iintro ⟨HO, Hat, -, Hp⟩
  imod (Rounds.cell_close ER (sched X) (Set.mem_univ (K c k)) (fun h => h) (R := 0 + 1) (duties_later X (cell c k))) $$ [Hat] with Hz
  · isplitr; · iapply (inv_at X K c k); iexact Hr
    iexact Hat
  rw [wp_ret]
  imodintro
  isplitl [Hz Hp]
  · isplitl [Hz]; · iexact Hz
    iexact Hp
  isplitr
  · isplitr <;> iassumption
  iexists (insert (csem k, ()) W); iexact HO

/-- The wait on a transfer's cell. -/
theorem await_wp (c : Dev nD) (b : Bool) (x : Xfer) (hx : used x) (src dst : DmaView) (hs hd) (hN : dst.view.dmaCredit = N) (l : Debts)
    (hl : Above (lvK (some (b, x))) l) :
    iprop((cred (tallyAt (cell c (some (b, x))) () N) ∗ atPos ER (cell c (some (b, x))) 0 ∅ 0) ∗ inv X K c l)
      ⊢ WP c (await (osemD (b, x)) src dst hs hd) fun _ => iprop((semVal (cell c (some (b, x))) 0 ∗ payK X c 0 (some (b, x))) ∗ inv X K c l) := by
  have h := wait_wp X K c (some (b, x)) dst.view.dmaCredit (w := .waitDma2 (osemD (b, x)) src dst hs hd)
    (wpE_waitDma2_eq 𝒱₀ (c : Thread nD τ) none Set.univ) (hN.trans (expect_used X c b hx).symm) l hl
  rw [rest_used X c b hx, hN] at h
  exact h

/-- The wait on the barrier cell. -/
theorem barrier_wp (c : Dev nD) (l : Debts) (hl : Above 1 l) :
    iprop((cred (tallyAt (barCell c) () 7) ∗ atPos ER (barCell c) 0 ∅ 0) ∗ inv X K c l)
      ⊢ WP c (semWaitWord barS 7#32) fun _ => iprop((semVal (barCell c) 0 ∗ bigSep Finset.univ fun p : Fin 7 => barPay (F := F) p c) ∗ inv X K c l) := by
  have h := wait_wp X K c none 7 (w := .semWait barS (7#32 : BitVec 32).toInt)
    (wpE_semWait_eq 𝒱₀ (c : Thread nD τ) none Set.univ) (expect_bar X c).symm l hl
  rw [rest_bar] at h
  exact h

/-! ## Transfers -/

/-- A transfer whose source comes back at its send cell. -/
theorem send_back (c p : Dev nD) (x : Xfer) (hx : used x) (src dst : DmaView) (hs hd) {q : PosShare TreeShare}
    {fs : Buf (Elt F) (src.view.loc (c : Thread nD τ))} {fd : Buf (Elt F) (dst.view.loc (p : Thread nD τ))} (hN : dst.view.dmaCredit = N)
    (h₁ : (src.view.loc (c : Thread nD τ) ↦[src.view.set]{q} fs) ⊢ sendPay X x c)
    (h₂ : (dst.view.loc (p : Thread nD τ) ↦[dst.view.set]{fullShare} (dst.view.write (Elt F) fd (src.view.read (Elt F) fs) Finset.univ)) ⊢ recvPay X x p)
    (l : Debts) :
    iprop(((src.view.loc (c : Thread nD τ) ↦[src.view.set]{q} fs) ∗ (dst.view.loc (p : Thread nD τ) ↦[dst.view.set]{fullShare} fd)
        ∗ dutyTok ER (sendCell c x) 0 (0 : Duty) ∗ dutyTok ER (recvCell p x) 0 (0 : Duty)) ∗ inv X K c ((recvCell p x, N) :: l))
      ⊢ WP c (send p src dst hs hd (osemD (false, x)) (osemD (true, x))) fun _ => iprop(cred (tallyAt (sendCell c x) () N) ∗ inv X K c l) := by
  unfold inv send Prog.lift
  iintro ⟨⟨Hs, Hd, Ht₁, Ht₂⟩, ⟨#Hr, #Hlev⟩, %W, HO⟩
  iapply (Rounds.wp_send_pointsTo 𝒱₀ ER (sched X) (c : Thread nD τ) none (κ₁ := K c (some (false, x))) (κ₂ := K p (some (true, x)))
    (r₁ := 0) (r₂ := 0) (d₁ := (0 : Duty)) (d₂ := (0 : Duty)) (fs := fs) (fd := fd) (q := q)
    (by rw [show ((((c : Thread nD τ)), SemLoc.dma (osemD (false, x))) : GSem nD τ sig) = cell c (some (false, x)) from rfl, duties_used X c false hx]; exact Finset.mem_singleton_self _)
    (by rw [show (((Dev.tc p : Thread nD τ), SemLoc.dma (osemD (true, x))) : GSem nD τ sig) = cell p (some (true, x)) from rfl, duties_used X p true hx]; exact Finset.mem_singleton_self _)
    () () N (show dst.view.amount (.dma (osemD (true, x))) = N from hN) (amount_cell X c (some (false, x)) 0) (amount_cell X p (some (true, x)) 0) (due l) rfl (W := W)
    (h₁.trans (Entails.of_eq (payload_cell X c (some (false, x)) 0).symm)) (h₂.trans (Entails.of_eq (payload_cell X p (some (true, x)) 0).symm)))
    $$ [Hs Hd HO Ht₁ Ht₂]
  · isplitr; · iapply (inv_at X K c (some (false, x))); iexact Hr
    isplitr; · iapply (inv_at X K p (some (true, x))); iexact Hr
    isplitl [Hs]; · iexact Hs
    isplitl [Hd]; · iexact Hd
    isplitl [HO]; · iexact HO
    isplitl [Ht₁]; · iexact Ht₁
    isplitr; · iapply (reached_at X K c (some (false, x))); iexact Hr
    isplitl [Ht₂]; · iexact Ht₂
    iapply (reached_at X K p (some (true, x))); iexact Hr
  iintro ⟨Hc, HO⟩
  rw [wp_ret]
  imodintro
  isplitl [Hc]; · iexact Hc
  isplitr
  · isplitr <;> iassumption
  iexists W; iexact HO

/-- A transfer whose source goes to the target device with the landing. -/
theorem send_away (c p : Dev nD) (x : Xfer) (hx : used x) (src dst : DmaView) (hs hd) {q : PosShare TreeShare}
    {fs : Buf (Elt F) (src.view.loc (c : Thread nD τ))} {fd : Buf (Elt F) (dst.view.loc (p : Thread nD τ))} (hN : dst.view.dmaCredit = N)
    (h₁ : (emp : sProp 𝕄) ⊢ sendPay X x c)
    (h₂ : iprop((dst.view.loc (p : Thread nD τ) ↦[dst.view.set]{fullShare} (dst.view.write (Elt F) fd (src.view.read (Elt F) fs) Finset.univ))
      ∗ (src.view.loc (c : Thread nD τ) ↦[src.view.set]{q} fs)) ⊢ recvPay X x p)
    (l : Debts) :
    iprop(((src.view.loc (c : Thread nD τ) ↦[src.view.set]{q} fs) ∗ (dst.view.loc (p : Thread nD τ) ↦[dst.view.set]{fullShare} fd)
        ∗ dutyTok ER (sendCell c x) 0 (0 : Duty) ∗ dutyTok ER (recvCell p x) 0 (0 : Duty)) ∗ inv X K c ((recvCell p x, N) :: l))
      ⊢ WP c (send p src dst hs hd (osemD (false, x)) (osemD (true, x))) fun _ => iprop(cred (tallyAt (sendCell c x) () N) ∗ inv X K c l) := by
  unfold inv send Prog.lift
  iintro ⟨⟨Hs, Hd, Ht₁, Ht₂⟩, ⟨#Hr, #Hlev⟩, %W, HO⟩
  iapply (Rounds.wp_send_landing_pointsTo 𝒱₀ ER (sched X) (c : Thread nD τ) none (κ₁ := K c (some (false, x))) (κ₂ := K p (some (true, x)))
    (r₁ := 0) (r₂ := 0) (d₁ := (0 : Duty)) (d₂ := (0 : Duty)) (fs := fs) (fd := fd) (q := q)
    (by rw [show ((((c : Thread nD τ)), SemLoc.dma (osemD (false, x))) : GSem nD τ sig) = cell c (some (false, x)) from rfl, duties_used X c false hx]; exact Finset.mem_singleton_self _)
    (by rw [show (((Dev.tc p : Thread nD τ), SemLoc.dma (osemD (true, x))) : GSem nD τ sig) = cell p (some (true, x)) from rfl, duties_used X p true hx]; exact Finset.mem_singleton_self _)
    () () N (show dst.view.amount (.dma (osemD (true, x))) = N from hN) (amount_cell X c (some (false, x)) 0) (amount_cell X p (some (true, x)) 0) (due l) rfl (W := W)
    (h₁.trans (Entails.of_eq (payload_cell X c (some (false, x)) 0).symm)) (h₂.trans (Entails.of_eq (payload_cell X p (some (true, x)) 0).symm)))
    $$ [Hs Hd HO Ht₁ Ht₂]
  · isplitr; · iapply (inv_at X K c (some (false, x))); iexact Hr
    isplitr; · iapply (inv_at X K p (some (true, x))); iexact Hr
    isplitl [Hs]; · iexact Hs
    isplitl [Hd]; · iexact Hd
    isplitl [HO]; · iexact HO
    isplitl [Ht₁]; · iexact Ht₁
    isplitr; · iapply (reached_at X K c (some (false, x))); iexact Hr
    isplitl [Ht₂]; · iexact Ht₂
    iapply (reached_at X K p (some (true, x))); iexact Hr
  iintro ⟨Hc, HO⟩
  rw [wp_ret]
  imodintro
  isplitl [Hc]; · iexact Hc
  isplitr
  · isplitr <;> iassumption
  iexists W; iexact HO

end Rules

end Cert.AllReduce

end
-- ==== Proof.Stages.lean ====
/-
# The stages: what one iteration of each loop does

For each loop of the kernel: what an iteration at (half, sub-block) `j` starts from (`P0` … `P5`), what it leaves (`Q0` …
`Q5`) and which payments it makes (`todo0` … `todo3`), and its rule; and from these the rules of the loops.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names for what the stages hold -/

/-- The tokens of transfer `x` from `c` to `p`; -/
def tok (c p : Dev nD) (x : Xfer) : sProp 𝕄 := iprop(dutyTok ER (sendCell c x) 0 (0 : Duty) ∗ dutyTok ER (recvCell p x) 0 (0 : Duty))
/-- the credit of one of `c`'s cells, `c`'s position at it, and the cell closed, its counter back; -/
def crd (c : Dev nD) (b : Bool) (x : Xfer) : sProp 𝕄 := cred (tallyAt (cell c (some (b, x))) () N)
def pos (c : Dev nD) (b : Bool) (x : Xfer) : sProp 𝕄 := atPos ER (cell c (some (b, x))) 0 ∅ 0
def zero (c : Dev nD) (b : Bool) (x : Xfer) : sProp 𝕄 := semVal (cell c (some (b, x))) 0
/-- a block of an accumulator at any contents. -/
def accAny (c : Dev nD) (h : Half) (ch : Fin 4) (s : Sub) : sProp 𝕄 := iprop(∃ f : VA F, accAt c fullShare h ch s f)

theorem used_of {h : Half} {st : Stage} {d : Dist} {s : Sub} (hs : st ≠ 2) : used (h, st, d, s) := fun e => absurd e hs

/-- A payment to the receive cell of transfer `x` at `p`. -/
abbrev owed (p : Dev nD) (x : Xfer) : GSem nD τ sig × ℕ := (recvCell p x, N)

theorem above_nil (n : ℕ) : Above n [] := fun e he => absurd he List.not_mem_nil
theorem above_append {n : ℕ} {l l' : Debts} (h : Above n l) (h' : Above n l') : Above n (l ++ l') := fun e he =>
  (List.mem_append.mp he).elim (h e) (h' e)
theorem above_flatMap {n : ℕ} {ι : Type} {f : ι → Debts} (h : ∀ i, Above n (f i)) (l : List ι) : Above n (l.flatMap f) := fun e he => by
  obtain ⟨i, _, hi⟩ := List.mem_flatMap.mp he
  exact h i e hi
theorem above_owed {n : ℕ} {p : Dev nD} {x : Xfer} (h : n < 2 + x.2.1.val) : Above n [owed p x] := fun e he => by
  rw [List.mem_singleton.mp he]; exact ⟨rfl, by rw [lv_cell]; exact h⟩

/-- The payments of an iteration of the first four loops. -/
def todo0 (c : Dev nD) (j : Half × Sub) : Debts := dists.flatMap fun d => [owed (peer1 j.1 d c) (j.1, 0, d, j.2)]
def todo1 (c : Dev nD) (j : Half × Sub) : Debts := dists.flatMap fun d => [owed (peer2 j.1 d c) (j.1, 1, d, j.2)]
def todo2 (c : Dev nD) (j : Half × Sub) : Debts := [owed (peerX c) (j.1, 2, 0, j.2)]
def todo3 (c : Dev nD) (j : Half × Sub) : Debts := dists.flatMap fun d => [owed (peer1 j.1 d c) (j.1, 3, d, j.2)]

theorem above0 (c : Dev nD) (j) : Above 1 (todo0 c j) := above_flatMap (fun d => above_owed (by show 1 < 2 + 0; decide)) _
theorem above1 (c : Dev nD) (j) : Above 2 (todo1 c j) := above_flatMap (fun d => above_owed (by show 2 < 2 + 1; decide)) _
theorem above2 (c : Dev nD) (j) : Above 3 (todo2 c j) := above_owed (by show 3 < 2 + 2; decide)
theorem above3 (c : Dev nD) (j) : Above 4 (todo3 c j) := above_flatMap (fun d => above_owed (by show 4 < 2 + 3; decide)) _
theorem Above.mono {n m : ℕ} {l : Debts} (h : Above n l) (hm : m ≤ n) : Above m l := fun e he => ⟨(h e he).1, Nat.lt_of_le_of_lt hm (h e he).2⟩

theorem rBlk_credit (h : Half) (k : Fin 7) (s : Sub) : (rBlk h k s).view.dmaCredit = N := rfl
theorem aBlk_credit (o : Fin 2 → Nat) (ho : InbA o) : (aBlk o ho).view.dmaCredit = N := rfl

/-- A block's resource as the transfers and the loads see it. -/
theorem accAt_pts (c : Dev nD) (q : PosShare TreeShare) (h : Half) (ch : Fin 4) (s : Sub) (f : VA F) (ho : InbA (blkOff h ch s)) :
    (accAt c q h ch s f : sProp 𝕄)
      = ((aBlk (blkOff h ch s) ho).view.loc (c : Thread nD τ) ↦[(aBlk (blkOff h ch s) ho).view.set]{q} f) := rfl
theorem slotAt_pts (c : Dev nD) (h : Half) (k : Fin 7) (s : Sub) (f : VR F) :
    (slotAt c h k s f : sProp 𝕄) = ((rBlk h k s).view.loc (c : Thread nD τ) ↦[(rBlk h k s).view.set]{fullShare} f) := rfl

theorem slot_landed (p : Dev nD) (Y : VA F) (f : VR F) (h : Half) (k : Fin 7) (s : Sub) {q : Fin 4} (e : own h p = q) (ho : InbA (blkOff h q s)) :
    (((rBlk h k s).view.loc (p : Thread nD τ) ↦[(rBlk h k s).view.set]{fullShare}
        ((rBlk h k s).view.write (Elt F) f ((aBlk (blkOff h q s) ho).view.read (Elt F) Y) Finset.univ)) : sProp 𝕄)
      ⊢ slotAt p h k s (landing p Y) := by
  subst e
  exact Entails.of_eq (pointsTo_congr (landed p Y f h k s ho))
theorem acc_landed (p : Dev nD) (Y f : VA F) (h : Half) (q : Fin 4) (s : Sub) (ho : InbA (blkOff h q s)) :
    (((aBlk (blkOff h q s) ho).view.loc (p : Thread nD τ) ↦[(aBlk (blkOff h q s) ho).view.set]{fullShare}
        ((aBlk (blkOff h q s) ho).view.write (Elt F) f ((aBlk (blkOff h q s) ho).view.read (Elt F) Y) Finset.univ)) : sProp 𝕄)
      ⊢ accAt p fullShare h q s Y :=
  Entails.of_eq (pointsTo_congr (landed_self Y f h q s ho))

section Rules

variable (X : Dev nD → VA F) (K : Dev nD → Key → ℕ)

/-- A loop, each iteration of which makes its payments and waits below level `n` only. -/
theorem phase {c : Dev nD} {ι : Type} [Fintype ι] [DecidableEq ι] {n : ℕ} {f : ι → Pr F PUnit} {P Q : ι → sProp 𝕄} {todo : ι → Debts}
    (ht : ∀ j, Above n (todo j)) (l : List ι) (hu : Finset.univ = l.toFinset) (hn : l.Nodup)
    (h : ∀ j r, Above n r → iprop(P j ∗ inv X K c (todo j ++ r)) ⊢ WP c (f j) fun _ => iprop(Q j ∗ inv X K c r))
    {rest : Debts} (hr : Above n rest) :
    iprop(bigSep Finset.univ P ∗ inv X K c (l.flatMap todo ++ rest)) ⊢ WP c (each f l) fun _ => iprop(bigSep Finset.univ Q ∗ inv X K c rest) := by
  refine each_univ (I := fun l => inv X K c (l.flatMap todo ++ rest)) l hu hn fun j l => ?_
  rw [List.flatMap_cons, List.append_assoc]
  exact h j _ (above_append (above_flatMap ht l) hr)

theorem overDists {c : Dev nD} {n : ℕ} {f : Dist → Pr F PUnit} {P Q : Dist → sProp 𝕄} {todo : Dist → Debts}
    (ht : ∀ d, Above n (todo d)) (h : ∀ d r, Above n r → iprop(P d ∗ inv X K c (todo d ++ r)) ⊢ WP c (f d) fun _ => iprop(Q d ∗ inv X K c r))
    {rest : Debts} (hr : Above n rest) :
    iprop(bigSep Finset.univ P ∗ inv X K c (dists.flatMap todo ++ rest)) ⊢ WP c (each f dists) fun _ => iprop(bigSep Finset.univ Q ∗ inv X K c rest) :=
  phase X K ht dists (by decide) (by decide) h hr

/-- A loop of waits only: nothing is paid. -/
theorem overDists' {c : Dev nD} {n : ℕ} {f : Dist → Pr F PUnit} {P Q : Dist → sProp 𝕄}
    (h : ∀ d r, Above n r → iprop(P d ∗ inv X K c r) ⊢ WP c (f d) fun _ => iprop(Q d ∗ inv X K c r)) {rest : Debts} (hr : Above n rest) :
    iprop(bigSep Finset.univ P ∗ inv X K c rest) ⊢ WP c (each f dists) fun _ => iprop(bigSep Finset.univ Q ∗ inv X K c rest) :=
  overDists X K (todo := fun _ => []) (fun _ => above_nil n) h hr

/-- A statement about a block holds at equal offsets. -/
theorem at_off {o o' : Fin 2 → Nat} (e : o = o') (g : Good o) {M : ∀ o, Good o → Prop} (h : ∀ g', M o' g') : M o g := by subst e; exact h g

/-! ## Transfers and waits of each stage -/

theorem send0_wp (c : Dev nD) (h : Half) (d : Dist) (s : Sub) (r : Debts) :
    iprop((accAt c fullShare h (own h (peer1 h d c)) s (X c) ∗ slotAny (F := F) (peer1 h d c) h (slot0 d) s ∗ tok (F := F) c (peer1 h d c) (h, 0, d, s))
        ∗ inv X K c ([owed (peer1 h d c) (h, 0, d, s)] ++ r))
      ⊢ WP c (send0 c h d s) fun _ => iprop(crd (F := F) c false (h, 0, d, s) ∗ inv X K c r) := by
  unfold send0
  refine at_off (offP_eq c h d s) (good_P c h d s) (M := fun o g => _ ⊢ WP c (send (peer1 h d c) (aBlk o g.inb) (rBlk h (slot0 d) s) g.exact (rBlk_exact ..) (sendS h 0 d s) (recvS h 0 d s)) _) ?_
  intro g
  unfold slotAny tok
  iintro ⟨⟨Ha, ⟨%f, Hs⟩, Ht⟩, HI⟩
  iapply (send_away X K c (peer1 h d c) (h, 0, d, s) (used_of (by decide)) (aBlk (blkOff h (own h (peer1 h d c)) s) g.inb) (rBlk h (slot0 d) s) g.exact (rBlk_exact ..)
    (q := fullShare) (fs := X c) (fd := f) (rBlk_credit ..) .rfl ?_ r) $$ [Ha Hs Ht HI]
  · show _ ⊢ iprop(slotAt (peer1 h d c) h (slot0 d) s (landing (peer1 h d c) (X (src1 h d (peer1 h d c))))
      ∗ accAt (src1 h d (peer1 h d c)) fullShare h (own h (peer1 h d c)) s (X (src1 h d (peer1 h d c))))
    rw [show src1 h d (peer1 h d c) = c from rev_peer1 h d c]
    exact sep_mono (slot_landed (peer1 h d c) (X c) f h (slot0 d) s rfl g.inb) .rfl
  · isplitr [HI]
    · isplitl [Ha]; · iapply (Entails.of_eq (accAt_pts c fullShare h _ s (X c) g.inb)); iexact Ha
      isplitl [Hs]; · iapply (Entails.of_eq (slotAt_pts (peer1 h d c) h (slot0 d) s f)); iexact Hs
      iexact Ht
    iexact HI

theorem send1_wp (c : Dev nD) (h : Half) (d : Dist) (s : Sub) (r : Debts) :
    iprop((accAt c (lent d) h (own h c) s (acc1 X c) ∗ slotAny (F := F) (peer2 h d c) h (slot1 d) s ∗ tok (F := F) c (peer2 h d c) (h, 1, d, s))
        ∗ inv X K c ([owed (peer2 h d c) (h, 1, d, s)] ++ r))
      ⊢ WP c (send1 c h d s) fun _ => iprop(crd (F := F) c false (h, 1, d, s) ∗ inv X K c r) := by
  unfold send1
  refine at_off (offO_eq c h s) (good_O c h s) (M := fun o g => _ ⊢ WP c (send (peer2 h d c) (aBlk o g.inb) (rBlk h (slot1 d) s) g.exact (rBlk_exact ..) (sendS h 1 d s) (recvS h 1 d s)) _) ?_
  intro g
  unfold slotAny tok
  iintro ⟨⟨Ha, ⟨%f, Hs⟩, Ht⟩, HI⟩
  iapply (send_back X K c (peer2 h d c) (h, 1, d, s) (used_of (by decide)) (aBlk (blkOff h (own h c) s) g.inb) (rBlk h (slot1 d) s) g.exact (rBlk_exact ..)
    (q := lent d) (fs := acc1 X c) (fd := f) (rBlk_credit ..) (Entails.of_eq (accAt_pts c (lent d) h _ s (acc1 X c) g.inb).symm) ?_ r) $$ [Ha Hs Ht HI]
  · show _ ⊢ slotAt (peer2 h d c) h (slot1 d) s (landing (peer2 h d c) (acc1 X (src2 h d (peer2 h d c))))
    rw [show src2 h d (peer2 h d c) = c from rev_peer2 h d c]
    exact slot_landed (peer2 h d c) (acc1 X c) f h (slot1 d) s (own_peer2 h d c) g.inb
  · isplitr [HI]
    · isplitl [Ha]; · iapply (Entails.of_eq (accAt_pts c (lent d) h _ s (acc1 X c) g.inb)); iexact Ha
      isplitl [Hs]; · iapply (Entails.of_eq (slotAt_pts (peer2 h d c) h (slot1 d) s f)); iexact Hs
      iexact Ht
    iexact HI

theorem send2_wp (c : Dev nD) (h : Half) (s : Sub) (r : Debts) :
    iprop((accAt c fullShare h (own h c) s (acc2 X c) ∗ slotAny (F := F) (peerX c) h 6 s ∗ tok (F := F) c (peerX c) (h, 2, 0, s))
        ∗ inv X K c ([owed (peerX c) (h, 2, 0, s)] ++ r))
      ⊢ WP c (send2 c h s) fun _ => iprop(crd (F := F) c false (h, 2, 0, s) ∗ inv X K c r) := by
  unfold send2
  refine at_off (offO_eq c h s) (good_O c h s) (M := fun o g => _ ⊢ WP c (send (peerX c) (aBlk o g.inb) (rBlk h 6 s) g.exact (rBlk_exact ..) (sendS h 2 0 s) (recvS h 2 0 s)) _) ?_
  intro g
  unfold slotAny tok
  iintro ⟨⟨Ha, ⟨%f, Hs⟩, Ht⟩, HI⟩
  iapply (send_back X K c (peerX c) (h, 2, 0, s) (fun _ => rfl) (aBlk (blkOff h (own h c) s) g.inb) (rBlk h 6 s) g.exact (rBlk_exact ..)
    (q := fullShare) (fs := acc2 X c) (fd := f) (rBlk_credit ..) (Entails.of_eq (accAt_pts c fullShare h _ s (acc2 X c) g.inb).symm) ?_ r) $$ [Ha Hs Ht HI]
  · show _ ⊢ slotAt (peerX c) h 6 s (landing (peerX c) (acc2 X (peerX (peerX c))))
    rw [peerX_peerX]
    exact slot_landed (peerX c) (acc2 X c) f h 6 s (own_peerX h c) g.inb
  · isplitr [HI]
    · isplitl [Ha]; · iapply (Entails.of_eq (accAt_pts c fullShare h _ s (acc2 X c) g.inb)); iexact Ha
      isplitl [Hs]; · iapply (Entails.of_eq (slotAt_pts (peerX c) h 6 s f)); iexact Hs
      iexact Ht
    iexact HI

theorem send3_wp (c : Dev nD) (h : Half) (d : Dist) (s : Sub) (r : Debts) :
    iprop((accAt c (lent d) h (own h c) s (acc3 X c) ∗ accAny (F := F) (peer1 h d c) h (own h c) s ∗ tok (F := F) c (peer1 h d c) (h, 3, d, s))
        ∗ inv X K c ([owed (peer1 h d c) (h, 3, d, s)] ++ r))
      ⊢ WP c (send3 c h d s) fun _ => iprop(crd (F := F) c false (h, 3, d, s) ∗ inv X K c r) := by
  unfold send3
  refine at_off (offO_eq c h s) (good_O c h s) (M := fun o g => _ ⊢ WP c (send (peer1 h d c) (aBlk o g.inb) (aBlk o g.inb) g.exact g.exact (sendS h 3 d s) (recvS h 3 d s)) _) ?_
  intro g
  unfold accAny tok
  iintro ⟨⟨Ha, ⟨%f, Hs⟩, Ht⟩, HI⟩
  iapply (send_back X K c (peer1 h d c) (h, 3, d, s) (used_of (by decide)) (aBlk (blkOff h (own h c) s) g.inb) (aBlk (blkOff h (own h c) s) g.inb) g.exact g.exact
    (q := lent d) (fs := acc3 X c) (fd := f) (aBlk_credit ..) (Entails.of_eq (accAt_pts c (lent d) h _ s (acc3 X c) g.inb).symm) ?_ r) $$ [Ha Hs Ht HI]
  · show _ ⊢ accAt (peer1 h d c) fullShare h (own h (src1 h d (peer1 h d c))) s (acc3 X (src1 h d (peer1 h d c)))
    rw [show src1 h d (peer1 h d c) = c from rev_peer1 h d c]
    exact acc_landed (peer1 h d c) (acc3 X c) f h (own h c) s g.inb
  · isplitr [HI]
    · isplitl [Ha]; · iapply (Entails.of_eq (accAt_pts c (lent d) h _ s (acc3 X c) g.inb)); iexact Ha
      isplitl [Hs]; · iapply (Entails.of_eq (accAt_pts (peer1 h d c) fullShare h _ s f g.inb)); iexact Hs
      iexact Ht
    iexact HI

theorem recv0_wp (c : Dev nD) (h : Half) (d : Dist) (s : Sub) (r : Debts) (hr : Above 2 r) :
    iprop((crd (F := F) c true (h, 0, d, s) ∗ pos (F := F) c true (h, 0, d, s)) ∗ inv X K c r)
      ⊢ WP c (recv0 c h d s) fun _ => iprop((zero (F := F) c true (h, 0, d, s) ∗ slotAt c h (slot0 d) s (landing c (X (src1 h d c)))
          ∗ accAt (src1 h d c) fullShare h (own h c) s (X (src1 h d c))) ∗ inv X K c r) :=
  await_wp X K c true (h, 0, d, s) (used_of (by decide)) _ _ _ _ (rBlk_credit ..) r hr
theorem recv1_wp (c : Dev nD) (h : Half) (d : Dist) (s : Sub) (r : Debts) (hr : Above 3 r) :
    iprop((crd (F := F) c true (h, 1, d, s) ∗ pos (F := F) c true (h, 1, d, s)) ∗ inv X K c r)
      ⊢ WP c (recv1 c h d s) fun _ => iprop((zero (F := F) c true (h, 1, d, s) ∗ slotAt c h (slot1 d) s (landing c (acc1 X (src2 h d c)))) ∗ inv X K c r) :=
  await_wp X K c true (h, 1, d, s) (used_of (by decide)) _ _ _ _ (rBlk_credit ..) r hr
theorem recv2_wp (c : Dev nD) (h : Half) (s : Sub) (r : Debts) (hr : Above 4 r) :
    iprop((crd (F := F) c true (h, 2, 0, s) ∗ pos (F := F) c true (h, 2, 0, s)) ∗ inv X K c r)
      ⊢ WP c (recv2 c h s) fun _ => iprop((zero (F := F) c true (h, 2, 0, s) ∗ slotAt c h 6 s (landing c (acc2 X (peerX c)))) ∗ inv X K c r) :=
  await_wp X K c true (h, 2, 0, s) (fun _ => rfl) _ _ _ _ (rBlk_credit ..) r hr
theorem recv3_wp (c : Dev nD) (h : Half) (d : Dist) (s : Sub) (r : Debts) (hr : Above 5 r) :
    iprop((crd (F := F) c true (h, 3, d, s) ∗ pos (F := F) c true (h, 3, d, s)) ∗ inv X K c r)
      ⊢ WP c (recv3 c h d s) fun _ => iprop((zero (F := F) c true (h, 3, d, s)
          ∗ accAt c fullShare h (own h (src1 h d c)) s (acc3 X (src1 h d c))) ∗ inv X K c r) :=
  await_wp X K c true (h, 3, d, s) (used_of (by decide)) _ _ _ _ (aBlk_credit ..) r hr

theorem sent0_wp (c : Dev nD) (h : Half) (d : Dist) (s : Sub) (r : Debts) (hr : Above 0 r) :
    iprop((crd (F := F) c false (h, 0, d, s) ∗ pos (F := F) c false (h, 0, d, s)) ∗ inv X K c r)
      ⊢ WP c (sent0 c h d s) fun _ => iprop((zero (F := F) c false (h, 0, d, s) ∗ emp) ∗ inv X K c r) :=
  await_wp X K c false (h, 0, d, s) (used_of (by decide)) _ _ _ _ (aBlk_credit ..) r hr
theorem sent1_wp (c : Dev nD) (h : Half) (d : Dist) (s : Sub) (r : Debts) (hr : Above 0 r) :
    iprop((crd (F := F) c false (h, 1, d, s) ∗ pos (F := F) c false (h, 1, d, s)) ∗ inv X K c r)
      ⊢ WP c (sent1 c h d s) fun _ => iprop((zero (F := F) c false (h, 1, d, s) ∗ accAt c (lent d) h (own h c) s (acc1 X c)) ∗ inv X K c r) :=
  await_wp X K c false (h, 1, d, s) (used_of (by decide)) _ _ _ _ (aBlk_credit ..) r hr
theorem sent2_wp (c : Dev nD) (h : Half) (s : Sub) (r : Debts) (hr : Above 0 r) :
    iprop((crd (F := F) c false (h, 2, 0, s) ∗ pos (F := F) c false (h, 2, 0, s)) ∗ inv X K c r)
      ⊢ WP c (sent2 c h s) fun _ => iprop((zero (F := F) c false (h, 2, 0, s) ∗ accAt c fullShare h (own h c) s (acc2 X c)) ∗ inv X K c r) :=
  await_wp X K c false (h, 2, 0, s) (fun _ => rfl) _ _ _ _ (aBlk_credit ..) r hr
theorem sent3_wp (c : Dev nD) (h : Half) (d : Dist) (s : Sub) (r : Debts) (hr : Above 0 r) :
    iprop((crd (F := F) c false (h, 3, d, s) ∗ pos (F := F) c false (h, 3, d, s)) ∗ inv X K c r)
      ⊢ WP c (sent3 c h d s) fun _ => iprop((zero (F := F) c false (h, 3, d, s) ∗ accAt c (lent d) h (own h c) s (acc3 X c)) ∗ inv X K c r) :=
  await_wp X K c false (h, 3, d, s) (used_of (by decide)) _ _ _ _ (aBlk_credit ..) r hr

/-! ## The accumulations -/

theorem load_sub (h : Half) (ch : Fin 4) (s : Sub) (ho : InbA (blkOff h ch s)) : aM.view.setOn (aRect (blkOff h ch s) ho).toLoadRect.set ⊆ aSet h ch s := by
  have e : (aM.access (aRect (blkOff h ch s) ho) : View sig .tc _ _ _).set ⊆ aSet h ch s := Finset.Subset.refl _
  rwa [View.set_slice] at e
theorem loadR_sub (h : Half) (k : Fin 7) (s : Sub) : rM.view.setOn (rRect h k s).toLoadRect.set ⊆ rSet h k s := by
  have e : (rM.access (rRect h k s) : View sig .tc _ _ _).set ⊆ rSet h k s := by
    unfold rSet
    rw [show (rBlk h k s).view.set = (rM.slice (rRect h k s) (fun _ => rfl)).view.set from View.set_reshape _ _]
  rwa [View.set_slice] at e

theorem add3_wp (src : Half → Dist → Dev nD → Dev nD) (Y : Dev nD → VA F) (c : Dev nD) (h : Half) (s : Sub) (k₀ k₁ k₂ : Fin 7) :
    iprop(accAt c fullShare h (own h c) s (Y c) ∗ slotAt c h k₀ s (landing c (Y (src h 0 c))) ∗ slotAt c h k₁ s (landing c (Y (src h 1 c)))
        ∗ slotAt c h k₂ s (landing c (Y (src h 2 c))))
      ⊢ WP c (add3 c h s k₀ k₁ k₂) fun _ => iprop(accAt c fullShare h (own h c) s (gather src Y c) ∗ slotAt c h k₀ s (landing c (Y (src h 0 c)))
        ∗ slotAt c h k₁ s (landing c (Y (src h 1 c))) ∗ slotAt c h k₂ s (landing c (Y (src h 2 c)))) := by
  unfold add3
  refine at_off (offL_eq c h s) (good_L c h s) (M := fun o g => _ ⊢ WP c (add3At o g h s k₀ k₁ k₂) _) ?_
  · intro g
    simp only [add3At, loadA, storeA, loadR, Prog.lift, Prog.bind_op, Prog.bind_ret]
    unfold slotAt accAt
    iintro ⟨Ha, H0, H1, H2⟩
    iapply (wp_load 𝒱₀ (c : Thread nD τ) none Set.univ (m := aM) (load_sub h (own h c) s g.inb)) $$ Ha; iintro Ha
    iapply (wp_load 𝒱₀ (c : Thread nD τ) none Set.univ (m := rM) (loadR_sub h k₀ s)) $$ H0; iintro H0
    iapply (wp_load 𝒱₀ (c : Thread nD τ) none Set.univ (m := rM) (loadR_sub h k₁ s)) $$ H1; iintro H1
    iapply (wp_load 𝒱₀ (c : Thread nD τ) none Set.univ (m := rM) (loadR_sub h k₂ s)) $$ H2; iintro H2
    iapply (wp_load 𝒱₀ (c : Thread nD τ) none Set.univ (m := aM) (load_sub h (own h c) s g.inb)) $$ Ha; iintro Ha
    iapply (wp_store 𝒱₀ (c : Thread nD τ) none Set.univ (m := aM) (r := aRect (blkOff h (own h c) s) g.inb) (Mk := Finset.univ)
      (S := aSet h (own h c) s) (Finset.Subset.refl _)) $$ Ha; iintro Ha
    rw [wp_ret]; imodintro
    isplitl [Ha]
    · iapply (Entails.of_eq (pointsTo_congr (stored3 src Y c h s k₀ k₁ k₂ g.inb))); iexact Ha
    isplitl [H0]; · iexact H0
    isplitl [H1]; · iexact H1
    iexact H2

theorem add1_wp (c : Dev nD) (h : Half) (s : Sub) :
    iprop(accAt c fullShare h (own h c) s (acc2 X c) ∗ slotAt c h 6 s (landing c (acc2 X (peerX c))))
      ⊢ WP c (add1 c h s) fun _ => iprop(accAt c fullShare h (own h c) s (acc3 X c) ∗ slotAt c h 6 s (landing c (acc2 X (peerX c)))) := by
  unfold add1
  refine at_off (offL_eq c h s) (good_L c h s) (M := fun o g => _ ⊢ WP c (add1At o g h s) _) ?_
  · intro g
    simp only [add1At, loadA, storeA, loadR, Prog.lift, Prog.bind_op, Prog.bind_ret]
    unfold slotAt accAt
    iintro ⟨Ha, H0⟩
    iapply (wp_load 𝒱₀ (c : Thread nD τ) none Set.univ (m := aM) (load_sub h (own h c) s g.inb)) $$ Ha; iintro Ha
    iapply (wp_load 𝒱₀ (c : Thread nD τ) none Set.univ (m := rM) (loadR_sub h 6 s)) $$ H0; iintro H0
    iapply (wp_load 𝒱₀ (c : Thread nD τ) none Set.univ (m := aM) (load_sub h (own h c) s g.inb)) $$ Ha; iintro Ha
    iapply (wp_store 𝒱₀ (c : Thread nD τ) none Set.univ (m := aM) (r := aRect (blkOff h (own h c) s) g.inb) (Mk := Finset.univ)
      (S := aSet h (own h c) s) (Finset.Subset.refl _)) $$ Ha; iintro Ha
    rw [wp_ret]; imodintro
    isplitl [Ha]
    · iapply (Entails.of_eq (pointsTo_congr (stored1 X c h s g.inb))); iexact Ha
    iexact H0

end Rules

end Cert.AllReduce

end
-- ==== Proof.Loops.lean ====
/-
# The loops of the kernel

What an iteration of each loop at (half, sub-block) `j` starts from (`P0` … `P5`) and what it leaves (`Q0` … `Q5`), its
rule, and from these the rule of each loop.
-/
module

public import proofs.«01_k».proof.Proof.Stages

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over a finite type, and a pair of families. -/
abbrev all {ι : Type} [Fintype ι] (Φ : ι → sProp 𝕄) : sProp 𝕄 := bigSep Finset.univ Φ

theorem all_sep {ι : Type} [Fintype ι] (Φ Ψ : ι → sProp 𝕄) : all (fun i => iprop(Φ i ∗ Ψ i)) = iprop(all Φ ∗ all Ψ) := bigSep_sep _ _ _
theorem all_three (Φ : Dist → sProp 𝕄) : all Φ = iprop(Φ 0 ∗ Φ 1 ∗ Φ 2) := bigSep_univ_eq_bigSepL [0, 1, 2] (by decide) (by decide) Φ
theorem all_mono {ι : Type} [Fintype ι] {Φ Ψ : ι → sProp 𝕄} (h : ∀ i, Φ i ⊢ Ψ i) : all Φ ⊢ all Ψ := bigSep_mono fun i _ => h i

theorem slotAt_any (c : Dev nD) (h : Half) (k : Fin 7) (s : Sub) (f : VR F) : slotAt c h k s f ⊢ slotAny (F := F) c h k s := by
  unfold slotAny; iintro H; iexists f; iexact H

section Rules

variable (X : Dev nD → VA F) (K : Dev nD → Key → ℕ)

/-! ## The first exchange: three chunks out -/

def P0 (c : Dev nD) (j : Half × Sub) : sProp 𝕄 := all fun d : Dist =>
  iprop(accAt c fullShare j.1 (own j.1 (peer1 j.1 d c)) j.2 (X c) ∗ slotAny (F := F) (peer1 j.1 d c) j.1 (slot0 d) j.2 ∗ tok (F := F) c (peer1 j.1 d c) (j.1, 0, d, j.2))
def Q0 (c : Dev nD) (j : Half × Sub) : sProp 𝕄 := all fun d : Dist => crd (F := F) c false (j.1, 0, d, j.2)

theorem iter0_wp (c : Dev nD) (j : Half × Sub) (r : Debts) (hr : Above 1 r) :
    iprop(P0 X c j ∗ inv X K c (todo0 c j ++ r)) ⊢ WP c (iter0 c j) fun _ => iprop(Q0 (F := F) c j ∗ inv X K c r) :=
  overDists X K (fun d => above_owed (by show 1 < 2 + 0; decide)) (fun d r _ => send0_wp X K c j.1 d j.2 r) hr

/-! ## Its blocks in, and the second exchange: the own chunk out -/

def P1 (c : Dev nD) (j : Half × Sub) : sProp 𝕄 :=
  iprop((all fun d : Dist => iprop(crd (F := F) c true (j.1, 0, d, j.2) ∗ pos (F := F) c true (j.1, 0, d, j.2)))
    ∗ accAt c fullShare j.1 (own j.1 c) j.2 (X c)
    ∗ all fun d : Dist => iprop(slotAny (F := F) (peer2 j.1 d c) j.1 (slot1 d) j.2 ∗ tok (F := F) c (peer2 j.1 d c) (j.1, 1, d, j.2)))
def Q1 (c : Dev nD) (j : Half × Sub) : sProp 𝕄 :=
  iprop((all fun d : Dist => zero (F := F) c true (j.1, 0, d, j.2))
    ∗ (all fun d : Dist => accAny (F := F) (src1 j.1 d c) j.1 (own j.1 c) j.2)
    ∗ (all fun d : Dist => slotAny (F := F) c j.1 (slot0 d) j.2)
    ∗ (all fun d : Dist => crd (F := F) c false (j.1, 1, d, j.2))
    ∗ accAt c kept j.1 (own j.1 c) j.2 (acc1 X c))

theorem iter1_wp (c : Dev nD) (j : Half × Sub) (r : Debts) (hr : Above 2 r) :
    iprop(P1 X c j ∗ inv X K c (todo1 c j ++ r)) ⊢ WP c (iter1 c j) fun _ => iprop(Q1 X c j ∗ inv X K c r) := by
  unfold P1 Q1 iter1
  iintro ⟨⟨Hw, Ha, Hs⟩, HI⟩
  iapply (wp_then (overDists' X K (fun d r hr => recv0_wp X K c j.1 d j.2 r hr) (above_append (above1 c j) hr))) $$ [Hw HI]
  · isplitl [Hw] <;> iassumption
  iintro %_ ⟨HQ, HI⟩
  ihave HQ := (Entails.of_eq (all_sep _ _)) $$ HQ
  icases HQ with ⟨Hz, HQ⟩
  ihave HQ := (Entails.of_eq (all_sep _ _)) $$ HQ
  icases HQ with ⟨Hl, Hb⟩
  ihave Hl := (Entails.of_eq (all_three _)) $$ Hl
  icases Hl with ⟨H0, H1, H2⟩
  iapply (wp_then (add3_wp src1 X c j.1 j.2 0 1 2)) $$ [Ha H0 H1 H2]
  · isplitl [Ha]; · iexact Ha
    isplitl [H0]; · iexact H0
    isplitl [H1]; · iexact H1
    iexact H2
  iintro %_ ⟨Ha, H0, H1, H2⟩
  ihave Ha := (Entails.of_eq (show accAt c fullShare j.1 (own j.1 c) j.2 (gather src1 X c) = accAt c fullShare j.1 (own j.1 c) j.2 (acc1 X c) from rfl)) $$ Ha
  ihave Ha := (accAt_deal c j.1 (own j.1 c) j.2 (acc1 X c)).1 $$ Ha
  icases Ha with ⟨Hd, Hk⟩
  iapply (wp_wand frame _ _) $$ [Hd Hs HI]
  · iapply (overDists X K (todo := fun d => [owed (peer2 j.1 d c) (j.1, 1, d, j.2)]) (fun d => above_owed (by show 2 < 2 + 1; decide))
      (fun d r _ => send1_wp X K c j.1 d j.2 r) hr)
    isplitr [HI]
    · iapply (Entails.of_eq (all_sep _ _).symm)
      isplitl [Hd]; · iexact Hd
      iexact Hs
    iexact HI
  iintro %_ ⟨Hc, HI⟩
  isplitr [HI]
  · isplitl [Hz]; · iexact Hz
    isplitl [Hb]
    · iapply (all_mono fun d => (show accAt (src1 j.1 d c) fullShare j.1 (own j.1 c) j.2 (X (src1 j.1 d c)) ⊢ accAny (F := F) (src1 j.1 d c) j.1 (own j.1 c) j.2 by
        unfold accAny; iintro H; iexists _; iexact H))
      iexact Hb
    isplitl [H0 H1 H2]
    · iapply (Entails.of_eq (all_three _).symm)
      isplitl [H0]; · iapply (slotAt_any _ _ _ _ _); iexact H0
      isplitl [H1]; · iapply (slotAt_any _ _ _ _ _); iexact H1
      iapply (slotAt_any _ _ _ _ _); iexact H2
    isplitl [Hc]; · iexact Hc
    iexact Hk
  iexact HI

/-! ## Those blocks in, its own chunk back, and the third exchange -/

def P2 (c : Dev nD) (j : Half × Sub) : sProp 𝕄 :=
  iprop((all fun d : Dist => iprop((crd (F := F) c true (j.1, 1, d, j.2) ∗ pos (F := F) c true (j.1, 1, d, j.2))
      ∗ crd (F := F) c false (j.1, 1, d, j.2) ∗ pos (F := F) c false (j.1, 1, d, j.2)))
    ∗ accAt c kept j.1 (own j.1 c) j.2 (acc1 X c)
    ∗ slotAny (F := F) (peerX c) j.1 6 j.2 ∗ tok (F := F) c (peerX c) (j.1, 2, 0, j.2))
def Q2 (c : Dev nD) (j : Half × Sub) : sProp 𝕄 :=
  iprop((all fun d : Dist => zero (F := F) c true (j.1, 1, d, j.2))
    ∗ (all fun d : Dist => zero (F := F) c false (j.1, 1, d, j.2))
    ∗ (all fun d : Dist => slotAny (F := F) c j.1 (slot1 d) j.2)
    ∗ crd (F := F) c false (j.1, 2, 0, j.2))

theorem recv_sent1_wp (c : Dev nD) (h : Half) (d : Dist) (s : Sub) (r : Debts) (hr : Above 3 r) :
    iprop(((crd (F := F) c true (h, 1, d, s) ∗ pos (F := F) c true (h, 1, d, s)) ∗ crd (F := F) c false (h, 1, d, s) ∗ pos (F := F) c false (h, 1, d, s))
        ∗ inv X K c r)
      ⊢ WP c (do recv1 c h d s; sent1 c h d s) fun _ => iprop((zero (F := F) c true (h, 1, d, s) ∗ zero (F := F) c false (h, 1, d, s)
          ∗ slotAt c h (slot1 d) s (landing c (acc1 X (src2 h d c))) ∗ accAt c (lent d) h (own h c) s (acc1 X c)) ∗ inv X K c r) := by
  iintro ⟨⟨Hr, Hs⟩, HI⟩
  iapply (wp_then (recv1_wp X K c h d s r hr)) $$ [Hr HI]
  · isplitl [Hr] <;> iassumption
  iintro %_ ⟨⟨Hz, Hl⟩, HI⟩
  iapply (wp_wand frame _ _) $$ [Hs HI]
  · iapply (sent1_wp X K c h d s r (hr.mono (Nat.zero_le _)))
    isplitl [Hs] <;> iassumption
  iintro %_ ⟨⟨Hz', Ha⟩, HI⟩
  isplitr [HI]
  · isplitl [Hz]; · iexact Hz
    isplitl [Hz']; · iexact Hz'
    isplitl [Hl]; · iexact Hl
    iexact Ha
  iexact HI

theorem iter2_wp (c : Dev nD) (j : Half × Sub) (r : Debts) (hr : Above 3 r) :
    iprop(P2 X c j ∗ inv X K c (todo2 c j ++ r)) ⊢ WP c (iter2 c j) fun _ => iprop(Q2 (F := F) c j ∗ inv X K c r) := by
  unfold P2 Q2 iter2
  iintro ⟨⟨Hw, Hk, Hs⟩, HI⟩
  iapply (wp_then (overDists' X K (fun d r hr => recv_sent1_wp X K c j.1 d j.2 r hr) (above_append (above2 c j) hr))) $$ [Hw HI]
  · isplitl [Hw] <;> iassumption
  iintro %_ ⟨HQ, HI⟩
  ihave HQ := (Entails.of_eq (all_sep _ _)) $$ HQ
  icases HQ with ⟨Hz, HQ⟩
  ihave HQ := (Entails.of_eq (all_sep _ _)) $$ HQ
  icases HQ with ⟨Hz', HQ⟩
  ihave HQ := (Entails.of_eq (all_sep _ _)) $$ HQ
  icases HQ with ⟨Hl, Hd⟩
  ihave Ha := (accAt_deal c j.1 (own j.1 c) j.2 (acc1 X c)).2 $$ [Hd Hk]
  · isplitl [Hd] <;> iassumption
  ihave Hl := (Entails.of_eq (all_three _)) $$ Hl
  icases Hl with ⟨H0, H1, H2⟩
  iapply (wp_then (add3_wp src2 (acc1 X) c j.1 j.2 3 4 5)) $$ [Ha H0 H1 H2]
  · isplitl [Ha]; · iexact Ha
    isplitl [H0]; · iexact H0
    isplitl [H1]; · iexact H1
    iexact H2
  iintro %_ ⟨Ha, H0, H1, H2⟩
  iapply (wp_wand frame _ _) $$ [Ha Hs HI]
  · iapply (send2_wp X K c j.1 j.2 r)
    isplitr [HI]
    · isplitl [Ha]; · iexact Ha
      iexact Hs
    iexact HI
  iintro %_ ⟨Hc, HI⟩
  isplitr [HI]
  · isplitl [Hz]; · iexact Hz
    isplitl [Hz']; · iexact Hz'
    isplitl [H0 H1 H2]
    · iapply (Entails.of_eq (all_three _).symm)
      isplitl [H0]; · iapply (slotAt_any _ _ _ _ _); iexact H0
      isplitl [H1]; · iapply (slotAt_any _ _ _ _ _); iexact H1
      iapply (slotAt_any _ _ _ _ _); iexact H2
    iexact Hc
  iexact HI

/-! ## The last block in, its own chunk back, and the result of the chunk out to the first axis -/

def P3 (c : Dev nD) (j : Half × Sub) : sProp 𝕄 :=
  iprop((crd (F := F) c true (j.1, 2, 0, j.2) ∗ pos (F := F) c true (j.1, 2, 0, j.2))
    ∗ (crd (F := F) c false (j.1, 2, 0, j.2) ∗ pos (F := F) c false (j.1, 2, 0, j.2))
    ∗ all fun d : Dist => iprop(accAny (F := F) (peer1 j.1 d c) j.1 (own j.1 c) j.2 ∗ tok (F := F) c (peer1 j.1 d c) (j.1, 3, d, j.2)))
def Q3 (c : Dev nD) (j : Half × Sub) : sProp 𝕄 :=
  iprop(zero (F := F) c true (j.1, 2, 0, j.2) ∗ zero (F := F) c false (j.1, 2, 0, j.2) ∗ slotAny (F := F) c j.1 6 j.2
    ∗ (all fun d : Dist => crd (F := F) c false (j.1, 3, d, j.2))
    ∗ accAt c kept j.1 (own j.1 c) j.2 (acc3 X c))

theorem iter3_wp (c : Dev nD) (j : Half × Sub) (r : Debts) (hr : Above 4 r) :
    iprop(P3 (F := F) c j ∗ inv X K c (todo3 c j ++ r)) ⊢ WP c (iter3 c j) fun _ => iprop(Q3 X c j ∗ inv X K c r) := by
  unfold P3 Q3 iter3
  iintro ⟨⟨Hr, Hs, Ht⟩, HI⟩
  iapply (wp_then (recv2_wp X K c j.1 j.2 _ (above_append (above3 c j) hr))) $$ [Hr HI]
  · isplitl [Hr] <;> iassumption
  iintro %_ ⟨⟨Hz, Hl⟩, HI⟩
  iapply (wp_then (sent2_wp X K c j.1 j.2 _ ((above_append (above3 c j) hr).mono (Nat.zero_le _)))) $$ [Hs HI]
  · isplitl [Hs] <;> iassumption
  iintro %_ ⟨⟨Hz', Ha⟩, HI⟩
  iapply (wp_then (add1_wp X c j.1 j.2)) $$ [Ha Hl]
  · isplitl [Ha] <;> iassumption
  iintro %_ ⟨Ha, Hl⟩
  ihave Ha := (accAt_deal c j.1 (own j.1 c) j.2 (acc3 X c)).1 $$ Ha
  icases Ha with ⟨Hd, Hk⟩
  iapply (wp_wand frame _ _) $$ [Hd Ht HI]
  · iapply (overDists X K (todo := fun d => [owed (peer1 j.1 d c) (j.1, 3, d, j.2)]) (fun d => above_owed (by show 4 < 2 + 3; decide))
      (fun d r _ => send3_wp X K c j.1 d j.2 r) hr)
    isplitr [HI]
    · iapply (Entails.of_eq (all_sep _ _).symm)
      isplitl [Hd]; · iexact Hd
      iexact Ht
    iexact HI
  iintro %_ ⟨Hc, HI⟩
  isplitr [HI]
  · isplitl [Hz]; · iexact Hz
    isplitl [Hz']; · iexact Hz'
    isplitl [Hl]; · iapply (slotAt_any _ _ _ _ _); iexact Hl
    isplitl [Hc]; · iexact Hc
    iexact Hk
  iexact HI

/-! ## The peers' results in -/

def P4 (c : Dev nD) (j : Half × Sub) : sProp 𝕄 := all fun d : Dist => iprop(crd (F := F) c true (j.1, 3, d, j.2) ∗ pos (F := F) c true (j.1, 3, d, j.2))
def Q4 (c : Dev nD) (j : Half × Sub) : sProp 𝕄 :=
  iprop((all fun d : Dist => zero (F := F) c true (j.1, 3, d, j.2)) ∗ all fun d : Dist => accAt c fullShare j.1 (own j.1 (peer1 j.1 d c)) j.2 (final X c))

theorem iter4_wp (c : Dev nD) (j : Half × Sub) (r : Debts) (hr : Above 5 r) :
    iprop(P4 (F := F) c j ∗ inv X K c r) ⊢ WP c (iter4 c j) fun _ => iprop(Q4 X c j ∗ inv X K c r) := by
  unfold P4 Q4 iter4
  iintro ⟨Hw, HI⟩
  iapply (wp_wand frame _ _) $$ [Hw HI]
  · iapply (overDists' X K (fun d r hr => recv3_wp X K c j.1 d j.2 r hr) hr)
    isplitl [Hw] <;> iassumption
  iintro %_ ⟨HQ, HI⟩
  ihave HQ := (Entails.of_eq (all_sep _ _)) $$ HQ
  icases HQ with ⟨Hz, Hb⟩
  isplitr [HI]
  · isplitl [Hz]; · iexact Hz
    iapply (Entails.of_eq (bigSep_univ_equiv Fin.revPerm (fun d : Dist => accAt c fullShare j.1 (own j.1 (peer1 j.1 d c)) j.2 (final X c))).symm)
    iapply (all_mono fun d : Dist => Entails.of_eq (show (accAt c fullShare j.1 (own j.1 (src1 j.1 d c)) j.2 (acc3 X (src1 j.1 d c)) : sProp 𝕄) =
      accAt c fullShare j.1 (own j.1 (peer1 j.1 (Fin.revPerm d) c)) j.2 (final X c) from pointsTo_congr (final_peer X c j.1 (rev d) j.2)))
    iexact Hb
  iexact HI

/-! ## Its own transfers' ends -/

def P5 (c : Dev nD) (j : Half × Sub) : sProp 𝕄 := all fun d : Dist =>
  iprop((crd (F := F) c false (j.1, 0, d, j.2) ∗ pos (F := F) c false (j.1, 0, d, j.2)) ∗ crd (F := F) c false (j.1, 3, d, j.2) ∗ pos (F := F) c false (j.1, 3, d, j.2))
def Q5 (c : Dev nD) (j : Half × Sub) : sProp 𝕄 :=
  iprop((all fun d : Dist => zero (F := F) c false (j.1, 0, d, j.2)) ∗ (all fun d : Dist => zero (F := F) c false (j.1, 3, d, j.2))
    ∗ all fun d : Dist => accAt c (lent d) j.1 (own j.1 c) j.2 (acc3 X c))

theorem sent03_wp (c : Dev nD) (h : Half) (d : Dist) (s : Sub) (r : Debts) (hr : Above 0 r) :
    iprop(((crd (F := F) c false (h, 0, d, s) ∗ pos (F := F) c false (h, 0, d, s)) ∗ crd (F := F) c false (h, 3, d, s) ∗ pos (F := F) c false (h, 3, d, s))
        ∗ inv X K c r)
      ⊢ WP c (do sent0 c h d s; sent3 c h d s) fun _ => iprop((zero (F := F) c false (h, 0, d, s) ∗ zero (F := F) c false (h, 3, d, s)
          ∗ accAt c (lent d) h (own h c) s (acc3 X c)) ∗ inv X K c r) := by
  iintro ⟨⟨Hr, Hs⟩, HI⟩
  iapply (wp_then (sent0_wp X K c h d s r hr)) $$ [Hr HI]
  · isplitl [Hr] <;> iassumption
  iintro %_ ⟨⟨Hz, -⟩, HI⟩
  iapply (wp_wand frame _ _) $$ [Hs HI]
  · iapply (sent3_wp X K c h d s r hr)
    isplitl [Hs] <;> iassumption
  iintro %_ ⟨⟨Hz', Ha⟩, HI⟩
  isplitr [HI]
  · isplitl [Hz]; · iexact Hz
    isplitl [Hz']; · iexact Hz'
    iexact Ha
  iexact HI

theorem iter5_wp (c : Dev nD) (j : Half × Sub) (r : Debts) (hr : Above 0 r) :
    iprop(P5 (F := F) c j ∗ inv X K c r) ⊢ WP c (iter5 c j) fun _ => iprop(Q5 X c j ∗ inv X K c r) := by
  unfold P5 Q5 iter5
  iintro ⟨Hw, HI⟩
  iapply (wp_wand frame _ _) $$ [Hw HI]
  · iapply (overDists' X K (fun d r hr => sent03_wp X K c j.1 d j.2 r hr) hr)
    isplitl [Hw] <;> iassumption
  iintro %_ ⟨HQ, HI⟩
  isplitr [HI]
  · ihave HQ := (Entails.of_eq (all_sep _ _)) $$ HQ
    icases HQ with ⟨Hz, HQ⟩
    ihave HQ := (Entails.of_eq (all_sep _ _)) $$ HQ
    icases HQ with ⟨Hz', HQ⟩
    isplitl [Hz]; · iexact Hz
    isplitl [Hz']; · iexact Hz'
    iexact HQ
  iexact HI

/-! ## The loops -/

/-- What a device still owes before the second, the third and the fourth loop. -/
def debt3 (c : Dev nD) : Debts := pairs.flatMap (todo3 c) ++ []
def debt2 (c : Dev nD) : Debts := pairs.flatMap (todo2 c) ++ debt3 c
def debt1 (c : Dev nD) : Debts := pairs.flatMap (todo1 c) ++ debt2 c
def debt0 (c : Dev nD) : Debts := pairs'.flatMap (todo0 c) ++ debt1 c

theorem above_debt3 (c : Dev nD) : Above 4 (debt3 c) := above_append (above_flatMap (above3 c) _) (above_nil 4)
theorem above_debt2 (c : Dev nD) : Above 3 (debt2 c) := above_append (above_flatMap (above2 c) _) ((above_debt3 c).mono (by decide))
theorem above_debt1 (c : Dev nD) : Above 2 (debt1 c) := above_append (above_flatMap (above1 c) _) ((above_debt2 c).mono (by decide))
theorem above_debt0 (c : Dev nD) : Above 1 (debt0 c) := above_append (above_flatMap (above0 c) _) ((above_debt1 c).mono (by decide))

theorem loop0 (c : Dev nD) : iprop(all (P0 X c) ∗ inv X K c (debt0 c)) ⊢ WP c (each (iter0 c) pairs') fun _ => iprop(all (Q0 (F := F) c) ∗ inv X K c (debt1 c)) :=
  phase X K (above0 c) pairs' (by decide) (by decide) (iter0_wp X K c) ((above_debt1 c).mono (by decide))
theorem loop1 (c : Dev nD) : iprop(all (P1 X c) ∗ inv X K c (debt1 c)) ⊢ WP c (each (iter1 c) pairs) fun _ => iprop(all (Q1 X c) ∗ inv X K c (debt2 c)) :=
  phase X K (above1 c) pairs (by decide) (by decide) (iter1_wp X K c) ((above_debt2 c).mono (by decide))
theorem loop2 (c : Dev nD) : iprop(all (P2 X c) ∗ inv X K c (debt2 c)) ⊢ WP c (each (iter2 c) pairs) fun _ => iprop(all (Q2 (F := F) c) ∗ inv X K c (debt3 c)) := by
  have h := phase X K (above2 c) pairs (by decide) (by decide) (iter2_wp X K c) ((above_debt3 c).mono (by decide))
  convert h; rfl
theorem loop3 (c : Dev nD) : iprop(all (P3 (F := F) c) ∗ inv X K c (debt3 c)) ⊢ WP c (each (iter3 c) pairs) fun _ => iprop(all (Q3 X c) ∗ inv X K c []) :=
  phase X K (above3 c) pairs (by decide) (by decide) (iter3_wp X K c) (above_nil 4)
theorem waits {c : Dev nD} {n : ℕ} {f : Half × Sub → Pr F PUnit} {P Q : Half × Sub → sProp 𝕄}
    (h : ∀ j r, Above n r → iprop(P j ∗ inv X K c r) ⊢ WP c (f j) fun _ => iprop(Q j ∗ inv X K c r)) :
    iprop(all P ∗ inv X K c []) ⊢ WP c (each f pairs) fun _ => iprop(all Q ∗ inv X K c []) := by
  have h' := phase X K (c := c) (f := f) (P := P) (Q := Q) (todo := fun _ => []) (fun _ => above_nil n) pairs (by decide) (by decide) h (above_nil n)
  rw [show pairs.flatMap (fun _ : Half × Sub => ([] : Debts)) ++ [] = [] by simp] at h'
  exact h'
theorem loop4 (c : Dev nD) : iprop(all (P4 (F := F) c) ∗ inv X K c []) ⊢ WP c (each (iter4 c) pairs) fun _ => iprop(all (Q4 X c) ∗ inv X K c []) :=
  waits X K (iter4_wp X K c)
theorem loop5 (c : Dev nD) : iprop(all (P5 (F := F) c) ∗ inv X K c []) ⊢ WP c (each (iter5 c) pairs) fun _ => iprop(all (Q5 X c) ∗ inv X K c []) :=
  waits X K (iter5_wp X K c)

end Rules

end Cert.AllReduce

end
-- ==== Proof.Whole.lean ====
/-
# Families of blocks, of slots and of transfers

The two scratch buffers whole, as the families of their blocks per (half, sub-block); a family over the transfers as four
families, one per stage; and what the seven peers hand over at the barrier as what the three exchanges write.
-/
module

public import proofs.«01_k».proof.Proof.Loops

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

/-- A family over the transfers of one stage, per (half, sub-block); and over those of stage 2 that are used. -/
abbrev fam (st : Stage) (Φ : Xfer → sProp 𝕄) : sProp 𝕄 := all fun j : Half × Sub => all fun d : Dist => Φ (j.1, st, d, j.2)
abbrev famX (d : Dist) (Φ : Xfer → sProp 𝕄) : sProp 𝕄 := all fun j : Half × Sub => Φ (j.1, 2, d, j.2)

/-- A family over (half, sub-block) and distance. -/
abbrev each3 (Φ : Half → Dist → Sub → sProp 𝕄) : sProp 𝕄 := all fun j : Half × Sub => all fun d : Dist => Φ j.1 d j.2
abbrev each1 (Φ : Half → Sub → sProp 𝕄) : sProp 𝕄 := all fun j : Half × Sub => Φ j.1 j.2

theorem all_seven (Φ : Fin 7 → sProp 𝕄) : all Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem all_option (Φ : Option Dist → sProp 𝕄) : all Φ = iprop(Φ none ∗ all fun d => Φ (some d)) := by
  rw [all_three]
  exact bigSep_univ_eq_bigSepL [none, some 0, some 1, some 2] (by decide) (by decide) Φ

/-- A transfer, its coordinates in another order. -/
def xferEquiv : (Half × Sub) × (Stage × Dist) ≃ Xfer :=
  ⟨fun t => (t.1.1, t.2.1, t.2.2, t.1.2), fun x => ((x.1, x.2.2.2), (x.2.1, x.2.2.1)), fun _ => rfl, fun _ => rfl⟩

theorem all_xfer (Φ : Xfer → sProp 𝕄) : all Φ = iprop(fam 0 Φ ∗ fam 1 Φ ∗ (famX 0 Φ ∗ famX 1 Φ ∗ famX 2 Φ) ∗ fam 3 Φ) := by
  have e : ∀ j : Half × Sub, (all fun t : Stage × Dist => Φ (xferEquiv (j, t)))
      = iprop((all fun d => Φ (j.1, 0, d, j.2)) ∗ (all fun d => Φ (j.1, 1, d, j.2)) ∗ (Φ (j.1, 2, 0, j.2) ∗ Φ (j.1, 2, 1, j.2) ∗ Φ (j.1, 2, 2, j.2))
        ∗ all fun d => Φ (j.1, 3, d, j.2)) := fun j => by
    have e2 := all_three fun d => Φ (j.1, 2, d, j.2)
    refine (bigSep_univ_prod _).trans ?_
    refine (bigSep_univ_eq_bigSepL [(0 : Stage), 1, 2, 3] (by decide) (by decide) _).trans ?_
    rw [← e2]
    rfl
  refine (bigSep_univ_equiv xferEquiv Φ).trans ((bigSep_univ_prod _).trans ?_)
  refine (bigSep_congr fun j _ => e j).trans ?_
  simp only [all_sep]

/-! ## A buffer whole, as its parts -/

section Parts

variable {ℓ : Loc nD τ sig} {T : Type} [Fintype T] {q : PosShare TreeShare}

theorem pts_parts (K : T → Finset (Idx ℓ)) (hc : ∀ i, ∃ t, i ∈ K t) (hd : ∀ t t', t ≠ t' → Disjoint (K t) (K t')) (f : Buf (Elt F) ℓ) :
    ((ℓ ↦{q} f) : sProp 𝕄) = all fun t => (ℓ ↦[K t]{q} f) := by
  refine Eq.trans ?_ (pointsTo_biUnion Finset.univ K fun t _ t' _ h => hd t t' h)
  rw [Finset.eq_univ_of_forall fun i => Finset.mem_biUnion.mpr ((hc i).imp fun t h => ⟨Finset.mem_univ t, h⟩)]

theorem pts_join (K : T → Finset (Idx ℓ)) (hc : ∀ i, ∃ t, i ∈ K t) (hd : ∀ t t', t ≠ t' → Disjoint (K t) (K t')) (f₀ : Buf (Elt F) ℓ) :
    (all fun t => iprop(∃ f, (ℓ ↦[K t]{q} f))) ⊢ (iprop(∃ f, (ℓ ↦{q} f)) : sProp 𝕄) := by
  classical
  haveI : ∀ _ : T, Nonempty (Buf (Elt F) ℓ) := fun _ => ⟨f₀⟩
  iintro H
  ihave H := (bigSep_exists_pi Finset.univ fun (t : T) (f : Buf (Elt F) ℓ) => ((ℓ ↦[K t]{q} f) : sProp 𝕄)) $$ H
  icases H with ⟨%fs, H⟩
  ihave H := (pointsTo_biUnion_join Finset.univ K fs f₀ fun t _ t' _ h => hd t t' h) $$ H
  icases H with ⟨%g, -, H⟩
  iexists g
  rw [Finset.eq_univ_of_forall fun i => Finset.mem_biUnion.mpr ((hc i).imp fun t h => ⟨Finset.mem_univ t, h⟩)]
  iexact H

end Parts

theorem aSet_mem (i : AIdx) : ∃ t : (Half × Sub) × Fin 4, i ∈ aSet t.1.1 t.2 t.1.2 := by
  have h := Finset.mem_univ i
  rw [aSet_cover] at h
  obtain ⟨t, -, ht⟩ := Finset.mem_biUnion.mp h
  exact ⟨t, ht⟩
theorem rSet_mem (i : RIdx) : ∃ t : (Half × Sub) × Fin 7, i ∈ rSet t.1.1 t.2 t.1.2 := by
  have h := Finset.mem_univ i
  rw [rSet_cover] at h
  obtain ⟨t, -, ht⟩ := Finset.mem_biUnion.mp h
  exact ⟨t, ht⟩

/-! ## The accumulator -/

/-- The accumulator whole is, per (half, sub-block), the device's own block and those of its three peers' chunks. -/
theorem acc_whole (c : Dev nD) (q : PosShare TreeShare) (f : VA F) :
    ((((c : Thread nD τ).loc cc0_scratch0) ↦{q} f) : sProp 𝕄)
      = iprop((each1 fun h s => accAt c q h (own h c) s f) ∗ each3 fun h d s => accAt c q h (own h (peer1 h d c)) s f) := by
  have e : ∀ j : Half × Sub, (all fun ch : Fin 4 => accAt c q j.1 ch j.2 f)
      = iprop(accAt c q j.1 (own j.1 c) j.2 f ∗ all fun d => accAt c q j.1 (own j.1 (peer1 j.1 d c)) j.2 f) := fun j => by
    refine (bigSep_univ_equiv (Equiv.ofBijective _ (chunk_bijective j.1 c)) _).trans ((all_option _).trans ?_)
    rfl
  have h0 : ((((c : Thread nD τ).loc cc0_scratch0) ↦{q} f) : sProp 𝕄)
      = all fun t : (Half × Sub) × Fin 4 => accAt c q t.1.1 t.2 t.1.2 f :=
    pts_parts (ℓ := (c : Thread nD τ).loc cc0_scratch0) (fun t : (Half × Sub) × Fin 4 => aSet t.1.1 t.2 t.1.2) aSet_mem aSet_disjoint f
  exact h0.trans ((bigSep_univ_prod _).trans ((bigSep_congr fun j _ => e j).trans (all_sep _ _)))

/-- The shares of the device's own blocks, and of its peers' chunks. -/
theorem own_deal (c : Dev nD) (f : VA F) :
    (each1 fun h s => accAt c fullShare h (own h c) s f)
      ⊣⊢ iprop((each3 fun h d s => accAt c (lent d) h (own h c) s f) ∗ each1 fun h s => accAt c kept h (own h c) s f) := by
  rw [← all_sep]
  exact ⟨all_mono fun j => (accAt_deal c _ _ _ f).1, all_mono fun j => (accAt_deal c _ _ _ f).2⟩
theorem peers_deal (c : Dev nD) (f : VA F) :
    (each3 fun h d s => accAt c fullShare h (own h (peer1 h d c)) s f)
      ⊣⊢ iprop((each3 fun h d s => all fun e => accAt c (lent e) h (own h (peer1 h d c)) s f) ∗ each3 fun h d s => accAt c kept h (own h (peer1 h d c)) s f) := by
  rw [← all_sep]
  simp only [← all_sep]
  exact ⟨all_mono fun j => all_mono fun d => (accAt_deal c _ _ _ f).1, all_mono fun j => all_mono fun d => (accAt_deal c _ _ _ f).2⟩

/-! ## The landing buffer -/

/-- Its slots of half `h`, per peer that writes them. -/
def revB (p : Fin 7) : Fin 7 := match p with | 0 => 2 | 1 => 1 | 2 => 0 | 3 => 5 | 4 => 4 | 5 => 3 | 6 => 6
theorem revB_revB (p : Fin 7) : revB (revB p) = p := by revert p; decide
theorem peerB_rev (p : Fin 7) (c : Dev nD) : peerB (revB p) (peerB p c) = c := by revert p c; decide +kernel
theorem slotOf_bijective (h : Half) : Function.Bijective fun p => slotOf h (revB p) := by revert h; decide

def revEquiv : Fin 7 ≃ Fin 7 := ⟨revB, revB, revB_revB, revB_revB⟩
def peerEquiv (p : Fin 7) : Dev nD ≃ Dev nD :=
  ⟨peerB p, peerB (revB p), peerB_rev p, fun c => by have h := peerB_rev (revB p) c; rwa [revB_revB] at h⟩

theorem slots_whole (c : Dev nD) (f : VR F) :
    ((((c : Thread nD τ).loc cc0_scratch1) ↦{fullShare} f) : sProp 𝕄) = all fun j : Half × Sub => all fun k : Fin 7 => slotAt c j.1 k j.2 f := by
  refine Eq.trans ?_ (bigSep_univ_prod fun t : (Half × Sub) × Fin 7 => slotAt c t.1.1 t.2 t.1.2 f)
  exact pts_parts (ℓ := (c : Thread nD τ).loc cc0_scratch1) (fun t : (Half × Sub) × Fin 7 => rSet t.1.1 t.2 t.1.2) rSet_mem rSet_disjoint f

/-- Held whole, the landing buffer is what its device hands the seven peers; -/
theorem slots_out (c : Dev nD) (f : VR F) :
    ((((c : Thread nD τ).loc cc0_scratch1) ↦{fullShare} f) : sProp 𝕄) ⊢ all fun p : Fin 7 => barPay (F := F) (revB p) (peerB p c) := by
  rw [slots_whole]
  have h : ∀ j : Half × Sub, (all fun k : Fin 7 => slotAt c j.1 k j.2 f) ⊢ all fun p : Fin 7 => slotAny (F := F) (peerB (revB p) (peerB p c)) j.1 (slotOf j.1 (revB p)) j.2 := fun j => by
    refine (Entails.of_eq (bigSep_univ_equiv (Equiv.ofBijective _ (slotOf_bijective j.1)) _)).trans (all_mono fun p => ?_)
    rw [peerB_rev]
    exact slotAt_any _ _ _ _ _
  exact (all_mono h).trans (Entails.of_eq (bigSep_univ_comm _))

/-- what the seven peers hand over is the slots the three exchanges write; -/
theorem slots_in (c : Dev nD) :
    (all fun p : Fin 7 => barPay (F := F) p c) ⊢ iprop((each3 fun h d s => slotAny (F := F) (peer1 h d c) h (slot0 d) s)
      ∗ (each3 fun h d s => slotAny (F := F) (peer2 h d c) h (slot1 d) s) ∗ each1 fun h s => slotAny (F := F) (peerX c) h 6 s) := by
  have h : ∀ j : Half × Sub, (all fun p : Fin 7 => slotAny (F := F) (peerB p c) j.1 (slotOf j.1 p) j.2)
      ⊢ iprop((all fun d => slotAny (F := F) (peer1 j.1 d c) j.1 (slot0 d) j.2) ∗ (all fun d => slotAny (F := F) (peer2 j.1 d c) j.1 (slot1 d) j.2)
        ∗ slotAny (F := F) (peerX c) j.1 6 j.2) := fun ⟨h, s⟩ => by
    rw [all_three, all_three, all_seven]
    match h with
    | 0 =>
      iintro ⟨H0, H1, H2, H3, H4, H5, H6⟩
      isplitl [H0 H1 H2]
      · isplitl [H0]; · iexact H0
        isplitl [H1]; · iexact H1
        iexact H2
      isplitl [H3 H4 H5]
      · isplitl [H3]; · iexact H3
        isplitl [H4]; · iexact H4
        iexact H5
      iexact H6
    | 1 =>
      iintro ⟨H0, H1, H2, H3, H4, H5, H6⟩
      isplitl [H3 H4 H5]
      · isplitl [H3]; · iexact H3
        isplitl [H4]; · iexact H4
        iexact H5
      isplitl [H0 H1 H2]
      · isplitl [H0]; · iexact H0
        isplitl [H1]; · iexact H1
        iexact H2
      iexact H6
  refine (Entails.of_eq (bigSep_univ_comm fun (p : Fin 7) (j : Half × Sub) => slotAny (F := F) (peerB p c) j.1 (slotOf j.1 p) j.2)).trans ((all_mono h).trans ?_)
  rw [all_sep, all_sep]

/-- and the device's own slots make it whole again. -/
theorem slots_back (c : Dev nD) :
    iprop((each3 fun h d s => slotAny (F := F) c h (slot0 d) s) ∗ (each3 fun h d s => slotAny (F := F) c h (slot1 d) s) ∗ each1 fun h s => slotAny (F := F) c h 6 s)
      ⊢ iprop(∃ f : VR F, (((c : Thread nD τ).loc cc0_scratch1) ↦{fullShare} f)) := by
  have h : ∀ j : Half × Sub, iprop((all fun d => slotAny (F := F) c j.1 (slot0 d) j.2) ∗ (all fun d => slotAny (F := F) c j.1 (slot1 d) j.2) ∗ slotAny (F := F) c j.1 6 j.2)
      ⊢ all fun k : Fin 7 => slotAny (F := F) c j.1 k j.2 := fun ⟨h, s⟩ => by
    rw [all_three, all_three, all_seven]
    iintro ⟨⟨H0, H1, H2⟩, ⟨H3, H4, H5⟩, H6⟩
    isplitl [H0]; · iexact H0
    isplitl [H1]; · iexact H1
    isplitl [H2]; · iexact H2
    isplitl [H3]; · iexact H3
    isplitl [H4]; · iexact H4
    isplitl [H5]; · iexact H5
    iexact H6
  rw [← all_sep, ← all_sep]
  refine (all_mono h).trans ((Entails.of_eq (bigSep_univ_prod fun t : (Half × Sub) × Fin 7 => slotAny (F := F) c t.1.1 t.2 t.1.2).symm).trans ?_)
  exact pts_join (ℓ := (c : Thread nD τ).loc cc0_scratch1) (fun t : (Half × Sub) × Fin 7 => rSet t.1.1 t.2 t.1.2) rSet_mem rSet_disjoint
    (fun _ => (FloatOps.ofBits (F := F) (φ := .bf16) 0))

end Cert.AllReduce

end
-- ==== Proof.Body.lean ====
/-
# The kernel's body on one device

What a device starts from, and the rule of its whole program: each loop starts from the families the barrier, the
launch or an earlier loop left.
-/
module

public import proofs.«01_k».proof.Proof.Whole

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device transfer `x` of device `c` goes to. -/
def peerT (x : Xfer) (c : Dev nD) : Dev nD := match x with
  | (h, 0, d, _) => peer1 h d c
  | (h, 1, d, _) => peer2 h d c
  | (_, 2, _, _) => peerX c
  | (h, 3, d, _) => peer1 h d c

abbrev toks (c : Dev nD) (x : Xfer) : sProp 𝕄 := tok c (peerT x c) x

/-- The credit of a receive cell, none where the transfer is not used. -/
def crdIn (c : Dev nD) (x : Xfer) : sProp 𝕄 := cred (tallyAt (recvCell c x) () (if used x then N else 0))

abbrev allP : List (Fin 7) := [0, 1, 2, 3, 4, 5, 6]
/-- All that a device owes at its start: a unit to each peer's barrier cell, and its transfers' credits. -/
def debts (c : Dev nD) : Debts := allP.map (fun p => (barCell (peerB p c), 1)) ++ debt0 c

section Rules

variable (X : Dev nD → VA F) (K : Dev nD → Key → ℕ)

/-! ## What each loop starts from and leaves, as families -/

theorem P0_eq (c : Dev nD) : all (P0 X c) = iprop((each3 fun h d s => accAt c fullShare h (own h (peer1 h d c)) s (X c))
    ∗ (each3 fun h d s => slotAny (F := F) (peer1 h d c) h (slot0 d) s) ∗ fam 0 (toks (F := F) c)) := by
  show all (fun j => P0 X c j) = _
  simp only [P0, all_sep]
  rfl
theorem P1_eq (c : Dev nD) : all (P1 X c) = iprop((fam 0 (crd (F := F) c true) ∗ fam 0 (pos (F := F) c true)) ∗ (each1 fun h s => accAt c fullShare h (own h c) s (X c))
    ∗ (each3 fun h d s => slotAny (F := F) (peer2 h d c) h (slot1 d) s) ∗ fam 1 (toks (F := F) c)) := by
  show all (fun j => P1 X c j) = _
  simp only [P1, all_sep]
  rfl
theorem Q1_eq (c : Dev nD) : all (Q1 X c) = iprop(fam 0 (zero (F := F) c true) ∗ (each3 fun h d s => accAny (F := F) (src1 h d c) h (own h c) s)
    ∗ (each3 fun h d s => slotAny (F := F) c h (slot0 d) s) ∗ fam 1 (crd (F := F) c false) ∗ each1 fun h s => accAt c kept h (own h c) s (acc1 X c)) := by
  show all (fun j => Q1 X c j) = _
  simp only [Q1, all_sep]
theorem P2_eq (c : Dev nD) : all (P2 X c) = iprop(((fam 1 (crd (F := F) c true) ∗ fam 1 (pos (F := F) c true)) ∗ fam 1 (crd (F := F) c false) ∗ fam 1 (pos (F := F) c false))
    ∗ (each1 fun h s => accAt c kept h (own h c) s (acc1 X c)) ∗ (each1 fun h s => slotAny (F := F) (peerX c) h 6 s) ∗ famX 0 (toks (F := F) c)) := by
  show all (fun j => P2 X c j) = _
  simp only [P2, all_sep]
  rfl
theorem Q2_eq (c : Dev nD) : all (Q2 (F := F) c) = iprop(fam 1 (zero (F := F) c true) ∗ fam 1 (zero (F := F) c false)
    ∗ (each3 fun h d s => slotAny (F := F) c h (slot1 d) s) ∗ famX 0 (crd (F := F) c false)) := by
  show all (fun j => Q2 (F := F) c j) = _
  simp only [Q2, all_sep]
theorem P3_eq (c : Dev nD) : all (P3 (F := F) c) = iprop((famX 0 (crd (F := F) c true) ∗ famX 0 (pos (F := F) c true)) ∗ (famX 0 (crd (F := F) c false) ∗ famX 0 (pos (F := F) c false))
    ∗ (each3 fun h d s => accAny (F := F) (peer1 h d c) h (own h c) s) ∗ fam 3 (toks (F := F) c)) := by
  show all (fun j => P3 (F := F) c j) = _
  simp only [P3, all_sep]
  rfl
theorem Q3_eq (c : Dev nD) : all (Q3 X c) = iprop(famX 0 (zero (F := F) c true) ∗ famX 0 (zero (F := F) c false) ∗ (each1 fun h s => slotAny (F := F) c h 6 s)
    ∗ fam 3 (crd (F := F) c false) ∗ each1 fun h s => accAt c kept h (own h c) s (acc3 X c)) := by
  show all (fun j => Q3 X c j) = _
  simp only [Q3, all_sep]
theorem P4_eq (c : Dev nD) : all (P4 (F := F) c) = iprop(fam 3 (crd (F := F) c true) ∗ fam 3 (pos (F := F) c true)) := by
  show all (fun j => P4 (F := F) c j) = _
  simp only [P4, all_sep]
theorem Q4_eq (c : Dev nD) : all (Q4 X c) = iprop(fam 3 (zero (F := F) c true) ∗ each3 fun h d s => accAt c fullShare h (own h (peer1 h d c)) s (final X c)) := by
  show all (fun j => Q4 X c j) = _
  simp only [Q4, all_sep]
theorem P5_eq (c : Dev nD) : all (P5 (F := F) c) = iprop((fam 0 (crd (F := F) c false) ∗ fam 0 (pos (F := F) c false)) ∗ fam 3 (crd (F := F) c false) ∗ fam 3 (pos (F := F) c false)) := by
  show all (fun j => P5 (F := F) c j) = _
  simp only [P5, all_sep]
theorem Q5_eq (c : Dev nD) : all (Q5 X c) = iprop(fam 0 (zero (F := F) c false) ∗ fam 3 (zero (F := F) c false) ∗ each3 fun h d s => accAt c (lent d) h (own h c) s (acc3 X c)) := by
  show all (fun j => Q5 X c j) = _
  simp only [Q5, all_sep]

/-- The blocks the first exchange's senders handed over are those the last exchange writes. -/
theorem handed (c : Dev nD) : (each3 fun h d s => accAny (F := F) (src1 h d c) h (own h c) s) ⊢ each3 fun h d s => accAny (F := F) (peer1 h d c) h (own h c) s :=
  all_mono fun j => Entails.of_eq (bigSep_univ_equiv Fin.revPerm fun d : Dist => accAny (F := F) (peer1 j.1 d c) j.1 (own j.1 c) j.2).symm

theorem crdIn_used (c : Dev nD) {x : Xfer} (hx : used x) : crdIn (F := F) c x = crd c true x := by unfold crdIn crd; rw [if_pos hx]
theorem crds_in (c : Dev nD) : all (crdIn (F := F) c) ⊢ iprop(fam 0 (crd (F := F) c true) ∗ fam 1 (crd (F := F) c true) ∗ famX 0 (crd (F := F) c true) ∗ fam 3 (crd (F := F) c true)) := by
  have hf : ∀ st : Stage, st ≠ 2 → fam st (crdIn (F := F) c) = fam st (crd (F := F) c true) := fun st hs =>
    bigSep_congr fun j _ => bigSep_congr fun d _ => crdIn_used c (used_of hs)
  have hx : famX 0 (crdIn (F := F) c) = famX 0 (crd (F := F) c true) := bigSep_congr fun j _ => crdIn_used c fun _ => rfl
  rw [all_xfer, hf 0 (by decide), hf 1 (by decide), hf 3 (by decide), hx]
  iintro ⟨H0, H1, ⟨H2, -, -⟩, H3⟩
  isplitl [H0]; · iexact H0
  isplitl [H1]; · iexact H1
  isplitl [H2]; · iexact H2
  iexact H3

/-- The cells of a transfer that is not used close as they are. -/
theorem close_unused (c : Dev nD) (b : Bool) {x : Xfer} (hx : ¬ used x) : iprop(records X K ∗ pos (F := F) c b x) ⊢ |={Set.univ}=> zero (F := F) c b x := by
  unfold pos zero
  iintro ⟨#Hr, Hat⟩
  imod (Rounds.cell_close ER (sched X) (Set.mem_univ (K c (some (b, x)))) (fun h => h) (R := 0) (duties_unused X c b hx)) $$ [Hat] with Hz
  · isplitr; · iapply (inv_at X K c (some (b, x))); iexact Hr
    iexact Hat
  imodintro; iexact Hz
theorem close_famX (c : Dev nD) (b : Bool) (d : Dist) (hd : d ≠ 0) : iprop(records X K ∗ famX d (pos (F := F) c b)) ⊢ |={Set.univ}=> famX d (zero (F := F) c b) := by
  refine (sep_mono_left (BI.bigSep_of_persistent (Finset.univ : Finset (Half × Sub)) (records X K))).trans ?_
  refine (Entails.of_eq (all_sep (fun _ : Half × Sub => records X K) _).symm).trans ?_
  exact (all_mono fun j : Half × Sub => close_unused X K c b (x := (j.1, 2, d, j.2)) fun h => hd (h rfl)).trans (bigSep_fupd _ _)

/-! ## The kernel's start -/

theorem signals_wp (c : Dev nD) :
    iprop((all fun p : Fin 7 => iprop(dutyTok ER (barCell (peerB p c)) 0 (revB p) ∗ barPay (F := F) (revB p) (peerB p c))) ∗ inv X K c (debts c))
      ⊢ WP c (each (fun p => semSignalWord (peerB p c) barS 1#32) allP) fun _ => iprop((all fun _ : Fin 7 => (iprop(emp) : sProp 𝕄)) ∗ inv X K c (debt0 c)) := by
  refine each_univ (I := fun l => inv X K c (l.map (fun p => (barCell (peerB p c), 1)) ++ debt0 c)) allP (by decide) (by decide) fun p l => ?_
  refine (signal_wp X K c (peerB p c) (revB p) _).trans (wp_mono frame _ _ fun _ => ?_)
  iintro H
  isplitr; · iempintro
  iexact H

/-- Staging buffers whole. -/
abbrev stgX (c : Dev nD) (f : (cc0_stg0_0 : Ref sig .tc).ty.Contents (Elt F)) : sProp 𝕄 := ((c : Thread nD τ).loc cc0_stg0_0) ↦{fullShare} f
abbrev stgO (c : Dev nD) (f : (cc0_stg1_0 : Ref sig .tc).ty.Contents (Elt F)) : sProp 𝕄 := ((c : Thread nD τ).loc cc0_stg1_0) ↦{fullShare} f
abbrev accW (c : Dev nD) (q : PosShare TreeShare) (f : VA F) : sProp 𝕄 := ((c : Thread nD τ).loc cc0_scratch0) ↦{q} f
abbrev slotW (c : Dev nD) (f : VR F) : sProp 𝕄 := ((c : Thread nD τ).loc cc0_scratch1) ↦{fullShare} f

theorem hz2 : (![0, 0] : Fin 2 → Nat) = fun _ => 0 := funext fun a => by fin_cases a <;> rfl
theorem hz5 : (![0, 0, 0, 0, 0] : Fin 5 → Nat) = fun _ => 0 := funext fun a => by fin_cases a <;> rfl
theorem read_x (f : (cc0_stg0_0 : Ref sig .tc).ty.Contents (Elt F)) : xM.view.readAt (Elt F) rX.toLoadRect f = f := Memref.readAt_unit_zero (Elt F) cc0_stg0_0 hz5 _ f
theorem read_acc (f : VA F) : aM.view.readAt (Elt F) rAll.toLoadRect f = f := Memref.readAt_unit_zero (Elt F) cc0_scratch0 hz2 _ f
theorem write_acc (f w : VA F) : (aM.access rAll : View sig .tc _ _ _).write (Elt F) f w Finset.univ = w := Memref.write_access_unit_zero_univ (Elt F) cc0_scratch0 hz2 _ f w
theorem write_out (f w : (cc0_stg1_0 : Ref sig .tc).ty.Contents (Elt F)) : (oM.access rAll : View sig .tc _ _ _).write (Elt F) f w Finset.univ = w :=
  Memref.write_access_unit_zero_univ (Elt F) cc0_stg1_0 hz2 _ f w

theorem initA_wp (c : Dev nD) (x : (cc0_stg0_0 : Ref sig .tc).ty.Contents (Elt F)) (f : VA F) :
    iprop(stgX c x ∗ accW c fullShare f) ⊢ WP c initA fun _ => iprop(stgX c x ∗ accW c fullShare (payX x)) := by
  simp only [initA, Prog.lift, Prog.bind_op, Prog.bind_ret]
  iintro ⟨Hx, Ha⟩
  iapply (wp_load 𝒱₀ (c : Thread nD τ) none Set.univ (m := xM) (Finset.subset_univ _)) $$ Hx; iintro Hx
  iapply (wp_load 𝒱₀ (c : Thread nD τ) none Set.univ (m := aM) (Finset.subset_univ _)) $$ Ha; iintro Ha
  iapply (wp_store 𝒱₀ (c : Thread nD τ) none Set.univ (m := aM) (r := rAll) (Mk := Finset.univ) (Finset.subset_univ _)) $$ Ha; iintro Ha
  rw [wp_ret]; imodintro
  isplitl [Hx]; · iexact Hx
  ihave Ha := (Entails.of_eq (congrArg (accW c fullShare) ((write_acc f (payX (xM.view.readAt (Elt F) rX.toLoadRect x))).trans (congrArg payX (read_x x))))) $$ Ha
  iexact Ha

/-! ## The run of one device -/

/-- What device `c` starts from but its buffers, and what it ends with. -/
def start (c : Dev nD) : sProp 𝕄 :=
  iprop((all fun p : Fin 7 => dutyTok ER (barCell (peerB p c)) 0 (revB p)) ∗ atPos ER (barCell c) 0 ∅ 0 ∗ cred (tallyAt (barCell c) () 7)
    ∗ all (toks (F := F) c) ∗ all (crdIn (F := F) c) ∗ all (pos (F := F) c true) ∗ all (pos (F := F) c false))
def stop (c : Dev nD) : sProp 𝕄 := iprop(semVal (barCell c) 0 ∗ all (zero (F := F) c true) ∗ all (zero (F := F) c false))

/-- The barrier's wait: the peers' slots come. -/
theorem enter_wp (c : Dev nD) :
    iprop((cred (tallyAt (barCell c) () 7) ∗ atPos ER (barCell c) 0 ∅ 0) ∗ inv X K c (debt0 c))
      ⊢ WP c (semWaitWord barS 7#32) fun _ => iprop((semVal (barCell c) 0
        ∗ (each3 fun h d s => slotAny (F := F) (peer1 h d c) h (slot0 d) s)
        ∗ (each3 fun h d s => slotAny (F := F) (peer2 h d c) h (slot1 d) s) ∗ each1 fun h s => slotAny (F := F) (peerX c) h 6 s) ∗ inv X K c (debt0 c)) :=
  (barrier_wp X K c (debt0 c) (above_debt0 c)).trans (wp_mono frame _ _ fun _ => sep_mono_left (sep_mono_right (slots_in c)))

/-- The accumulator read whole at the share its device kept. -/
theorem acc_read (c : Dev nD) :
    iprop((each1 fun h s => accAt c kept h (own h c) s (acc3 X c)) ∗ each3 fun h d s => accAt c kept h (own h (peer1 h d c)) s (final X c))
      = accW c kept (final X c) := by
  refine Eq.trans ?_ (acc_whole c kept (final X c)).symm
  have e : (each1 fun h s => accAt c kept h (own h c) s (acc3 X c)) = each1 fun h s => accAt c kept h (own h c) s (final X c) :=
    bigSep_congr fun j _ => pointsTo_congr (final_own X c j.1 j.2)
  rw [e]

/-- The accumulator whole again, from all the shares. -/
theorem acc_back (c : Dev nD) :
    iprop(accW c kept (final X c) ∗ (each3 fun h d s => accAt c (lent d) h (own h c) s (acc3 X c))
        ∗ each3 fun h d s => all fun e => accAt c (lent e) h (own h (peer1 h d c)) s (final X c))
      ⊢ iprop(∃ f, accW c fullShare f) := by
  have e : (each3 fun h d s => accAt c (lent d) h (own h c) s (acc3 X c)) = each3 fun h d s => accAt c (lent d) h (own h c) s (final X c) :=
    bigSep_congr fun j _ => bigSep_congr fun d _ => pointsTo_congr (final_own X c j.1 j.2)
  rw [e]
  iintro ⟨Ha, Hlo, Hlp⟩
  ihave Ha := (Entails.of_eq (acc_whole c kept (final X c))) $$ Ha
  icases Ha with ⟨Ho, Hp⟩
  iexists (final X c)
  iapply (Entails.of_eq (acc_whole c fullShare (final X c)).symm)
  isplitl [Ho Hlo]
  · iapply (own_deal c (final X c)).2
    isplitl [Hlo]; · iexact Hlo
    iexact Ho
  · iapply (peers_deal c (final X c)).2
    isplitl [Hlp]; · iexact Hlp
    iexact Hp

/-- The result stored. -/
theorem out_wp (c : Dev nD) (A : VA F) (o : (cc0_stg1_0 : Ref sig .tc).ty.Contents (Elt F)) {α : Type} (k : Pr F α) (Q : α → sProp 𝕄) :
    iprop(accW c kept A ∗ stgO c o)
      ⊢ iprop((iprop(accW c kept A ∗ stgO c (payO A)) -∗ WP c k Q) -∗ WP c (do
          let v ← Prog.lift (.load aM rAll.toLoadRect (View.loadsAt_vmem h_S512x512))
          let _ : Vec F S512x512 .f32 ← Prog.lift (.load oM rAll.toLoadRect (View.loadsAt_vmem h_S512x512))
          Prog.lift (.store oM rAll (payO v) Finset.univ (View.stores_vmem_bits_univ h_S512x512 rfl) (.inl rfl))
          k) Q) := by
  simp only [Prog.lift, Prog.bind_op, Prog.bind_ret]
  iintro ⟨Ha, Ho⟩ Hk
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Ho; iintro Ho
  iapply (wp_store 𝒱₀ (c : Thread nD τ) none Set.univ (m := oM) (r := rAll) (Mk := Finset.univ) (Finset.subset_univ _)) $$ Ho; iintro Ho
  iapply Hk
  isplitl [Ha]; · iexact Ha
  ihave Ho := (Entails.of_eq (congrArg (stgO c) ((write_out o (payO (aM.view.readAt (Elt F) rAll.toLoadRect A))).trans (congrArg payO (read_acc A))))) $$ Ho
  iexact Ho

/-- All of a device's cells closed: those of the loops as the loops left them, the others as they are. -/
theorem stop_intro (c : Dev nD) :
    iprop(records X K ∗ semVal (barCell c) 0
        ∗ (fam 0 (zero (F := F) c true) ∗ fam 1 (zero (F := F) c true) ∗ famX 0 (zero (F := F) c true) ∗ fam 3 (zero (F := F) c true))
        ∗ (fam 0 (zero (F := F) c false) ∗ fam 1 (zero (F := F) c false) ∗ famX 0 (zero (F := F) c false) ∗ fam 3 (zero (F := F) c false))
        ∗ (famX 1 (pos (F := F) c true) ∗ famX 2 (pos (F := F) c true)) ∗ (famX 1 (pos (F := F) c false) ∗ famX 2 (pos (F := F) c false)))
      ⊢ |={Set.univ}=> stop (F := F) c := by
  unfold stop
  rw [all_xfer, all_xfer]
  iintro ⟨#Hr, Hb, ⟨Ht0, Ht1, Ht2, Ht3⟩, ⟨Hf0, Hf1, Hf2, Hf3⟩, ⟨Hp1, Hp2⟩, ⟨Hq1, Hq2⟩⟩
  imod (close_famX X K c true 1 (by decide)) $$ [Hp1] with Hp1
  · isplitr <;> iassumption
  imod (close_famX X K c true 2 (by decide)) $$ [Hp2] with Hp2
  · isplitr <;> iassumption
  imod (close_famX X K c false 1 (by decide)) $$ [Hq1] with Hq1
  · isplitr <;> iassumption
  imod (close_famX X K c false 2 (by decide)) $$ [Hq2] with Hq2
  · isplitr <;> iassumption
  imodintro
  isplitl [Hb]; · iexact Hb
  isplitl [Ht0 Ht1 Ht2 Ht3 Hp1 Hp2]
  · isplitl [Ht0]; · iexact Ht0
    isplitl [Ht1]; · iexact Ht1
    isplitr [Ht3]
    · isplitl [Ht2]; · iexact Ht2
      isplitl [Hp1]; · iexact Hp1
      iexact Hp2
    iexact Ht3
  · isplitl [Hf0]; · iexact Hf0
    isplitl [Hf1]; · iexact Hf1
    isplitr [Hf3]
    · isplitl [Hf2]; · iexact Hf2
      isplitl [Hq1]; · iexact Hq1
      iexact Hq2
    iexact Hf3

set_option maxHeartbeats 1000000 in
theorem prog_wp (c : Dev nD) (x : (cc0_stg0_0 : Ref sig .tc).ty.Contents (Elt F)) (hx : X c = payX x) (o : (cc0_stg1_0 : Ref sig .tc).ty.Contents (Elt F)) (f : VA F) (g : VR F) :
    iprop((start (F := F) c ∗ stgX c x ∗ stgO c o ∗ accW c fullShare f ∗ slotW c g) ∗ inv X K c (debts c))
      ⊢ WP c (prog c) fun _ => iprop((|={Set.univ}=> stop (F := F) c) ∗ stgX c x ∗ stgO c (payO (final X c)) ∗ (∃ f, accW c fullShare f) ∗ (∃ g, slotW c g)
          ∗ inv X K c []) := by
  unfold start prog
  iintro ⟨⟨⟨Hbt, Hbp, Hbc, Htk, Hcr, Hpt, Hpf⟩, Hx, Ho, Ha, Hs⟩, HI⟩
  -- the barrier
  ihave Hs := (slots_out c g) $$ Hs
  iapply (wp_then (signals_wp X K c)) $$ [Hbt Hs HI]
  · isplitr [HI]
    · iapply (Entails.of_eq (all_sep _ _).symm)
      isplitl [Hbt]; · iexact Hbt
      iexact Hs
    iexact HI
  iintro %_ ⟨-, HI⟩
  iapply (wp_then (enter_wp X K c)) $$ [Hbc Hbp HI]
  · isplitr [HI]
    · isplitl [Hbc]; · iexact Hbc
      iexact Hbp
    iexact HI
  iintro %_ ⟨⟨Hz, Hs0, Hs1, Hs6⟩, HI⟩
  -- the accumulator's first contents
  iapply (wp_then (initA_wp c x f)) $$ [Hx Ha]
  · isplitl [Hx]; · iexact Hx
    iexact Ha
  iintro %_ ⟨Hx, Ha⟩
  ihave Ha := (Entails.of_eq (congrArg (accW c fullShare) hx.symm)) $$ Ha
  ihave Ha := (Entails.of_eq (acc_whole c fullShare (X c))) $$ Ha
  icases Ha with ⟨Hown, Hpeer⟩
  -- the families of each stage
  ihave Htk := (Entails.of_eq (all_xfer _)) $$ Htk
  icases Htk with ⟨Ht0, Ht1, ⟨Ht2, -, -⟩, Ht3⟩
  ihave Hcr := (crds_in c) $$ Hcr
  icases Hcr with ⟨Hc0, Hc1, Hc2, Hc3⟩
  ihave Hpt := (Entails.of_eq (all_xfer _)) $$ Hpt
  icases Hpt with ⟨Hp0, Hp1, ⟨Hp2, Hu1, Hu2⟩, Hp3⟩
  ihave Hpf := (Entails.of_eq (all_xfer _)) $$ Hpf
  icases Hpf with ⟨Hq0, Hq1, ⟨Hq2, Hv1, Hv2⟩, Hq3⟩
  -- the first loop
  iapply (wp_then (loop0 X K c)) $$ [Hpeer Hs0 Ht0 HI]
  · isplitr [HI]
    · iapply (Entails.of_eq (P0_eq X c).symm)
      isplitl [Hpeer]; · iexact Hpeer
      isplitl [Hs0]; · iexact Hs0
      iexact Ht0
    iexact HI
  iintro %_ ⟨Hd0, HI⟩
  -- the second
  iapply (wp_then (loop1 X K c)) $$ [Hc0 Hp0 Hown Hs1 Ht1 HI]
  · isplitr [HI]
    · iapply (Entails.of_eq (P1_eq X c).symm)
      isplitl [Hc0 Hp0]
      · isplitl [Hc0]; · iexact Hc0
        iexact Hp0
      isplitl [Hown]; · iexact Hown
      isplitl [Hs1]; · iexact Hs1
      iexact Ht1
    iexact HI
  iintro %_ ⟨HQ, HI⟩
  ihave HQ := (Entails.of_eq (Q1_eq X c)) $$ HQ
  icases HQ with ⟨Hz0, Hback, Hl0, Hd1, Hown⟩
  -- the third
  iapply (wp_then (loop2 X K c)) $$ [Hc1 Hp1 Hd1 Hq1 Hown Hs6 Ht2 HI]
  · isplitr [HI]
    · iapply (Entails.of_eq (P2_eq X c).symm)
      isplitl [Hc1 Hp1 Hd1 Hq1]
      · isplitl [Hc1 Hp1]
        · isplitl [Hc1]; · iexact Hc1
          iexact Hp1
        isplitl [Hd1]; · iexact Hd1
        iexact Hq1
      isplitl [Hown]; · iexact Hown
      isplitl [Hs6]; · iexact Hs6
      iexact Ht2
    iexact HI
  iintro %_ ⟨HQ, HI⟩
  ihave HQ := (Entails.of_eq (Q2_eq c)) $$ HQ
  icases HQ with ⟨Hz1, Hy1, Hl1, Hd2⟩
  -- the fourth
  ihave Hback := (handed c) $$ Hback
  iapply (wp_then (loop3 X K c)) $$ [Hc2 Hp2 Hd2 Hq2 Hback Ht3 HI]
  · isplitr [HI]
    · iapply (Entails.of_eq (P3_eq c).symm)
      isplitl [Hc2 Hp2]
      · isplitl [Hc2]; · iexact Hc2
        iexact Hp2
      isplitl [Hd2 Hq2]
      · isplitl [Hd2]; · iexact Hd2
        iexact Hq2
      isplitl [Hback]; · iexact Hback
      iexact Ht3
    iexact HI
  iintro %_ ⟨HQ, HI⟩
  ihave HQ := (Entails.of_eq (Q3_eq X c)) $$ HQ
  icases HQ with ⟨Hz2, Hy2, Hl6, Hd3, Hown⟩
  -- the fifth
  iapply (wp_then (loop4 X K c)) $$ [Hc3 Hp3 HI]
  · isplitr [HI]
    · iapply (Entails.of_eq (P4_eq c).symm)
      isplitl [Hc3]; · iexact Hc3
      iexact Hp3
    iexact HI
  iintro %_ ⟨HQ, HI⟩
  ihave HQ := (Entails.of_eq (Q4_eq X c)) $$ HQ
  icases HQ with ⟨Hz3, Hpeer⟩
  ihave Hpeer := (peers_deal c (final X c)).1 $$ Hpeer
  icases Hpeer with ⟨Hlent, Hpeer⟩
  ihave Ha := (Entails.of_eq (acc_read X c)) $$ [Hown Hpeer]
  · isplitl [Hown]; · iexact Hown
    iexact Hpeer
  -- the result
  iapply (out_wp c (final X c) o _ _) $$ [Ha Ho]
  · isplitl [Ha]; · iexact Ha
    iexact Ho
  iintro ⟨Ha, Ho⟩
  -- the last loop
  iapply (wp_wand frame _ _) $$ [Hd0 Hq0 Hd3 Hq3 HI]
  · iapply (loop5 X K c)
    isplitr [HI]
    · iapply (Entails.of_eq (P5_eq c).symm)
      isplitl [Hd0 Hq0]
      · isplitl [Hd0]; · iexact Hd0
        iexact Hq0
      isplitl [Hd3]; · iexact Hd3
      iexact Hq3
    iexact HI
  iintro %_ ⟨HQ, HI⟩
  ihave HQ := (Entails.of_eq (Q5_eq X c)) $$ HQ
  icases HQ with ⟨Hy0, Hy3, Hlo⟩
  unfold inv
  icases HI with ⟨⟨#Hr, #Hlev⟩, HO⟩
  isplitl [Hz Hz0 Hz1 Hz2 Hz3 Hy0 Hy1 Hy2 Hy3 Hu1 Hu2 Hv1 Hv2]
  · iapply (stop_intro X K c)
    isplitr; · iexact Hr
    isplitl [Hz]; · iexact Hz
    isplitl [Hz0 Hz1 Hz2 Hz3]
    · isplitl [Hz0]; · iexact Hz0
      isplitl [Hz1]; · iexact Hz1
      isplitl [Hz2]; · iexact Hz2
      iexact Hz3
    isplitl [Hy0 Hy1 Hy2 Hy3]
    · isplitl [Hy0]; · iexact Hy0
      isplitl [Hy1]; · iexact Hy1
      isplitl [Hy2]; · iexact Hy2
      iexact Hy3
    isplitl [Hu1 Hu2]
    · isplitl [Hu1]; · iexact Hu1
      iexact Hu2
    isplitl [Hv1]; · iexact Hv1
    iexact Hv2
  isplitl [Hx]; · iexact Hx
  isplitl [Ho]; · iexact Ho
  isplitl [Ha Hlo Hlent]
  · iapply (acc_back X c)
    isplitl [Ha]; · iexact Ha
    isplitl [Hlo]; · iexact Hlo
    iexact Hlent
  isplitl [Hl0 Hl1 Hl6]
  · iapply (slots_back c)
    isplitl [Hl0]; · iexact Hl0
    isplitl [Hl1]; · iexact Hl1
    iexact Hl6
  isplitr
  · isplitr <;> iassumption
  iexact HO

end Rules

end Cert.AllReduce

end
-- ==== Proof.Credits.lean ====
/-
# The credits and the tokens a device starts from

What the devices owe together is seven units to each barrier cell and, of each transfer the kernel makes, its credit to
the receive cell. And each device's duty tokens, minted at its own cells, go to the devices that pay the duties.
-/
module

public import proofs.«01_k».proof.Proof.Body

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Devices along a transfer -/

/-- The device whose transfer `x` comes to device `c`. -/
def peerF (x : Xfer) (c : Dev nD) : Dev nD := match x with
  | (h, 0, d, _) => peer1 h (rev d) c
  | (h, 1, d, _) => peer2 h (rev d) c
  | (_, 2, _, _) => peerX c
  | (h, 3, d, _) => peer1 h (rev d) c

theorem peerT_peerF (x : Xfer) (c : Dev nD) : peerT x (peerF x c) = c := by
  obtain ⟨h, st, d, s⟩ := x
  match st with
  | 0 => exact peer1_rev h d c
  | 1 => exact peer2_rev h d c
  | 2 => exact peerX_peerX c
  | 3 => exact peer1_rev h d c
theorem peerF_peerT (x : Xfer) (c : Dev nD) : peerF x (peerT x c) = c := by
  obtain ⟨h, st, d, s⟩ := x
  match st with
  | 0 => exact rev_peer1 h d c
  | 1 => exact rev_peer2 h d c
  | 2 => exact peerX_peerX c
  | 3 => exact rev_peer1 h d c

def alongT (x : Xfer) : Dev nD ≃ Dev nD := ⟨peerT x, peerF x, peerF_peerT x, peerT_peerF x⟩

/-! ## What is owed to a cell -/

theorem cell_eq_iff {c c' : Dev nD} {k k' : Key} : cell c k = cell c' k' ↔ c = c' ∧ k = k' :=
  ⟨fun h => by have e := cell_injective (a₁ := (c, k)) (a₂ := (c', k')) h; exact ⟨congrArg Prod.fst e, congrArg Prod.snd e⟩, fun h => by rw [h.1, h.2]⟩

theorem due_apply (l : Debts) (g : GSem nD τ sig) : due l g () = (l.map fun e => if g = e.1 then e.2 else 0).sum := by
  induction l with
  | nil => rfl
  | cons e l ih =>
    show due l g () + tallyAt e.1 () e.2 g () = _
    rw [tallyAt_apply, List.map_cons, List.sum_cons, ← ih, Nat.add_comm]
    by_cases h : g = e.1
    · rw [if_pos ⟨h, rfl⟩, if_pos h]
    · rw [if_neg (fun h' => h h'.1), if_neg h]

/-- The transfers a device makes, in program order. -/
def made : List Xfer :=
  (pairs'.flatMap fun j => dists.flatMap fun d => [((j.1, 0, d, j.2) : Xfer)])
    ++ ((pairs.flatMap fun j => dists.flatMap fun d => [((j.1, 1, d, j.2) : Xfer)])
    ++ ((pairs.flatMap fun j => [((j.1, 2, 0, j.2) : Xfer)])
    ++ pairs.flatMap fun j => dists.flatMap fun d => [((j.1, 3, d, j.2) : Xfer)]))

theorem made_nodup : made.Nodup := by decide +kernel
theorem mem_made : ∀ x : Xfer, x ∈ made ↔ used x := by
  rintro ⟨h, st, d, s⟩; revert h st d s; decide +kernel

theorem debt0_made (c : Dev nD) : debt0 c = made.map fun x => owed (peerT x c) x := by rfl

/-- A sum over devices of what only the device `e.symm c` gives. -/
theorem sum_along (e : Dev nD ≃ Dev nD) (c : Dev nD) (n : ℕ) : (∑ d : Dev nD, if c = e d then n else 0) = n := by
  rw [Equiv.sum_comp e (fun d => if c = d then n else 0), Finset.sum_ite_eq, if_pos (Finset.mem_univ c)]

theorem sum_list {α : Type} [Fintype α] (f : Dev nD → α → ℕ) (l : List α) :
    (∑ d : Dev nD, (l.map (f d)).sum) = (l.map fun a => ∑ d : Dev nD, f d a).sum := by
  induction l with
  | nil => simp
  | cons a l ih => simp only [List.map_cons, List.sum_cons, Finset.sum_add_distrib, ih]

theorem due_debts (d c : Dev nD) (k : Key) : due (debts d) (cell c k) ()
    = (allP.map fun p => if c = peerB p d ∧ k = none then 1 else 0).sum
      + (made.map fun x => if c = peerT x d ∧ k = some (true, x) then N else 0).sum := by
  rw [due_apply, debts, debt0_made, List.map_append, List.sum_append, List.map_map, List.map_map]
  have e1 : ((fun e : GSem nD τ sig × ℕ => if cell c k = e.1 then e.2 else 0) ∘ fun p => (barCell (peerB p d), 1))
      = fun p => if c = peerB p d ∧ k = none then 1 else 0 := funext fun p => if_congr cell_eq_iff rfl rfl
  have e2 : ((fun e : GSem nD τ sig × ℕ => if cell c k = e.1 then e.2 else 0) ∘ fun x => owed (peerT x d) x)
      = fun x => if c = peerT x d ∧ k = some (true, x) then N else 0 := funext fun x => if_congr cell_eq_iff rfl rfl
  rw [e1, e2]

theorem owed_bar (c : Dev nD) : (∑ d : Dev nD, due (debts d) (barCell c) ()) = 7 := by
  rw [Finset.sum_congr rfl fun d _ => due_debts d c none]
  simp only [Finset.sum_add_distrib, sum_list, reduceCtorEq, and_false, if_false, and_true, Finset.sum_const_zero]
  rw [show (fun p : Fin 7 => ∑ d : Dev nD, if c = peerB p d then 1 else 0) = fun _ => 1 from funext fun p => sum_along (peerEquiv p) c 1,
    List.map_const', List.sum_replicate, List.map_const', List.sum_replicate]
  rfl

theorem owed_recv (c : Dev nD) (x : Xfer) : (∑ d : Dev nD, due (debts d) (recvCell c x) ()) = if used x then N else 0 := by
  rw [Finset.sum_congr rfl fun d _ => due_debts d c (some (true, x))]
  simp only [Finset.sum_add_distrib, sum_list, reduceCtorEq, and_false, if_false, Finset.sum_const_zero, Option.some.injEq, Prod.mk.injEq, true_and]
  have e : (fun y : Xfer => ∑ d : Dev nD, if c = peerT y d ∧ x = y then N else 0) = fun y => if x = y then N else 0 := funext fun y => by
    by_cases h : x = y
    · simp only [h, and_true, if_true]; exact sum_along (alongT y) c N
    · simp only [h, and_false, if_false, Finset.sum_const_zero]
  rw [e, List.map_const', List.sum_replicate, smul_zero, Nat.zero_add, ← List.sum_toFinset _ made_nodup, Finset.sum_ite_eq]
  exact if_congr (by rw [List.mem_toFinset]; exact mem_made x) rfl rfl

/-- The level at which the devices' debts start. -/
abbrev O₀ (c : Dev nD) : CellTallies nD τ sig Unit := due (debts c)

theorem launch_cell (c : Dev nD) (k : Key) (n : ℕ) (h : (∑ d : Dev nD, due (debts d) (cell c k) ()) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same]
  exact h

/-! ## Keys -/

theorem swap (P Q : sProp 𝕄) : iprop(P ∗ Q) = iprop(Q ∗ P) := equiv_iff.mp ⟨Idealize.SL.BI.sep_comm, Idealize.SL.BI.sep_comm⟩

theorem all_bool (Φ : OwnKey → sProp 𝕄) : all Φ = iprop((all fun x => Φ (true, x)) ∗ all fun x => Φ (false, x)) :=
  (bigSep_univ_prod Φ).trans (bigSep_univ_eq_bigSepL [true, false] (by decide) (by decide) fun b => all fun x => Φ (b, x))

theorem all_key (Φ : Key → sProp 𝕄) : all Φ = iprop(Φ none ∗ all fun k : OwnKey => Φ (some k)) := by
  refine (bigSep_univ_equiv (Equiv.optionEquivSumPUnit.{0} OwnKey).symm Φ).trans ((bigSep_univ_sum _).trans ?_)
  refine Eq.trans ?_ (swap _ _)
  refine congrArg₂ _ rfl ?_
  exact (bigSep_univ_eq_bigSepL [PUnit.unit] (by decide) (by decide) _)

/-- A device's credits: its barrier cell's, its receive cells'. -/
theorem creds (c : Dev nD) :
    (Pipeline.launchCred O₀ c : sProp 𝕄) ⊢ iprop(cred (tallyAt (barCell c) () 7) ∗ all (crdIn (F := F) c)) := by
  let f : Option Xfer ↪ SemLoc sig := ⟨fun k => csem (k.map fun x => (true, x)), fun a b h => by
    have h := csem_injective h
    cases a <;> cases b <;> simp at h ⊢ <;> exact h⟩
  unfold Pipeline.launchCred
  refine (bigSep_subset (Finset.subset_univ (Finset.univ.map f))).trans ?_
  rw [bigSep_map]
  refine (Entails.of_eq ((bigSep_univ_equiv (Equiv.optionEquivSumPUnit.{0} Xfer).symm _).trans ((bigSep_univ_sum _).trans (swap _ _)))).trans ?_
  refine Idealize.SL.BI.sep_mono ?_ (bigSep_mono fun x _ => Entails.of_eq (congrArg cred (launch_cell c (some (true, x)) _ (owed_recv c x))))
  refine (Entails.of_eq (bigSep_univ_eq_bigSepL [PUnit.unit] (by decide) (by decide) _)).trans ?_
  exact Entails.of_eq (congrArg cred (launch_cell c none _ (owed_bar c)))

/-! ## Tokens -/

/-- The duty tokens of device `c`'s own cells. -/
def mint (c : Dev nD) : sProp 𝕄 :=
  iprop((all fun p : Fin 7 => dutyTok ER (barCell c) 0 p) ∗ (all fun x => dutyTok ER (recvCell c x) 0 (0 : Duty)) ∗ all fun x => dutyTok ER (sendCell c x) 0 (0 : Duty))
/-- Those of the duties it pays. -/
def payToks (c : Dev nD) : sProp 𝕄 :=
  iprop((all fun p : Fin 7 => dutyTok ER (barCell (peerB p c)) 0 (revB p)) ∗ all (toks (F := F) c))

theorem toks_around : (all fun c : Dev nD => (mint c : sProp 𝕄)) = all fun c : Dev nD => payToks c := by
  have hb : (all fun c : Dev nD => all fun p : Fin 7 => (dutyTok ER (barCell c) 0 p : sProp 𝕄))
      = all fun c : Dev nD => all fun p : Fin 7 => dutyTok ER (barCell (peerB p c)) 0 (revB p) := by
    refine (bigSep_univ_comm _).trans ((bigSep_univ_equiv revEquiv _).trans (Eq.trans ?_ (bigSep_univ_comm _)))
    exact bigSep_congr fun p _ => bigSep_univ_equiv (peerEquiv p) fun c => (dutyTok ER (barCell c) 0 (revB p) : sProp 𝕄)
  have hr : (all fun c : Dev nD => all fun x : Xfer => (dutyTok ER (recvCell c x) 0 (0 : Duty) : sProp 𝕄))
      = all fun c : Dev nD => all fun x : Xfer => dutyTok ER (recvCell (peerT x c) x) 0 (0 : Duty) := by
    refine (bigSep_univ_comm _).trans (Eq.trans ?_ (bigSep_univ_comm _))
    exact bigSep_congr fun x _ => bigSep_univ_equiv (alongT x) fun c => (dutyTok ER (recvCell c x) 0 (0 : Duty) : sProp 𝕄)
  unfold mint payToks toks tok
  simp only [all_sep]
  rw [hb, hr]
  exact congrArg _ (swap _ _)

end Cert.AllReduce

end
-- ==== Proof.Launch.lean ====
/-
# The launch and the run

The kernel's one pipeline point on each device runs the device's program from what the launch deals it: the barrier
cell, the send and receive cells, the duty tokens and the credits of its transfers. So every weakly fair execution of
`main` terminates, with each device's result at the sum the protocol makes and every counter at zero.
-/
module

public import proofs.«01_k».proof.Proof.Credits
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg WinFacts BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The state the devices start from. -/
def s₀ : MemSt nD τ sig (Elt F) := ⟨m, fun _ => 0, ρ⟩

/-! ## Contents -/

/-- Device `c`'s block of the argument, as staged; -/
def xstg (c : Dev nD) : (cc0_stg0_0 : Ref sig .tc).ty.Contents (Elt F) :=
  (win0_0.blk (0 : Fin 1)).view.read (Elt F) ((s₀ m ρ).mem ((c : Thread nD τ).loc main_arg0))
/-- its accumulator's first contents; -/
def X0 (c : Dev nD) : VA F := payX (xstg m ρ c)
/-- its result. -/
def outAt (c : Dev nD) : (cc0_stg1_0 : Ref sig .tc).ty.Contents (Elt F) := payO (final (X0 m ρ) c)

/-! ## The pipeline's proof data -/

/-- What a device's body starts from: the records at some names, the levels, its tokens, positions and credits; -/
def ready (c : Dev nD) : sProp 𝕄 := iprop((∃ K, records (X0 m ρ) K) ∗ levAts L lv ∗ start (F := F) c)
/-- and its two buffers. -/
def Φ₀ (c : Dev nD) : sProp 𝕄 := iprop(ready m ρ c ∗ (∃ f, accW c fullShare f) ∗ ∃ g, slotW (F := F) c g)
/-- What it ends with: its cells closed, its two buffers at some contents. -/
def Φ₁ (c : Dev nD) : sProp 𝕄 := iprop(stop (F := F) c ∗ (∃ f, accW c fullShare f) ∗ ∃ g, slotW (F := F) c g)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_x (t : Fin cfg0.N) : (cfg0.win (0 : Fin 2)).fetch t = true := by rw [fin_N t]; rfl

theorem owns_whole_eq (c : Dev nD) (b : Ref sig .tc) (A : b.ty.Contents (Elt F)) :
    (owns (Ix := Unit) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

/-! ## The body -/

/-- A staging buffer at contents `A`. -/
abbrev stg (c : Dev nD) (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

theorem wp_late {c : Dev nD} {α : Type} {p : Pr F α} {A : sProp 𝕄} {Q : α → sProp 𝕄} (h : A ⊢ WP c p fun a => iprop(|={Set.univ}=> Q a)) : A ⊢ WP c p Q :=
  h.trans (wp_fupd frame _ Set.univ p Q)

theorem on_device {c : Dev nD} {α : Type} {k : Dev nD → Pr F α} {A : sProp 𝕄} {Q : α → sProp 𝕄} (h : A ⊢ WP c (k c) Q) :
    A ⊢ WP c (do let c ← Prog.lift .deviceId; k c) Q := by
  simp only [Prog.lift, Prog.bind_op, Prog.bind_ret, wp_deviceId]
  exact h

theorem body_sound (c : Dev nD) : bodyPre m ρ c ⊢ WP c (prog c) fun _ => bodyPost m ρ c := by
  refine wp_late ?_
  unfold bodyPre Φ₀ ready
  iintro ⟨⟨⟨⟨%K, #Hr⟩, #Hlev, Hs⟩, ⟨%f, Ha⟩, ⟨%g, Hl⟩⟩, Ho, ⟨%d0, %g0, %hg0, Hx⟩, ⟨%d1, %g1, %hg1, Hout⟩⟩
  have hx : g0 = xstg m ρ c := by rw [hg0]; unfold Dat.before; rw [if_pos (fetch_x t₀)]; rfl
  subst hx
  unfold Dat.owesAt Pipeline.owesWithin
  icases Ho with ⟨%W, %hW, HO⟩
  iapply (wp_wand frame _ _) $$ [Hs Ha Hl Hx Hout HO]
  · iapply (prog_wp (X0 m ρ) K c (xstg m ρ c) rfl g1 f g)
    isplitr [HO]
    · isplitl [Hs]; · iexact Hs
      isplitl [Hx]; · iexact Hx
      isplitl [Hout]; · iexact Hout
      isplitl [Ha]; · iexact Ha
      iexact Hl
    · unfold inv
      isplitr
      · isplitr <;> iassumption
      iexists W; iexact HO
  iintro %_ ⟨Hz, Hx, Hout, Ha, Hl, HI⟩
  imod Hz with Hz
  imodintro
  unfold inv bodyPost Φ₁ Dat.owesAt Pipeline.owesWithin
  icases HI with ⟨-, ⟨%W', HO⟩⟩
  isplitl [Hz Ha Hl]
  · isplitl [Hz]; · iexact Hz
    isplitl [Ha]; · iexact Ha
    iexact Hl
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
/-- The obligation on device `c`'s body. -/
theorem body_obligation (c : Dev nD) : BodyObligation (dats (F := F) m ρ 0 c) (defs₀ (F := F)) 𝒱₀ () Set.univ := fun t => by
  rw [fin_N t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  have e : defs₀ (F := F) .tc 0 (t₀, cfg0.slots t₀) = (do let c ← Prog.lift .deviceId; prog c) := body_eq
  rw [e]
  have h := on_device (k := prog) (body_sound m ρ c)
  unfold bodyPre bodyPost at h
  have e1 : (dats m ρ 0 c).Φ t₀.castSucc = Φ₀ m ρ c := rfl
  have e2 : (dats m ρ 0 c).Φ t₀.succ = Φ₁ (F := F) c := rfl
  have e3 : (dats m ρ 0 c).after (0 : Fin 2) t₀ = xstg m ρ c := rfl
  have e4 : (dats m ρ 0 c).after (1 : Fin 2) t₀ = outAt m ρ c := rfl
  rw [e1, e2, e3, e4]
  convert h

/-! ## The launch's ghost state -/

theorem ownSemFacts : Pipeline.OwnSemFacts cfg0.spec osem where
  isScoped := by
    rintro ⟨b, h, st, d, s⟩; revert b h st d s; decide +kernel
  inj := osem_injective
  disj := by
    rintro ⟨b, h, st, d, s⟩; revert b h st d s; decide +kernel

theorem share_eq (c : Dev nD) (w : Fin cfg0.W) : (dats m ρ 0 c).share w = fullShare := by unfold Dat.share; split <;> rfl

def cells : Finset (GSem nD τ sig) := Finset.univ.map ⟨fun ck : Dev nD × Key => cell ck.1 ck.2, cell_injective⟩

/-- A device's own cells' duty tokens: the barrier cell's seven, and one of each other cell. -/
def tokOf : Dev nD × (Duty ⊕ OwnKey) → GSem nD τ sig × ℕ × Duty
  | (c, .inl p) => (barCell c, 0, p)
  | (c, .inr k) => (cell c (some k), 0, 0)
theorem tokOf_injective : Function.Injective tokOf := by
  rintro ⟨c, p | k⟩ ⟨c', p' | k'⟩ h
  · have h1 := (cell_eq_iff.mp (congrArg Prod.fst h)).1
    have h2 : p = p' := congrArg (fun x : GSem nD τ sig × ℕ × Duty => x.2.2) h
    rw [h1, h2]
  · exact absurd (cell_eq_iff.mp (congrArg Prod.fst h)).2 (by simp)
  · exact absurd (cell_eq_iff.mp (congrArg Prod.fst h)).2 (by simp)
  · have h1 := cell_eq_iff.mp (congrArg Prod.fst h)
    rw [h1.1, Option.some.inj h1.2]
def tokens : Finset (GSem nD τ sig × ℕ × Duty) := Finset.univ.map ⟨tokOf, tokOf_injective⟩

def u₀ : UU := (initOf (Pipeline.cells cfgs cellOf_inj) (Pipeline.launchToks cfgs cellOf_inj), initOf cells tokens)

/-- What the launch deals device `c` first: its cells' states, its positions and marks, its cells' tokens; -/
def G (c : Dev nD) : sProp 𝕄 :=
  iprop((all fun k => roundState ER (sched (X0 m ρ)) (cell c k) 0)
    ∗ (all fun k => iprop(atPos ER (cell c k) 0 ∅ 0 ∗ reached ER (cell c k) 0)) ∗ mint c)
/-- and, once the devices' semaphores are all in, the records, its positions and the tokens it pays with. -/
def G' (c : Dev nD) : sProp 𝕄 :=
  iprop((∃ K, records (X0 m ρ) K) ∗ (all fun k => atPos ER (cell c k) 0 ∅ 0) ∗ payToks c)

theorem fund : BI.own (ER (initOf cells tokens)) ⊢ (|==> all (G m ρ) : sProp 𝕄) := by
  have hX (Φ : GSem nD τ sig → sProp 𝕄) : bigSep cells Φ = all fun c : Dev nD => all fun k => Φ (cell c k) := by
    unfold cells; rw [bigSep_map]; exact bigSep_univ_prod _
  have hT : bigSep tokens (fun x => (dutyTok ER x.1 x.2.1 x.2.2 : sProp 𝕄)) = all fun c : Dev nD => mint c := by
    unfold tokens; rw [bigSep_map]
    refine (bigSep_univ_prod _).trans (bigSep_congr fun c _ => (bigSep_univ_sum _).trans ?_)
    unfold mint
    exact congrArg _ (all_bool fun k => (dutyTok ER (cell c (some k)) 0 (0 : Duty) : sProp 𝕄))
  iintro HX
  imod (Rounds.fund ER (sched (X0 m ρ)) cells tokens) $$ HX with ⟨Hst, Hr, Hat, Htok⟩
  imodintro
  ihave Hst := (Entails.of_eq (hX fun g => roundState ER (sched (X0 m ρ)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [all_sep]
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem ownSems0_eq (c : Dev nD) : (Pipeline.ownSems0 (Ix := Unit) (Name := ℕ) (U := UU) (Lvl := ℕ) (Val := Elt F) (τ := τ) osem c : sProp 𝕄)
    = all fun k : OwnKey => semVal (cell c (some k)) 0 := rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((all fun k => iprop(∃ κ : ℕ, cellInv ER (sched (X0 m ρ)) κ (cell c k)))
          ∗ (all fun k => iprop(atPos ER (cell c k) 0 ∅ 0 ∗ reached ER (cell c k) 0)) ∗ mint c) := by
  have h : iprop((all fun k => semVal (cell c k) 0) ∗ all fun k => roundState ER (sched (X0 m ρ)) (cell c k) 0)
      ⊢ (|={Set.univ}=> all fun k => iprop(∃ κ : ℕ, cellInv ER (sched (X0 m ρ)) κ (cell c k)) : sProp 𝕄) := by
    rw [← all_sep]
    exact (all_mono fun k => (Rounds.body_intro ER (sched (X0 m ρ)) (cell c k)).trans inv_alloc).trans (bigSep_fupd _ _)
  unfold G
  rw [unscopedSems0_eq, ownSems0_eq]
  iintro ⟨Hos, Hus, Hst, Hat, Htok⟩
  imod h $$ [Hos Hus Hst] with Hinv
  · isplitl [Hos Hus]
    · iapply (Entails.of_eq (all_key fun k => (semVal (cell c k) 0 : sProp 𝕄)).symm)
      isplitl [Hus] <;> iassumption
    iexact Hst
  imodintro
  isplitl [Hinv]; · iexact Hinv
  isplitl [Hat]; · iexact Hat
  iexact Htok

theorem all_with {ι : Type} [Fintype ι] [DecidableEq ι] {R : sProp 𝕄} [BI.Persistent R] {Φ Ψ : ι → sProp 𝕄}
    (h : ∀ i, iprop(R ∗ Φ i) ⊢ Ψ i) : iprop(R ∗ all Φ) ⊢ all Ψ :=
  (sep_mono_left (BI.bigSep_of_persistent (Finset.univ : Finset ι) R)).trans ((Entails.of_eq (all_sep _ _).symm).trans (all_mono h))

theorem regroup :
    (all fun c : Dev nD => iprop((all fun k => iprop(∃ κ : ℕ, cellInv ER (sched (X0 m ρ)) κ (cell c k)))
          ∗ (all fun k => iprop(atPos ER (cell c k) 0 ∅ 0 ∗ reached ER (cell c k) 0)) ∗ mint c) : sProp 𝕄)
      ⊢ all (G' m ρ) := by
  simp only [all_sep]
  rw [toks_around]
  iintro ⟨HI, ⟨Hat, HR⟩, Htok⟩
  ihave HI := (Entails.of_eq (bigSep_univ_prod fun ck : Dev nD × Key => (iprop(∃ κ : ℕ, cellInv ER (sched (X0 m ρ)) κ (cell ck.1 ck.2)) : sProp 𝕄)).symm) $$ HI
  ihave HR := (Entails.of_eq (bigSep_univ_prod fun ck : Dev nD × Key => (reached ER (cell ck.1 ck.2) 0 : sProp 𝕄)).symm) $$ HR
  icases HR with #HR
  ihave HK := (BI.bigSep_exists_pi Finset.univ (fun (ck : Dev nD × Key) (κ : ℕ) => (cellInv ER (sched (X0 m ρ)) κ (cell ck.1 ck.2) : sProp 𝕄))) $$ HI
  icases HK with ⟨%K, #HI⟩
  iapply (all_with (R := records (X0 m ρ) fun c k => K (c, k)) (Φ := fun c => iprop((all fun k => atPos ER (cell c k) 0 ∅ 0) ∗ payToks c)) fun c => by
    unfold G'
    iintro ⟨HR, H⟩
    isplitl [HR]; · iexists _; iexact HR
    iexact H)
  isplitr
  · unfold records; isplitl; · iexact HI
    iexact HR
  · iapply (Entails.of_eq (all_sep (fun c : Dev nD => all fun k => (atPos ER (cell c k) 0 ∅ 0 : sProp 𝕄)) payToks).symm)
    isplitl [Hat] <;> iassumption

/-- All devices' semaphores at once. -/
theorem glob : (all fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> all (G' m ρ) :=
  ((all_mono fun c => core_alloc m ρ c).trans (bigSep_fupd _ _)).trans (BI.fupd_mono (regroup m ρ))

/-! ## The launch's side conditions -/

theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(ready m ρ c ∗ emp) := by
  unfold G' payToks
  iintro ⟨-, Hlev, Hcr, -, HR, Hat, Hb, Ht⟩
  ihave Hc := (creds (F := F) c) $$ Hcr
  icases Hc with ⟨H7, HN⟩
  ihave Hat := (Entails.of_eq ((all_key fun k => (atPos ER (cell c k) 0 ∅ 0 : sProp 𝕄)).trans (congrArg _ (all_bool _)))) $$ Hat
  icases Hat with ⟨Ha, Har, Has⟩
  imodintro
  unfold ready start
  isplitl
  · isplitl [HR]; · iexact HR
    isplitl [Hlev]; · iexact Hlev
    isplitl [Hb]; · iexact Hb
    isplitl [Ha]; · iexact Ha
    isplitl [H7]; · iexact H7
    isplitl [Ht]; · iexact Ht
    isplitl [HN]; · iexact HN
    isplitl [Har]; · iexact Har
    iexact Has
  · iempintro

theorem enter (c : Dev nD) :
    iprop(ready m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ stop
  iintro ⟨⟨Hb, Hz⟩, Hr⟩
  isplitl [Hb]; · iexact Hb
  isplitl [Hz]
  · iapply (Entails.of_eq (all_bool fun k => (semVal (cell c (some k)) 0 : sProp 𝕄)).symm)
    iexact Hz
  iexact Hr

theorem above_debts (c : Dev nD) : Above 0 (debts c) := by
  refine above_append (fun e he => ?_) ((above_debt0 c).mono (by decide))
  obtain ⟨p, -, rfl⟩ := List.mem_map.mp he
  exact ⟨rfl, by rw [lv_cell]; decide⟩

/-- A staging semaphore is no cell's: it lies at level 0. -/
theorem lv_stage (c : Dev nD) (w : Fin cfg0.W) (s) : lv ((c : Thread nD τ), .dma ((cfg0.win w).sem s)) () ≤ 0 := by
  have h : ¬ ∃ k, csem k = .dma ((cfg0.win w).sem s) := by
    rintro ⟨_ | k, hk⟩
    · cases hk
    · exact ownSemFacts.disj k w s hk
  show atSem lvK 0 _ ≤ 0
  unfold atSem; rw [Function.extend_apply' _ _ _ h]

theorem stage_waits (c : Dev nD) : (levAts L lv : sProp 𝕄) ⊢ Pipeline.cellsWaits (Pipeline.pin (fun p => (cfgs p).toPCfg (Val := Elt F)) fun p => (cfgs p).toPCfg_adm) (dats m ρ) () 0 c :=
  Pipeline.cellsWaits_intro _ (dats m ρ) () 0 c fun w s t => by
    rcases t with ⟨_ | _, ht⟩
    · exact mayWait c _ 0 (lv_stage c w s) (debts c) (above_debts c)
    · exact mayWait c _ 0 (lv_stage c w s) [] (above_nil 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 20000 in
/-- For any float values and from any memory with zero counters, every weakly fair execution of `main` terminates, and
    every final state has the arrays at their final contents and every counter at zero. -/
theorem run_main : θ_run defs (onTc (τ := τ) (main (F := F))) (s₀ m ρ) (fun r => QC m ρ r ∧ r.2.sem = fun _ => 0) := by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := ?hmain) (hbody := ?hbody) (hne := ?hne) (harr := arr_whole0) (hstage := stage_whole0) (hshare := ?hshare)
    (hdistinct := winFacts0.arr_inj)
    (O₀ := O₀) (howed₀ := ?howed0) (howedN := ?howedN)
    (L := L) (lv := lv) (hL := L_of_ne) (hwaits := ?hwaits)
    (G := G m ρ) (G' := G' m ρ) (u₀ := u₀) (hu₀ := ?hu0) (hglob := ?hglob)
    (hA := ?hA) (hpf := fun _ k => k.elim0)
    (X := ready m ρ) (Y := fun c => unscopedSems0 c) (Z := fun _ => iprop(emp))
    (hX := ?hX) (hin := ?hin) (hout := ?hout)
    (QY := fun c s => ∀ sm : SemLoc sig, sm.isScoped .tc = false → s.sem ((c.tc : Thread nD τ), sm) = 0)
    (hY := ?hY) (hQ := ?hQ)
  case hmain => exact fun _ => rfl
  case hbody => exact fun c => (body_obligation m ρ c).loose
  case hne => exact fun w => by fin_cases w <;> exact Nat.succ_pos _
  case hshare => exact share_eq m ρ
  case howed0 => exact fun _ => rfl
  case howedN => exact fun _ => rfl
  case hwaits =>
    exact stage_waits m ρ
  case hu0 =>
    unfold u₀
    iintro Hu
    ihave H := (ownU_pair _ _) $$ Hu
    icases H with ⟨HP, HX⟩
    imod (fund m ρ) $$ HX with HG
    imodintro
    isplitl [HP] <;> iassumption
  case hglob => exact glob m ρ
  case hA => exact fun _ _ => rfl
  case hX => exact ready_intro m ρ
  case hin => exact enter m ρ
  case hout => exact leave m ρ
  case hY =>
    intro c s'
    iintro ⟨Hu, -, HSI⟩
    iapply (Pipeline.unscopedSems0_read (X := unscopedSems0 c) (c := c) fupd_intro s')
    isplitl [Hu] <;> iassumption
  case hQ => exact fun _ h hs => ⟨fun c w => (h c).1 w, sem_eq_zero hs fun c => (h c).2.2⟩

/-- The argument's array holds what it held. -/
theorem finalA_x (c : Dev nD) : finalA m ρ c (0 : Fin 2) = m ((c : Thread nD τ).loc main_arg0) :=
  (dats (F := F) m ρ 0 c).arrAt_in (0 : Fin 2) rfl _

end Cert.AllReduce

end
-- ==== Proof.Sum.lean ====
/-
# The sum over the mesh

With exact addition, the order in which the devices add does not matter. The two rounds of gathering along an axis of
four devices and the last exchange along the axis of two reach each of the 32 devices exactly once, so every device ends
with the sum of all the devices' blocks.
-/
module

public import proofs.«01_k».proof.Proof.Geometry
public import Idealize.ShloMosaic.PureOps.Ideal.Laws

@[expose] public section

noncomputable section

namespace Cert.AllReduce

open Cert.KernelIdeal Cert.KernelIdeal.Gen
open Idealize.ShloMosaic Idealize.ShloMosaic.TcCoe
open scoped BigOperators

/-- Whose values a device adds in a round: its own and those of the round's three sources. -/
def source (src : Dist → Dev nD → Dev nD) (c : Dev nD) : Option Dist → Dev nD
  | none => c
  | some d => src d c

/-- The device a last exchange, a second round and a first round lead to from `c`. -/
def reach (h : Half) (c : Dev nD) (t : Bool × Option Dist × Option Dist) : Dev nD :=
  source (src1 h) (source (src2 h) (if t.1 then peerX c else c) t.2.1) t.2.2

set_option maxRecDepth 4000 in
theorem reach_injective (h : Half) (c : Dev nD) : Function.Injective (reach h c) := by revert h c; decide +kernel
theorem reach_bijective (h : Half) (c : Dev nD) : Function.Bijective (reach h c) :=
  (Fintype.bijective_iff_injective_and_card _).mpr ⟨reach_injective h c, by decide +kernel⟩

theorem gather_ideal (src : Half → Dist → Dev nD → Dev nD) (X : Dev nD → VA Ideal) (c : Dev nD) (i : AIdx) :
    gather src X c i = ∑ o, X (source (src (half i)) c o) i := by
  rw [Fintype.sum_option, Fin.sum_univ_three]; rfl

/-- What a device holds after the three exchanges: the sum of all the devices' values. -/
theorem acc3_ideal (X : Dev nD → VA Ideal) (c : Dev nD) (i : AIdx) : acc3 X c i = ∑ d, X d i := by
  rw [← (reach_bijective (half i) c).sum_comp, Fintype.sum_prod_type, Fintype.sum_bool, add_comm]
  have round (e : Dev nD) : acc2 X e i = ∑ t : Option Dist × Option Dist, X (source (src1 (half i)) (source (src2 (half i)) e t.1) t.2) i := by
    unfold acc2 acc1
    rw [gather_ideal, Fintype.sum_prod_type]
    exact Finset.sum_congr rfl fun o _ => gather_ideal ..
  exact congrArg₂ (fun a b : EReal => a + b) (round c) (round (peerX c))

theorem final_ideal (X : Dev nD → VA Ideal) (c : Dev nD) (i : AIdx) : final X c i = ∑ d, X d i := acc3_ideal X _ i

end Cert.AllReduce

end
-- ==== Proof.Reference.lean ====
/-
# The reference's sum

The reference adds a whole array of 2 × 4 × 4 blocks over its first three dimensions. An index of the result is reached
from one place in each block, so the reference's sum is a sum over the 32 devices of their blocks.
-/
module

public import proofs.«01_k».proof.Proof.Gen.ReferenceIdeal.Run
public import proofs.«01_k».proof.Proof.Geometry
public import Idealize.ShloMosaic.Lib.IdealHost
public import Idealize.ShloMosaic.Lib.LayoutAt

@[expose] public section

noncomputable section

namespace Cert.AllReduce

open Cert.KernelIdeal Cert.KernelIdeal.Gen
open Idealize.ShloMosaic Idealize.ShloMosaic.TcCoe
open Cert.ReferenceIdeal (S2x4x4x512x512)
open scoped BigOperators

/-- A place of the result as a place of a device's block, which has three more axes of one. -/
def inBlock (i : AIdx) : S1x1x1x512x512.Idx := fun a => match a with
  | ⟨0, _⟩ => (0 : Fin 1) | ⟨1, _⟩ => (0 : Fin 1) | ⟨2, _⟩ => (0 : Fin 1) | ⟨3, _⟩ => i 0 | ⟨4, _⟩ => i 1

/-- A place of the result in device `d`'s block of the whole array. -/
def inWhole (d : Dev nD) (i : AIdx) : S2x4x4x512x512.Idx := fun a => match a with
  | ⟨0, _⟩ => (⟨d.val / 16, by have := d.isLt; change d.val < 32 at this; omega⟩ : Fin 2)
  | ⟨1, _⟩ => (⟨d.val / 4 % 4, by omega⟩ : Fin 4)
  | ⟨2, _⟩ => (⟨d.val % 4, by omega⟩ : Fin 4)
  | ⟨3, _⟩ => i 0
  | ⟨4, _⟩ => i 1

/-- Device `d`'s accumulator starts at its block; -/
theorem payX_apply {F : FTy → Type} [FloatOps F] (v : Vec F S1x1x1x512x512 .bf16) (i : AIdx) : payX v i = v (inBlock i) := by
  unfold payX
  rw [shapeCast_self, shapeCast_self]
  refine shapeCast_apply v _ i (inBlock i) ?_
  rw [Shape.rowMajor_val_five, Shape.rowMajor_val_two]
  show ((((0 * 1 + 0) * 1 + 0) * 512 + (i 0 : Nat)) * 512 + (i 1 : Nat)) = (i 0 : Nat) * 512 + (i 1 : Nat)
  omega

/-- and that block is the whole array's at the device's place of the mesh. -/
theorem block_apply (x : S2x4x4x512x512.Idx → EReal) (d : Dev nD) (i : AIdx) :
    (Layout.blockN ⟨5, ![1, 1, 1, 512, 512]⟩ ⟨5, ![2, 4, 4, 512, 512]⟩ (Layout.meshBlock [2, 4, 4] ![[0], [1], [2], [], []] d) x) (inBlock i)
      = x (inWhole d i) := by
  have h0 : Layout.meshLin [2, 4, 4] d.val [0] = d.val / 16 := by revert d; decide +kernel
  have h1 : Layout.meshLin [2, 4, 4] d.val [1] = d.val / 4 % 4 := by revert d; decide +kernel
  have h2 : Layout.meshLin [2, 4, 4] d.val [2] = d.val % 4 := by revert d; decide +kernel
  rw [Layout.blockN_apply]
  refine congrArg x (funext fun a => Fin.ext ?_)
  rw [Layout.TilesN.idx_val]
  match a with
  | ⟨0, _⟩ => show Layout.meshLin [2, 4, 4] d.val [0] * 1 + 0 = d.val / 16; omega
  | ⟨1, _⟩ => show Layout.meshLin [2, 4, 4] d.val [1] * 1 + 0 = d.val / 4 % 4; omega
  | ⟨2, _⟩ => show Layout.meshLin [2, 4, 4] d.val [2] * 1 + 0 = d.val % 4; omega
  | ⟨3, _⟩ => show 0 * 512 + (i 0 : Nat) = (i 0 : Nat); omega
  | ⟨4, _⟩ => show 0 * 512 + (i 1 : Nat) = (i 1 : Nat); omega

/-! ## The reference -/

open Cert.ReferenceIdeal.Gen (reducesTo_S2x4x4x512x512_S512x512_d0_1_2)

/-- The reference's result, of its argument. -/
def refOut (x : FVec Ideal S2x4x4x512x512 .bf16) : FVec Ideal S512x512 .f32 :=
  extf .f32 (truncf .bf16 (Host.reduceAdd (extf .f32 x Cert.ReferenceIdeal.Gen.bitsLt_bf16_f32) (constant Cert.ReferenceIdeal.S_ .f32 0x00000000#32)
    reducesTo_S2x4x4x512x512_S512x512_d0_1_2 Cert.ReferenceIdeal.Gen.h_S_) Cert.ReferenceIdeal.Gen.bitsLt_bf16_f32) Cert.ReferenceIdeal.Gen.bitsLt_bf16_f32

theorem drop_inWhole (d : Dev nD) (i : AIdx) : reducesTo_S2x4x4x512x512_S512x512_d0_1_2.drop (inWhole d i) = i := by
  funext b
  match b with
  | ⟨0, _⟩ => rfl
  | ⟨1, _⟩ => rfl

/-- The device whose block holds a place of the whole array. -/
def holder (j : S2x4x4x512x512.Idx) : Dev nD :=
  ⟨16 * (j 0).val + 4 * (j 1).val + (j 2).val, by
    have h0 : (j 0).val < 2 := (j 0).isLt
    have h1 : (j 1).val < 4 := (j 1).isLt
    have h2 : (j 2).val < 4 := (j 2).isLt
    show _ < 32; omega⟩

theorem holder_inWhole (d : Dev nD) (i : AIdx) : holder (inWhole d i) = d :=
  Fin.ext (by show 16 * (d.val / 16) + 4 * (d.val / 4 % 4) + d.val % 4 = d.val; omega)

theorem inWhole_holder (j : S2x4x4x512x512.Idx) : inWhole (holder j) (reducesTo_S2x4x4x512x512_S512x512_d0_1_2.drop j) = j := by
  have h0 : (j 0).val < 2 := (j 0).isLt
  have h1 : (j 1).val < 4 := (j 1).isLt
  have h2 : (j 2).val < 4 := (j 2).isLt
  funext a
  match a with
  | ⟨0, _⟩ => exact Fin.ext (show (16 * (j 0).val + 4 * (j 1).val + (j 2).val) / 16 = (j 0).val by omega)
  | ⟨1, _⟩ => exact Fin.ext (show (16 * (j 0).val + 4 * (j 1).val + (j 2).val) / 4 % 4 = (j 1).val by omega)
  | ⟨2, _⟩ => exact Fin.ext (show (16 * (j 0).val + 4 * (j 1).val + (j 2).val) % 4 = (j 2).val by omega)
  | ⟨3, _⟩ => rfl
  | ⟨4, _⟩ => rfl

/-- The reference's result is the sum over the devices of their blocks of the whole array. -/
theorem refOut_apply (x : FVec Ideal S2x4x4x512x512 .bf16) (i : AIdx) : refOut x i = ∑ d : Dev nD, x (inWhole d i) := by
  show Ideal.hostReduceAdd reducesTo_S2x4x4x512x512_S512x512_d0_1_2 x (Ideal.ofBits .f32 0x00000000#32) i = _
  unfold Ideal.hostReduceAdd
  rw [Ideal.ofBits_zero_f32, zero_add]
  refine Finset.sum_nbij' holder (fun d => inWhole d i) (fun _ _ => Finset.mem_univ _)
    (fun d _ => Finset.mem_filter.mpr ⟨Finset.mem_univ _, drop_inWhole d i⟩) (fun j hj => ?_) (fun d _ => holder_inWhole d i) (fun j hj => ?_)
  all_goals obtain ⟨-, rfl⟩ := Finset.mem_filter.mp hj
  · exact inWhole_holder j
  · exact congrArg x (inWhole_holder j).symm

end Cert.AllReduce

end
-- ==== Proof.Value.lean ====
/-
# What the result holds

The pipeline's one point takes its argument's array whole and gives its result's array whole: what the body leaves in
the staged result is what the array ends holding. With exact addition that is the reference's result.
-/
module

public import proofs.«01_k».proof.Proof.Launch
public import proofs.«01_k».proof.Proof.Sum
public import proofs.«01_k».proof.Proof.Reference

@[expose] public section

noncomputable section

namespace Cert.AllReduce

open Cert.KernelIdeal Cert.KernelIdeal.Gen
open Idealize.ShloMosaic Idealize.ShloMosaic.TcCoe
open Cert.ReferenceIdeal (S2x4x4x512x512)
open scoped BigOperators

section
variable {F : FTy → Type} [FloatOps F]
variable (m : (ℓ : Loc nD τ sig) → Buf (Elt F) ℓ) (ρ : Dev nD → PrngReg)

/-- The staged block is the device's argument. -/
theorem xstg_eq (c : Dev nD) : xstg m ρ c = m ((c : Thread nD τ).loc main_arg0) :=
  have hz : (fun a => (win0_0.index (0 : Fin 1)) a * main_arg0.ty.shape.size a) = fun _ => 0 :=
    funext fun a => by fin_cases a <;> decide
  Memref.read_access_unit_zero (Elt F) main_arg0 hz (fun a => by fin_cases a <;> decide) _

/-- The result's array ends as the body leaves the staged result. -/
theorem finalA_out (c : Dev nD) : finalA m ρ c (1 : Fin 2) = outAt m ρ c := by
  have hz : (fun a => (win0_1.index (0 : Fin 1)) a * main_v1.ty.shape.size a) = fun _ => 0 :=
    funext fun a => by fin_cases a <;> decide
  refine (Memref.read_access_unit_zero (Elt F) main_v1 hz (fun a => by fin_cases a <;> decide) _).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end

/-- When every device's argument is its block of a whole array, every device's result is the reference's. -/
theorem outAt_ideal (m : (ℓ : Loc nD τ sig) → Buf (Elt Ideal) ℓ) (ρ : Dev nD → PrngReg) (x : FVec Ideal S2x4x4x512x512 .bf16)
    (hx : ∀ d : Dev nD, m ((d : Thread nD τ).loc main_arg0)
      = Layout.blockN ⟨5, ![1, 1, 1, 512, 512]⟩ ⟨5, ![2, 4, 4, 512, 512]⟩ (Layout.meshBlock [2, 4, 4] ![[0], [1], [2], [], []] d) x) (c : Dev nD) :
    outAt m ρ c = refOut x := by
  funext i
  rw [refOut_apply]
  refine (final_ideal (X0 m ρ) c i).trans (Finset.sum_congr rfl fun d _ => ?_)
  show payX (xstg m ρ d) i = _
  rw [payX_apply, xstg_eq, hx]
  exact block_apply x d i

end Cert.AllReduce

end
-- ==== Proof.lean ====
/-
# The claims

The kernel leaves every device with the sum of all devices' blocks. Its frame and its values both come from one run
(`run_main`), stated for any float values; the idealized kernel has the kernel's own text, so the kernel's frame is that
run at the bit-exact values and the idealized kernel's is that run at the exact ones.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.AllReduce

attribute [local instance] Cert.Kernel.Gen.facts

/-- The run, read at the arguments and the counters. -/
theorem frame_main {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run (Cert.KernelIdeal.defs (F := F)) _ _).mono (fun _ h => ⟨fun c => (h.1 c (0 : Fin 2)).trans (finalA_x m ρ c), h.2⟩) (run_main m ρ)

/-! The two programs' texts agree, so their tables of bodies do. -/

theorem body_eq : Cert.Kernel.cc0_body (F := Bits) = Cert.KernelIdeal.cc0_body (F := Bits) := rfl

theorem defs₀_eq : Cert.Kernel.defs₀ (F := Bits) = Cert.KernelIdeal.defs₀ (F := Bits) := by
  refine congrArg Defs.onTc (funext fun l => funext fun x => ?_)
  match l, x with
  | 0, (t, s) =>
    exact congrFun (congrFun (congrFun (congrFun (congrFun (congrFun (congrFun (congrFun (congrFun (congrFun body_eq _) _) _) _) _) _) _) _) _) _
  | ⟨_ + 1, h⟩, _ => exact absurd h (Nat.not_lt.2 (Nat.le_add_left _ _))

theorem defs_eq : Cert.Kernel.defs (F := Bits) = Cert.KernelIdeal.defs (F := Bits) := congrArg (Pipeline.defs _) defs₀_eq

theorem frame_kernel : Cert.quiescent_Kernel := fun m ρ _ => by
  rw [defs_eq]
  exact frame_main (F := Bits) m ρ

theorem frame_kernelIdeal : Cert.quiescent_KernelIdeal := fun m ρ _ => frame_main (F := Ideal) m ρ

/-- The reference runs on the host alone: it has no counters. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := by
  intro m ρ m' ρ' _ hx
  refine ⟨refOut (m' (((0 : Dev Cert.ReferenceIdeal.nD).tc : Thread _ Cert.ReferenceIdeal.τ).loc Cert.ReferenceIdeal.main_arg0)), ?_, ?_⟩
  · exact (θ_run (Cert.KernelIdeal.defs (F := Ideal)) _ _).mono
      (fun _ h c => ⟨((h.1 c (1 : Fin 2)).trans (finalA_out m ρ c)).trans (outAt_ideal m ρ _ hx c), (h.1 c (0 : Fin 2)).trans (finalA_x m ρ c)⟩)
      (run_main (F := Ideal) m ρ)
  · exact (θ_run (Cert.ReferenceIdeal.defs (F := Ideal)) _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
